-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sampled [hPre_sampled : Cert.Pre_sampled.Facts] (m : (ℓ : Loc Cert.KernelIdeal.nD Cert.KernelIdeal.τ Cert.KernelIdeal.sig) → Buf (Elt Ideal) ℓ) : Prop :=
  ∀ c : Dev Cert.KernelIdeal.nD,
    (Cert.Pre_sampled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sampled [hPre_sampled : Cert.Pre_sampled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sampled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Sampling [hPre_starts : Cert.Pre_starts.Facts] (m : (ℓ : Loc Cert.Sampling.nD Cert.Sampling.τ Cert.Sampling.sig) → Buf (Elt Bits) ℓ) : Prop :=
  ∀ c : Dev Cert.Sampling.nD,
    (Cert.Pre_starts.fn (F := Bits) (m ((c.tc : Thread Cert.Sampling.nD Cert.Sampling.τ).loc Cert.Sampling.main_arg0)) (m ((c.tc : Thread Cert.Sampling.nD Cert.Sampling.τ).loc Cert.Sampling.main_arg1)) (m ((c.tc : Thread Cert.Sampling.nD Cert.Sampling.τ).loc Cert.Sampling.main_arg2)) (m ((c.tc : Thread Cert.Sampling.nD Cert.Sampling.τ).loc Cert.Sampling.main_arg3)) (m ((c.tc : Thread Cert.Sampling.nD Cert.Sampling.τ).loc Cert.Sampling.main_arg4))) = (fun _ => 1#1)

def Pre_SamplingIdeal [hPre_starts : Cert.Pre_starts.Facts] (m : (ℓ : Loc Cert.SamplingIdeal.nD Cert.SamplingIdeal.τ Cert.SamplingIdeal.sig) → Buf (Elt Ideal) ℓ) : Prop :=
  ∀ c : Dev Cert.SamplingIdeal.nD,
    (Cert.Pre_starts.fn (F := Ideal) (m ((c.tc : Thread Cert.SamplingIdeal.nD Cert.SamplingIdeal.τ).loc Cert.SamplingIdeal.main_arg0)) (m ((c.tc : Thread Cert.SamplingIdeal.nD Cert.SamplingIdeal.τ).loc Cert.SamplingIdeal.main_arg1)) (m ((c.tc : Thread Cert.SamplingIdeal.nD Cert.SamplingIdeal.τ).loc Cert.SamplingIdeal.main_arg2)) (m ((c.tc : Thread Cert.SamplingIdeal.nD Cert.SamplingIdeal.τ).loc Cert.SamplingIdeal.main_arg3)) (m ((c.tc : Thread Cert.SamplingIdeal.nD Cert.SamplingIdeal.τ).loc Cert.SamplingIdeal.main_arg4))) = (fun _ => 1#1)

def Pre_SamplingIdeal_noise_above [hPre_noise_above : Cert.Pre_noise_above.Facts] (m : (ℓ : Loc Cert.SamplingIdeal.nD Cert.SamplingIdeal.τ Cert.SamplingIdeal.sig) → Buf (Elt Ideal) ℓ) : Prop :=
  ∀ c : Dev Cert.SamplingIdeal.nD,
    (Cert.Pre_noise_above.fn (F := Ideal) (m ((c.tc : Thread Cert.SamplingIdeal.nD Cert.SamplingIdeal.τ).loc Cert.SamplingIdeal.main_arg0)) (m ((c.tc : Thread Cert.SamplingIdeal.nD Cert.SamplingIdeal.τ).loc Cert.SamplingIdeal.main_arg1)) (m ((c.tc : Thread Cert.SamplingIdeal.nD Cert.SamplingIdeal.τ).loc Cert.SamplingIdeal.main_arg2)) (m ((c.tc : Thread Cert.SamplingIdeal.nD Cert.SamplingIdeal.τ).loc Cert.SamplingIdeal.main_arg3)) (m ((c.tc : Thread Cert.SamplingIdeal.nD Cert.SamplingIdeal.τ).loc Cert.SamplingIdeal.main_arg4))).1 = (fun _ => 1#1)
    ∧ (Cert.Pre_noise_above.fn (F := Ideal) (m ((c.tc : Thread Cert.SamplingIdeal.nD Cert.SamplingIdeal.τ).loc Cert.SamplingIdeal.main_arg0)) (m ((c.tc : Thread Cert.SamplingIdeal.nD Cert.SamplingIdeal.τ).loc Cert.SamplingIdeal.main_arg1)) (m ((c.tc : Thread Cert.SamplingIdeal.nD Cert.SamplingIdeal.τ).loc Cert.SamplingIdeal.main_arg2)) (m ((c.tc : Thread Cert.SamplingIdeal.nD Cert.SamplingIdeal.τ).loc Cert.SamplingIdeal.main_arg3)) (m ((c.tc : Thread Cert.SamplingIdeal.nD Cert.SamplingIdeal.τ).loc Cert.SamplingIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sampled [hKernelIdeal : Cert.KernelIdeal.Facts] [hPre_sampled : Cert.Pre_sampled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sampled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sampled [hReferenceIdeal : Cert.ReferenceIdeal.Facts] [hPre_sampled : Cert.Pre_sampled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sampled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Sampling [hSampling : Cert.Sampling.Facts] [hPre_starts : Cert.Pre_starts.Facts] : Prop :=
  ∀ (m : (ℓ : Loc Cert.Sampling.nD Cert.Sampling.τ Cert.Sampling.sig) → Buf (Elt Bits) ℓ) (g : Dev Cert.Sampling.nD → PrngReg), Pre_Sampling m →
    θ_run (Cert.Sampling.defs (F := Bits)) (onTc (τ := Cert.Sampling.τ) (Cert.Sampling.main (F := Bits))) ⟨m, fun _ => 0, g⟩ (fun r => (∀ c : Dev Cert.Sampling.nD,
      r.2.mem ((c.tc : Thread Cert.Sampling.nD Cert.Sampling.τ).loc Cert.Sampling.main_arg0) = m ((c.tc : Thread Cert.Sampling.nD Cert.Sampling.τ).loc Cert.Sampling.main_arg0)
      ∧ r.2.mem ((c.tc : Thread Cert.Sampling.nD Cert.Sampling.τ).loc Cert.Sampling.main_arg1) = m ((c.tc : Thread Cert.Sampling.nD Cert.Sampling.τ).loc Cert.Sampling.main_arg1)
      ∧ r.2.mem ((c.tc : Thread Cert.Sampling.nD Cert.Sampling.τ).loc Cert.Sampling.main_arg2) = m ((c.tc : Thread Cert.Sampling.nD Cert.Sampling.τ).loc Cert.Sampling.main_arg2)
      ∧ r.2.mem ((c.tc : Thread Cert.Sampling.nD Cert.Sampling.τ).loc Cert.Sampling.main_arg3) = m ((c.tc : Thread Cert.Sampling.nD Cert.Sampling.τ).loc Cert.Sampling.main_arg3)
      ∧ r.2.mem ((c.tc : Thread Cert.Sampling.nD Cert.Sampling.τ).loc Cert.Sampling.main_arg4) = m ((c.tc : Thread Cert.Sampling.nD Cert.Sampling.τ).loc Cert.Sampling.main_arg4))
      ∧ r.2.sem = fun _ => 0)

def quiescent_SamplingIdeal [hSamplingIdeal : Cert.SamplingIdeal.Facts] [hPre_starts : Cert.Pre_starts.Facts] : Prop :=
  ∀ (m : (ℓ : Loc Cert.SamplingIdeal.nD Cert.SamplingIdeal.τ Cert.SamplingIdeal.sig) → Buf (Elt Ideal) ℓ) (g : Dev Cert.SamplingIdeal.nD → PrngReg), Pre_SamplingIdeal m →
    θ_run (Cert.SamplingIdeal.defs (F := Ideal)) (onTc (τ := Cert.SamplingIdeal.τ) (Cert.SamplingIdeal.main (F := Ideal))) ⟨m, fun _ => 0, g⟩ (fun r => (∀ c : Dev Cert.SamplingIdeal.nD,
      r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0)
      ∧ r.2.mem ((c.tc : Thread Cert.SamplingIdeal.nD Cert.SamplingIdeal.τ).loc Cert.SamplingIdeal.main_arg1) = m ((c.tc : Thread Cert.SamplingIdeal.nD Cert.SamplingIdeal.τ).loc Cert.SamplingIdeal.main_arg1)
      ∧ r.2.mem ((c.tc : Thread Cert.SamplingIdeal.nD Cert.SamplingIdeal.τ).loc Cert.SamplingIdeal.main_arg2) = m ((c.tc : Thread Cert.SamplingIdeal.nD Cert.SamplingIdeal.τ).loc Cert.SamplingIdeal.main_arg2)
      ∧ r.2.mem ((c.tc : Thread Cert.SamplingIdeal.nD Cert.SamplingIdeal.τ).loc Cert.SamplingIdeal.main_arg3) = m ((c.tc : Thread Cert.SamplingIdeal.nD Cert.SamplingIdeal.τ).loc Cert.SamplingIdeal.main_arg3)
      ∧ r.2.mem ((c.tc : Thread Cert.SamplingIdeal.nD Cert.SamplingIdeal.τ).loc Cert.SamplingIdeal.main_arg4) = m ((c.tc : Thread Cert.SamplingIdeal.nD Cert.SamplingIdeal.τ).loc Cert.SamplingIdeal.main_arg4))
      ∧ r.2.sem = fun _ => 0)

def quiescent_SamplingIdeal_pre_noise_above [hSamplingIdeal : Cert.SamplingIdeal.Facts] [hPre_noise_above : Cert.Pre_noise_above.Facts] : Prop :=
  ∀ (m : (ℓ : Loc Cert.SamplingIdeal.nD Cert.SamplingIdeal.τ Cert.SamplingIdeal.sig) → Buf (Elt Ideal) ℓ) (g : Dev Cert.SamplingIdeal.nD → PrngReg), Pre_SamplingIdeal_noise_above m →
    θ_run (Cert.SamplingIdeal.defs (F := Ideal)) (onTc (τ := Cert.SamplingIdeal.τ) (Cert.SamplingIdeal.main (F := Ideal))) ⟨m, fun _ => 0, g⟩ (fun r => (∀ c : Dev Cert.SamplingIdeal.nD,
      r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0)
      ∧ r.2.mem ((c.tc : Thread Cert.SamplingIdeal.nD Cert.SamplingIdeal.τ).loc Cert.SamplingIdeal.main_arg1) = m ((c.tc : Thread Cert.SamplingIdeal.nD Cert.SamplingIdeal.τ).loc Cert.SamplingIdeal.main_arg1)
      ∧ r.2.mem ((c.tc : Thread Cert.SamplingIdeal.nD Cert.SamplingIdeal.τ).loc Cert.SamplingIdeal.main_arg2) = m ((c.tc : Thread Cert.SamplingIdeal.nD Cert.SamplingIdeal.τ).loc Cert.SamplingIdeal.main_arg2)
      ∧ r.2.mem ((c.tc : Thread Cert.SamplingIdeal.nD Cert.SamplingIdeal.τ).loc Cert.SamplingIdeal.main_arg3) = m ((c.tc : Thread Cert.SamplingIdeal.nD Cert.SamplingIdeal.τ).loc Cert.SamplingIdeal.main_arg3)
      ∧ r.2.mem ((c.tc : Thread Cert.SamplingIdeal.nD Cert.SamplingIdeal.τ).loc Cert.SamplingIdeal.main_arg4) = m ((c.tc : Thread Cert.SamplingIdeal.nD Cert.SamplingIdeal.τ).loc Cert.SamplingIdeal.main_arg4))
      ∧ r.2.sem = fun _ => 0)

def preserves_Kernel_KernelIdeal : Prop :=
  True

def algebraic_KernelIdeal_ReferenceIdeal_pre_sampled [hKernelIdeal : Cert.KernelIdeal.Facts] [hReferenceIdeal : Cert.ReferenceIdeal.Facts] [hPre_sampled : Cert.Pre_sampled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sampled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Sampling_SamplingIdeal : Prop :=
  True

def holds_SamplingIdeal_keys_sampled [hSamplingIdeal : Cert.SamplingIdeal.Facts] [hPre_starts : Cert.Pre_starts.Facts] [hPost_keys_sampled : Cert.Post_keys_sampled.Facts] : Prop :=
  ∀ (m : (ℓ : Loc Cert.SamplingIdeal.nD Cert.SamplingIdeal.τ Cert.SamplingIdeal.sig) → Buf (Elt Ideal) ℓ) (g : Dev Cert.SamplingIdeal.nD → PrngReg), Pre_SamplingIdeal m →
    θ_run (Cert.SamplingIdeal.defs (F := Ideal)) (onTc (τ := Cert.SamplingIdeal.τ) (Cert.SamplingIdeal.main (F := Ideal))) ⟨m, fun _ => 0, g⟩ (fun r => ∀ c : Dev Cert.SamplingIdeal.nD,
      r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0)
      ∧ r.2.mem ((c.tc : Thread Cert.SamplingIdeal.nD Cert.SamplingIdeal.τ).loc Cert.SamplingIdeal.main_arg1) = m ((c.tc : Thread Cert.SamplingIdeal.nD Cert.SamplingIdeal.τ).loc Cert.SamplingIdeal.main_arg1)
      ∧ r.2.mem ((c.tc : Thread Cert.SamplingIdeal.nD Cert.SamplingIdeal.τ).loc Cert.SamplingIdeal.main_arg2) = m ((c.tc : Thread Cert.SamplingIdeal.nD Cert.SamplingIdeal.τ).loc Cert.SamplingIdeal.main_arg2)
      ∧ r.2.mem ((c.tc : Thread Cert.SamplingIdeal.nD Cert.SamplingIdeal.τ).loc Cert.SamplingIdeal.main_arg3) = m ((c.tc : Thread Cert.SamplingIdeal.nD Cert.SamplingIdeal.τ).loc Cert.SamplingIdeal.main_arg3)
      ∧ r.2.mem ((c.tc : Thread Cert.SamplingIdeal.nD Cert.SamplingIdeal.τ).loc Cert.SamplingIdeal.main_arg4) = m ((c.tc : Thread Cert.SamplingIdeal.nD Cert.SamplingIdeal.τ).loc Cert.SamplingIdeal.main_arg4)
      ∧ (Cert.Post_keys_sampled.fn (F := Ideal) (m ((c.tc : Thread Cert.SamplingIdeal.nD Cert.SamplingIdeal.τ).loc Cert.SamplingIdeal.main_arg0)) (m ((c.tc : Thread Cert.SamplingIdeal.nD Cert.SamplingIdeal.τ).loc Cert.SamplingIdeal.main_arg1)) (m ((c.tc : Thread Cert.SamplingIdeal.nD Cert.SamplingIdeal.τ).loc Cert.SamplingIdeal.main_arg2)) (m ((c.tc : Thread Cert.SamplingIdeal.nD Cert.SamplingIdeal.τ).loc Cert.SamplingIdeal.main_arg3)) (m ((c.tc : Thread Cert.SamplingIdeal.nD Cert.SamplingIdeal.τ).loc Cert.SamplingIdeal.main_arg4)) (r.2.mem ((c.tc : Thread Cert.SamplingIdeal.nD Cert.SamplingIdeal.τ).loc Cert.SamplingIdeal.main_v4_0)) (r.2.mem ((c.tc : Thread Cert.SamplingIdeal.nD Cert.SamplingIdeal.τ).loc Cert.SamplingIdeal.main_v4_1))) = (fun _ => 1#1))

def holds_SamplingIdeal_rows_differ_pre_noise_above [hSamplingIdeal : Cert.SamplingIdeal.Facts] [hPre_noise_above : Cert.Pre_noise_above.Facts] [hPost_rows_differ : Cert.Post_rows_differ.Facts] : Prop :=
  ∀ (m : (ℓ : Loc Cert.SamplingIdeal.nD Cert.SamplingIdeal.τ Cert.SamplingIdeal.sig) → Buf (Elt Ideal) ℓ) (g : Dev Cert.SamplingIdeal.nD → PrngReg), Pre_SamplingIdeal_noise_above m →
    θ_run (Cert.SamplingIdeal.defs (F := Ideal)) (onTc (τ := Cert.SamplingIdeal.τ) (Cert.SamplingIdeal.main (F := Ideal))) ⟨m, fun _ => 0, g⟩ (fun r => ∀ c : Dev Cert.SamplingIdeal.nD,
      r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0)
      ∧ r.2.mem ((c.tc : Thread Cert.SamplingIdeal.nD Cert.SamplingIdeal.τ).loc Cert.SamplingIdeal.main_arg1) = m ((c.tc : Thread Cert.SamplingIdeal.nD Cert.SamplingIdeal.τ).loc Cert.SamplingIdeal.main_arg1)
      ∧ r.2.mem ((c.tc : Thread Cert.SamplingIdeal.nD Cert.SamplingIdeal.τ).loc Cert.SamplingIdeal.main_arg2) = m ((c.tc : Thread Cert.SamplingIdeal.nD Cert.SamplingIdeal.τ).loc Cert.SamplingIdeal.main_arg2)
      ∧ r.2.mem ((c.tc : Thread Cert.SamplingIdeal.nD Cert.SamplingIdeal.τ).loc Cert.SamplingIdeal.main_arg3) = m ((c.tc : Thread Cert.SamplingIdeal.nD Cert.SamplingIdeal.τ).loc Cert.SamplingIdeal.main_arg3)
      ∧ r.2.mem ((c.tc : Thread Cert.SamplingIdeal.nD Cert.SamplingIdeal.τ).loc Cert.SamplingIdeal.main_arg4) = m ((c.tc : Thread Cert.SamplingIdeal.nD Cert.SamplingIdeal.τ).loc Cert.SamplingIdeal.main_arg4)
      ∧ (Cert.Post_rows_differ.fn (F := Ideal) (m ((c.tc : Thread Cert.SamplingIdeal.nD Cert.SamplingIdeal.τ).loc Cert.SamplingIdeal.main_arg0)) (m ((c.tc : Thread Cert.SamplingIdeal.nD Cert.SamplingIdeal.τ).loc Cert.SamplingIdeal.main_arg1)) (m ((c.tc : Thread Cert.SamplingIdeal.nD Cert.SamplingIdeal.τ).loc Cert.SamplingIdeal.main_arg2)) (m ((c.tc : Thread Cert.SamplingIdeal.nD Cert.SamplingIdeal.τ).loc Cert.SamplingIdeal.main_arg3)) (m ((c.tc : Thread Cert.SamplingIdeal.nD Cert.SamplingIdeal.τ).loc Cert.SamplingIdeal.main_arg4)) (r.2.mem ((c.tc : Thread Cert.SamplingIdeal.nD Cert.SamplingIdeal.τ).loc Cert.SamplingIdeal.main_v4_0)) (r.2.mem ((c.tc : Thread Cert.SamplingIdeal.nD Cert.SamplingIdeal.τ).loc Cert.SamplingIdeal.main_v4_1))) = (fun _ => 1#1))

def Claim : Prop :=
  ∃ (hKernel : Cert.Kernel.Facts) (hKernelIdeal : Cert.KernelIdeal.Facts) (hReferenceIdeal : Cert.ReferenceIdeal.Facts) (hSampling : Cert.Sampling.Facts) (hSamplingIdeal : Cert.SamplingIdeal.Facts) (hPre_sampled : Cert.Pre_sampled.Facts) (hPre_starts : Cert.Pre_starts.Facts) (hPre_noise_above : Cert.Pre_noise_above.Facts) (hPost_keys_sampled : Cert.Post_keys_sampled.Facts) (hPost_rows_differ : Cert.Post_rows_differ.Facts),
    quiescent_Kernel (hKernel := hKernel)
    ∧ quiescent_KernelIdeal (hKernelIdeal := hKernelIdeal)
    ∧ quiescent_KernelIdeal_pre_sampled (hKernelIdeal := hKernelIdeal) (hPre_sampled := hPre_sampled)
    ∧ quiescent_ReferenceIdeal (hReferenceIdeal := hReferenceIdeal)
    ∧ quiescent_ReferenceIdeal_pre_sampled (hReferenceIdeal := hReferenceIdeal) (hPre_sampled := hPre_sampled)
    ∧ quiescent_Sampling (hSampling := hSampling) (hPre_starts := hPre_starts)
    ∧ quiescent_SamplingIdeal (hSamplingIdeal := hSamplingIdeal) (hPre_starts := hPre_starts)
    ∧ quiescent_SamplingIdeal_pre_noise_above (hSamplingIdeal := hSamplingIdeal) (hPre_noise_above := hPre_noise_above)
    ∧ preserves_Kernel_KernelIdeal
    ∧ algebraic_KernelIdeal_ReferenceIdeal_pre_sampled (hKernelIdeal := hKernelIdeal) (hReferenceIdeal := hReferenceIdeal) (hPre_sampled := hPre_sampled)
    ∧ preserves_Sampling_SamplingIdeal
    ∧ holds_SamplingIdeal_keys_sampled (hSamplingIdeal := hSamplingIdeal) (hPre_starts := hPre_starts) (hPost_keys_sampled := hPost_keys_sampled)
    ∧ holds_SamplingIdeal_rows_differ_pre_noise_above (hSamplingIdeal := hSamplingIdeal) (hPre_noise_above := hPre_noise_above) (hPost_rows_differ := hPost_rows_differ)
-- ==== Post_keys_sampled.lean ====
abbrev S2x8192x768 : Shape := ⟨3, ![2, 8192, 768]⟩
abbrev S2304x768 : Shape := ⟨2, ![2304, 768]⟩
abbrev S2304 : Shape := ⟨1, ![2304]⟩
abbrev S2x12x4 : Shape := ⟨3, ![2, 12, 4]⟩
abbrev S2x12x8x1024 : Shape := ⟨4, ![2, 12, 8, 1024]⟩
abbrev S2x12x32 : Shape := ⟨3, ![2, 12, 32]⟩
abbrev S2x768x384 : Shape := ⟨3, ![2, 768, 384]⟩
abbrev S768x768 : Shape := ⟨2, ![768, 768]⟩
abbrev S768 : Shape := ⟨1, ![768]⟩
abbrev S1x1x768 : Shape := ⟨3, ![1, 1, 768]⟩
abbrev S2x8192x12x64 : Shape := ⟨4, ![2, 8192, 12, 64]⟩
abbrev S2x12x8192x64 : Shape := ⟨4, ![2, 12, 8192, 64]⟩
abbrev S2x12x32x1 : Shape := ⟨4, ![2, 12, 32, 1]⟩
abbrev S2x12x32x64 : Shape := ⟨4, ![2, 12, 32, 64]⟩
abbrev S_ : Shape := ⟨0, ![]⟩
abbrev S2x12x32x64x1 : Shape := ⟨5, ![2, 12, 32, 64, 1]⟩
abbrev S1 : Shape := ⟨1, ![1]⟩
abbrev S1x1x1x1x1 : Shape := ⟨5, ![1, 1, 1, 1, 1]⟩
abbrev S2x12x64x32 : Shape := ⟨4, ![2, 12, 64, 32]⟩
abbrev S2x12x64x12x32 : Shape := ⟨5, ![2, 12, 64, 12, 32]⟩
abbrev S2x12x64x1x32 : Shape := ⟨5, ![2, 12, 64, 1, 32]⟩
abbrev S2x12x1x1x32 : Shape := ⟨5, ![2, 12, 1, 1, 32]⟩

class Facts : Prop where
  slices_S2304x768_S768x768_768_0 : S2304x768.Slices ![768, 0] S768x768
  transposes_S768x768_S768x768_1_0 : S768x768.Transposes [1, 0] S768x768
  slices_S2304_S768_768 : S2304.Slices ![768] S768
  bcast_S768_S1x1x768_2 : S768.BroadcastsInDim S1x1x768 (![2] : Fin 1 → Fin S1x1x768.rank)
  bcast_S1x1x768_S2x8192x768_0_1_2 : S1x1x768.BroadcastsInDim S2x8192x768 (![0, 1, 2] : Fin 3 → Fin S2x8192x768.rank)
  shapeCasts_S2x8192x768_S2x8192x12x64 : S2x8192x768.ShapeCasts S2x8192x12x64
  transposes_S2x8192x12x64_S2x12x8192x64_0_2_1_3 : S2x8192x12x64.Transposes [0, 2, 1, 3] S2x12x8192x64
  bcast_S2x12x32_S2x12x32x1_0_1_2 : S2x12x32.BroadcastsInDim S2x12x32x1 (![0, 1, 2] : Fin 3 → Fin S2x12x32x1.rank)
  bcast_S2x12x32x1_S2x12x32x64_0_1_2_3 : S2x12x32x1.BroadcastsInDim S2x12x32x64 (![0, 1, 2, 3] : Fin 4 → Fin S2x12x32x64.rank)
  bcast_S_S2x12x32x64 : S_.BroadcastsInDim S2x12x32x64 (![] : Fin 0 → Fin S2x12x32x64.rank)
  shapeCasts_S2x12x32x64_S2x12x32x64x1 : S2x12x32x64.ShapeCasts S2x12x32x64x1
  bcast_S_S2x12x32x64x1 : S_.BroadcastsInDim S2x12x32x64x1 (![] : Fin 0 → Fin S2x12x32x64x1.rank)
  bcast_S1_S1x1x1x1x1_4 : S1.BroadcastsInDim S1x1x1x1x1 (![4] : Fin 1 → Fin S1x1x1x1x1.rank)
  bcast_S1x1x1x1x1_S2x12x32x64x1_0_1_2_3_4 : S1x1x1x1x1.BroadcastsInDim S2x12x32x64x1 (![0, 1, 2, 3, 4] : Fin 5 → Fin S2x12x32x64x1.rank)
  reducesTo_S2x12x32x64x1_S2x12x32x64_d4 : S2x12x32x64x1.ReducesTo [4] S2x12x32x64
  h_S_ : 0 < S_.numel
  transposes_S2x12x32x64_S2x12x64x32_0_1_3_2 : S2x12x32x64.Transposes [0, 1, 3, 2] S2x12x64x32
  bcast_S2x12x64x32_S2x12x64x1x32_0_1_2_4 : S2x12x64x32.BroadcastsInDim S2x12x64x1x32 (![0, 1, 2, 4] : Fin 4 → Fin S2x12x64x1x32.rank)
  bcast_S2x12x64x1x32_S2x12x64x12x32_0_1_2_3_4 : S2x12x64x1x32.BroadcastsInDim S2x12x64x12x32 (![0, 1, 2, 3, 4] : Fin 5 → Fin S2x12x64x12x32.rank)
  bcast_S_S2x12x64x12x32 : S_.BroadcastsInDim S2x12x64x12x32 (![] : Fin 0 → Fin S2x12x64x12x32.rank)
  bcast_S2x12x32_S2x12x1x1x32_0_1_4 : S2x12x32.BroadcastsInDim S2x12x1x1x32 (![0, 1, 4] : Fin 3 → Fin S2x12x1x1x32.rank)
  bcast_S2x12x1x1x32_S2x12x64x12x32_0_1_2_3_4 : S2x12x1x1x32.BroadcastsInDim S2x12x64x12x32 (![0, 1, 2, 3, 4] : Fin 5 → Fin S2x12x64x12x32.rank)
  shapeCasts_S2x768x384_S2x12x64x12x32 : S2x768x384.ShapeCasts S2x12x64x12x32
  dot_S2x8192x768_S768x768_S2x8192x768_2_0_01_1_n_n_wf : DotDims.WF S2x8192x768 S768x768 S2x8192x768 [2] [0] [0, 1] [1] [] []
  gather_S2x12x8192x64_S2x12x32x64x1_S2x12x32x64_n_2_013_013_2_4_1111_wf : GatherDims.WF S2x12x8192x64 S2x12x32x64x1 S2x12x32x64 [] [2] [0, 1, 3] [2] [0, 1, 3] 4 ![1, 1, 1, 1]

variable [Facts]

def dot_S2x8192x768_S768x768_S2x8192x768_2_0_01_1_n_n : DotDims S2x8192x768 S768x768 S2x8192x768 where
  lhsContracting := [2]
  rhsContracting := [0]
  lhsNonContracting := [0, 1]
  rhsNonContracting := [1]
  lhsBatch := []
  rhsBatch := []
  wf := dot_S2x8192x768_S768x768_S2x8192x768_2_0_01_1_n_n_wf
def gather_S2x12x8192x64_S2x12x32x64x1_S2x12x32x64_n_2_013_013_2_4_1111 : GatherDims S2x12x8192x64 S2x12x32x64x1 S2x12x32x64 where
  offsetDims := []
  collapsedSliceDims := [2]
  operandBatchingDims := [0, 1, 3]
  startIndicesBatchingDims := [0, 1, 3]
  startIndexMap := [2]
  indexVectorDim := 4
  sliceSizes := ![1, 1, 1, 1]
  wf := gather_S2x12x8192x64_S2x12x32x64x1_S2x12x32x64_n_2_013_013_2_4_1111_wf
def fn_take_along_axis {F : FTy → Type} [FloatOps F] (arg0 : FVec F S2x12x8192x64 .f32) (arg1 : IVec S2x12x32x64 32) : FVec F S2x12x32x64 .f32 :=
  let c : IVec S_ 32 := constantI S_ 32 0#32
  let v0 : IVec S2x12x32x64 32 := broadcastInDim S2x12x32x64 ![] bcast_S_S2x12x32x64 c
  let v1 : IVec S2x12x32x64 1 := cmpi .slt arg1 v0
  let c_0 : IVec S_ 32 := constantI S_ 32 8192#32
  let v2 : IVec S2x12x32x64 32 := broadcastInDim S2x12x32x64 ![] bcast_S_S2x12x32x64 c_0
  let v3 : IVec S2x12x32x64 32 := addi arg1 v2
  let v4 : IVec S2x12x32x64 32 := select v1 v3 arg1
  let v5 : IVec S2x12x32x64x1 32 := shapeCast S2x12x32x64x1 v4 shapeCasts_S2x12x32x64_S2x12x32x64x1
  let c_1 : IVec S1 32 := constantI S1 32 8191#32
  let c_2 : IVec S_ 32 := constantI S_ 32 0#32
  let v6 : IVec S2x12x32x64x1 32 := broadcastInDim S2x12x32x64x1 ![] bcast_S_S2x12x32x64x1 c_2
  let v7 : IVec S2x12x32x64x1 1 := cmpi .sge v5 v6
  let v8 : IVec S1x1x1x1x1 32 := broadcastInDim S1x1x1x1x1 ![4] bcast_S1_S1x1x1x1x1_4 c_1
  let v9 : IVec S2x12x32x64x1 32 := broadcastInDim S2x12x32x64x1 ![0, 1, 2, 3, 4] bcast_S1x1x1x1x1_S2x12x32x64x1_0_1_2_3_4 v8
  let v10 : IVec S2x12x32x64x1 1 := cmpi .sle v5 v9
  let v11 : IVec S2x12x32x64x1 1 := andi v7 v10
  let c_3 : IVec S_ 1 := constantI S_ 1 1#1
  let v12 : IVec S2x12x32x64 1 := (fun x v => Host.reduce IntOp.andi x v reducesTo_S2x12x32x64x1_S2x12x32x64_d4 h_S_) v11 c_3
  let v13 : FVec F S2x12x32x64 .f32 := (fun x i => Host.gather gather_S2x12x8192x64_S2x12x32x64x1_S2x12x32x64_n_2_013_013_2_4_1111 x i) arg0 v5
  let cst : FVec F S_ .f32 := constant S_ .f32 0x7FC00000#32
  let v14 : FVec F S2x12x32x64 .f32 := broadcastInDim S2x12x32x64 ![] bcast_S_S2x12x32x64 cst
  let v15 : FVec F S2x12x32x64 .f32 := select v12 v13 v14
  v15

def fn_where {F : FTy → Type} [FloatOps F] (arg0 : IVec S2x12x64x12x32 1) (arg1 : FVec F S2x12x64x1x32 .f32) (arg2 : FVec F S_ .f32) : FVec F S2x12x64x12x32 .f32 :=
  let v0 : FVec F S_ .f32 := id arg2
  let v1 : FVec F S2x12x64x12x32 .f32 := broadcastInDim S2x12x64x12x32 ![0, 1, 2, 3, 4] bcast_S2x12x64x1x32_S2x12x64x12x32_0_1_2_3_4 arg1
  let v2 : FVec F S2x12x64x12x32 .f32 := broadcastInDim S2x12x64x12x32 ![] bcast_S_S2x12x64x12x32 v0
  let v3 : FVec F S2x12x64x12x32 .f32 := select arg0 v1 v2
  v3

def fn_part1 {F : FTy → Type} [FloatOps F] (main_arg6 : FVec F S2x768x384 .f32) (main_v17 : FVec F S2x12x64x12x32 .f32) (main_v19 : IVec S2x12x64x12x32 32) (main_v21 : IVec S2x12x64x12x32 1) : IVec S2x12x64x12x32 1 :=
  let main_c_0 : IVec S_ 32 := constantI S_ 32 8192#32
  let main_v22 : IVec S2x12x64x12x32 32 := broadcastInDim S2x12x64x12x32 ![] bcast_S_S2x12x64x12x32 main_c_0
  let main_v23 : IVec S2x12x64x12x32 1 := cmpi .slt main_v19 main_v22
  let main_v24 : IVec S2x12x64x12x32 1 := andi main_v21 main_v23
  let main_v25 : FVec F S2x12x64x12x32 .f32 := shapeCast S2x12x64x12x32 main_arg6 shapeCasts_S2x768x384_S2x12x64x12x32
  let main_v26 : IVec S2x12x64x12x32 1 := cmpf .oeq main_v25 main_v17
  let main_v27 : IVec S2x12x64x12x32 1 := andi main_v24 main_v26
  main_v27

def fn {F : FTy → Type} [FloatOps F] (main_arg0 : FVec F S2x8192x768 .f32) (main_arg1 : FVec F S2304x768 .f32) (main_arg2 : FVec F S2304 .f32) (main_arg3 : IVec S2x12x4 32) (main_arg4 : FVec F S2x12x8x1024 .f32) (main_arg5 : IVec S2x12x32 32) (main_arg6 : FVec F S2x768x384 .f32) : IVec S2x12x64x12x32 1 :=
  let main_v0 : FVec F S768x768 .f32 := (extractStridedSlice S768x768 ![768, 0] · slices_S2304x768_S768x768_768_0) main_arg1
  let main_v1 : FVec F S768x768 .f32 := (transpose S768x768 [1, 0] · transposes_S768x768_S768x768_1_0) main_v0
  let main_v2 : FVec F S2x8192x768 .f32 := (fun l r => Host.dotGeneral dot_S2x8192x768_S768x768_S2x8192x768_2_0_01_1_n_n none l r) main_arg0 main_v1
  let main_v3 : FVec F S768 .f32 := (extractStridedSlice S768 ![768] · slices_S2304_S768_768) main_arg2
  let main_v4 : FVec F S1x1x768 .f32 := broadcastInDim S1x1x768 ![2] bcast_S768_S1x1x768_2 main_v3
  let main_v5 : FVec F S2x8192x768 .f32 := broadcastInDim S2x8192x768 ![0, 1, 2] bcast_S1x1x768_S2x8192x768_0_1_2 main_v4
  let main_v6 : FVec F S2x8192x768 .f32 := addf main_v2 main_v5
  let main_v7 : FVec F S2x8192x12x64 .f32 := shapeCast S2x8192x12x64 main_v6 shapeCasts_S2x8192x768_S2x8192x12x64
  let main_v8 : FVec F S2x12x8192x64 .f32 := (transpose S2x12x8192x64 [0, 2, 1, 3] · transposes_S2x8192x12x64_S2x12x8192x64_0_2_1_3) main_v7
  let main_v9 : IVec S2x12x32x1 32 := broadcastInDim S2x12x32x1 ![0, 1, 2] bcast_S2x12x32_S2x12x32x1_0_1_2 main_arg5
  let main_v10 : IVec S2x12x32x64 32 := broadcastInDim S2x12x32x64 ![0, 1, 2, 3] bcast_S2x12x32x1_S2x12x32x64_0_1_2_3 main_v9
  let main_v11 : FVec F S2x12x32x64 .f32 := fn_take_along_axis (F := F) main_v8 main_v10
  let main_v12 : FVec F S2x12x64x32 .f32 := (transpose S2x12x64x32 [0, 1, 3, 2] · transposes_S2x12x32x64_S2x12x64x32_0_1_3_2) main_v11
  let main_v13 : IVec S2x12x64x12x32 32 := iotaInDim S2x12x64x12x32 32 1
  let main_v14 : IVec S2x12x64x12x32 32 := iotaInDim S2x12x64x12x32 32 3
  let main_v15 : IVec S2x12x64x12x32 1 := cmpi .eq main_v13 main_v14
  let main_v16 : FVec F S2x12x64x1x32 .f32 := broadcastInDim S2x12x64x1x32 ![0, 1, 2, 4] bcast_S2x12x64x32_S2x12x64x1x32_0_1_2_4 main_v12
  let main_cst : FVec F S_ .f32 := constant S_ .f32 0x00000000#32
  let main_v17 : FVec F S2x12x64x12x32 .f32 := fn_where (F := F) main_v15 main_v16 main_cst
  let main_v18 : IVec S2x12x1x1x32 32 := broadcastInDim S2x12x1x1x32 ![0, 1, 4] bcast_S2x12x32_S2x12x1x1x32_0_1_4 main_arg5
  let main_v19 : IVec S2x12x64x12x32 32 := broadcastInDim S2x12x64x12x32 ![0, 1, 2, 3, 4] bcast_S2x12x1x1x32_S2x12x64x12x32_0_1_2_3_4 main_v18
  let main_c : IVec S_ 32 := constantI S_ 32 0#32
  let main_v20 : IVec S2x12x64x12x32 32 := broadcastInDim S2x12x64x12x32 ![] bcast_S_S2x12x64x12x32 main_c
  let main_v21 : IVec S2x12x64x12x32 1 := cmpi .sge main_v19 main_v20
  fn_part1 (F := F) main_arg6 main_v17 main_v19 main_v21
-- ==== Post_rows_differ.lean ====
abbrev S2x8192x768 : Shape := ⟨3, ![2, 8192, 768]⟩
abbrev S2304x768 : Shape := ⟨2, ![2304, 768]⟩
abbrev S2304 : Shape := ⟨1, ![2304]⟩
abbrev S2x12x4 : Shape := ⟨3, ![2, 12, 4]⟩
abbrev S2x12x8x1024 : Shape := ⟨4, ![2, 12, 8, 1024]⟩
abbrev S2x12x32 : Shape := ⟨3, ![2, 12, 32]⟩
abbrev S2x768x384 : Shape := ⟨3, ![2, 768, 384]⟩
abbrev S2x12x32x32 : Shape := ⟨4, ![2, 12, 32, 32]⟩
abbrev S2x12x32x1 : Shape := ⟨4, ![2, 12, 32, 1]⟩
abbrev S2x12x1x32 : Shape := ⟨4, ![2, 12, 1, 32]⟩

class Facts : Prop where
  bcast_S2x12x32_S2x12x32x1_0_1_2 : S2x12x32.BroadcastsInDim S2x12x32x1 (![0, 1, 2] : Fin 3 → Fin S2x12x32x1.rank)
  bcast_S2x12x32_S2x12x1x32_0_1_3 : S2x12x32.BroadcastsInDim S2x12x1x32 (![0, 1, 3] : Fin 3 → Fin S2x12x1x32.rank)
  bcast_S2x12x32x1_S2x12x32x32_0_1_2_3 : S2x12x32x1.BroadcastsInDim S2x12x32x32 (![0, 1, 2, 3] : Fin 4 → Fin S2x12x32x32.rank)
  bcast_S2x12x1x32_S2x12x32x32_0_1_2_3 : S2x12x1x32.BroadcastsInDim S2x12x32x32 (![0, 1, 2, 3] : Fin 4 → Fin S2x12x32x32.rank)

variable [Facts]

def fn {F : FTy → Type} [FloatOps F] (main_arg0 : FVec F S2x8192x768 .f32) (main_arg1 : FVec F S2304x768 .f32) (main_arg2 : FVec F S2304 .f32) (main_arg3 : IVec S2x12x4 32) (main_arg4 : FVec F S2x12x8x1024 .f32) (main_arg5 : IVec S2x12x32 32) (main_arg6 : FVec F S2x768x384 .f32) : IVec S2x12x32x32 1 :=
  let main_v0 : IVec S2x12x32x32 32 := iotaInDim S2x12x32x32 32 2
  let main_v1 : IVec S2x12x32x32 32 := iotaInDim S2x12x32x32 32 3
  let main_v2 : IVec S2x12x32x32 1 := cmpi .eq main_v0 main_v1
  let main_v3 : IVec S2x12x32x1 32 := broadcastInDim S2x12x32x1 ![0, 1, 2] bcast_S2x12x32_S2x12x32x1_0_1_2 main_arg5
  let main_v4 : IVec S2x12x1x32 32 := broadcastInDim S2x12x1x32 ![0, 1, 3] bcast_S2x12x32_S2x12x1x32_0_1_3 main_arg5
  let main_v5 : IVec S2x12x32x32 32 := broadcastInDim S2x12x32x32 ![0, 1, 2, 3] bcast_S2x12x32x1_S2x12x32x32_0_1_2_3 main_v3
  let main_v6 : IVec S2x12x32x32 32 := broadcastInDim S2x12x32x32 ![0, 1, 2, 3] bcast_S2x12x1x32_S2x12x32x32_0_1_2_3 main_v4
  let main_v7 : IVec S2x12x32x32 1 := cmpi .ne main_v5 main_v6
  let main_v8 : IVec S2x12x32x32 1 := ori main_v2 main_v7
  main_v8
-- ==== Pre_noise_above.lean ====
abbrev S2x8192x768 : Shape := ⟨3, ![2, 8192, 768]⟩
abbrev S2304x768 : Shape := ⟨2, ![2304, 768]⟩
abbrev S2304 : Shape := ⟨1, ![2304]⟩
abbrev S2x12x4 : Shape := ⟨3, ![2, 12, 4]⟩
abbrev S2x12x8x1024 : Shape := ⟨4, ![2, 12, 8, 1024]⟩
abbrev S_ : Shape := ⟨0, ![]⟩

class Facts : Prop where
  bcast_S_S2x12x4 : S_.BroadcastsInDim S2x12x4 (![] : Fin 0 → Fin S2x12x4.rank)
  bcast_S_S2x12x8x1024 : S_.BroadcastsInDim S2x12x8x1024 (![] : Fin 0 → Fin S2x12x8x1024.rank)

variable [Facts]

def fn {F : FTy → Type} [FloatOps F] (main_arg0 : FVec F S2x8192x768 .f32) (main_arg1 : FVec F S2304x768 .f32) (main_arg2 : FVec F S2304 .f32) (main_arg3 : IVec S2x12x4 32) (main_arg4 : FVec F S2x12x8x1024 .f32) : IVec S2x12x4 1 × IVec S2x12x8x1024 1 :=
  let main_c : IVec S_ 32 := constantI S_ 32 0#32
  let main_v0 : IVec S2x12x4 32 := broadcastInDim S2x12x4 ![] bcast_S_S2x12x4 main_c
  let main_v1 : IVec S2x12x4 1 := cmpi .sge main_arg3 main_v0
  let main_c_0 : IVec S_ 32 := constantI S_ 32 8192#32
  let main_v2 : IVec S2x12x4 32 := broadcastInDim S2x12x4 ![] bcast_S_S2x12x4 main_c_0
  let main_v3 : IVec S2x12x4 1 := cmpi .slt main_arg3 main_v2
  let main_v4 : IVec S2x12x4 1 := andi main_v1 main_v3
  let main_cst : FVec F S_ .f32 := constant S_ .f32 0xEFA18F08#32
  let main_v5 : FVec F S2x12x8x1024 .f32 := broadcastInDim S2x12x8x1024 ![] bcast_S_S2x12x8x1024 main_cst
  let main_v6 : IVec S2x12x8x1024 1 := cmpf .oge main_arg4 main_v5
  (main_v4, main_v6)
-- ==== Pre_sampled.lean ====
abbrev S2x8192x768 : Shape := ⟨3, ![2, 8192, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S2x12x32 : Shape := ⟨3, ![2, 12, 32]⟩
abbrev S2x768x384 : Shape := ⟨3, ![2, 768, 384]⟩
abbrev S2x12x1x1x32 : Shape := ⟨5, ![2, 12, 1, 1, 32]⟩
abbrev S2x12x64x12x32 : Shape := ⟨5, ![2, 12, 64, 12, 32]⟩
abbrev S_ : Shape := ⟨0, ![]⟩

class Facts : Prop where
  bcast_S2x12x32_S2x12x1x1x32_0_1_4 : S2x12x32.BroadcastsInDim S2x12x1x1x32 (![0, 1, 4] : Fin 3 → Fin S2x12x1x1x32.rank)
  bcast_S2x12x1x1x32_S2x12x64x12x32_0_1_2_3_4 : S2x12x1x1x32.BroadcastsInDim S2x12x64x12x32 (![0, 1, 2, 3, 4] : Fin 5 → Fin S2x12x64x12x32.rank)
  bcast_S_S2x12x64x12x32 : S_.BroadcastsInDim S2x12x64x12x32 (![] : Fin 0 → Fin S2x12x64x12x32.rank)
  shapeCasts_S2x768x384_S2x12x64x12x32 : S2x768x384.ShapeCasts S2x12x64x12x32

variable [Facts]

def fn {F : FTy → Type} [FloatOps F] (main_arg0 : FVec F S2x8192x768 .f32) (main_arg1 : FVec F S2304x768 .f32) (main_arg2 : FVec F S2304 .f32) (main_arg3 : FVec F S768x768 .f32) (main_arg4 : FVec F S768 .f32) (main_arg5 : IVec S2x12x32 32) (main_arg6 : FVec F S2x768x384 .f32) : IVec S2x12x64x12x32 1 :=
  let main_v0 : IVec S2x12x1x1x32 32 := broadcastInDim S2x12x1x1x32 ![0, 1, 4] bcast_S2x12x32_S2x12x1x1x32_0_1_4 main_arg5
  let main_v1 : IVec S2x12x64x12x32 32 := broadcastInDim S2x12x64x12x32 ![0, 1, 2, 3, 4] bcast_S2x12x1x1x32_S2x12x64x12x32_0_1_2_3_4 main_v0
  let main_v2 : IVec S2x12x64x12x32 32 := iotaInDim S2x12x64x12x32 32 1
  let main_v3 : IVec S2x12x64x12x32 32 := iotaInDim S2x12x64x12x32 32 3
  let main_v4 : IVec S2x12x64x12x32 1 := cmpi .eq main_v2 main_v3
  let main_c : IVec S_ 32 := constantI S_ 32 0#32
  let main_v5 : IVec S2x12x64x12x32 32 := broadcastInDim S2x12x64x12x32 ![] bcast_S_S2x12x64x12x32 main_c
  let main_v6 : IVec S2x12x64x12x32 1 := cmpi .sge main_v1 main_v5
  let main_c_0 : IVec S_ 32 := constantI S_ 32 8192#32
  let main_v7 : IVec S2x12x64x12x32 32 := broadcastInDim S2x12x64x12x32 ![] bcast_S_S2x12x64x12x32 main_c_0
  let main_v8 : IVec S2x12x64x12x32 1 := cmpi .slt main_v1 main_v7
  let main_v9 : IVec S2x12x64x12x32 1 := andi main_v6 main_v8
  let main_v10 : FVec F S2x12x64x12x32 .f32 := shapeCast S2x12x64x12x32 main_arg6 shapeCasts_S2x768x384_S2x12x64x12x32
  let main_cst : FVec F S_ .f32 := constant S_ .f32 0x00000000#32
  let main_v11 : FVec F S2x12x64x12x32 .f32 := broadcastInDim S2x12x64x12x32 ![] bcast_S_S2x12x64x12x32 main_cst
  let main_v12 : IVec S2x12x64x12x32 1 := cmpf .oeq main_v10 main_v11
  let main_v13 : IVec S2x12x64x12x32 1 := ori main_v4 main_v12
  let main_v14 : IVec S2x12x64x12x32 1 := andi main_v9 main_v13
  main_v14
-- ==== Pre_starts.lean ====
abbrev S2x8192x768 : Shape := ⟨3, ![2, 8192, 768]⟩
abbrev S2304x768 : Shape := ⟨2, ![2304, 768]⟩
abbrev S2304 : Shape := ⟨1, ![2304]⟩
abbrev S2x12x4 : Shape := ⟨3, ![2, 12, 4]⟩
abbrev S2x12x8x1024 : Shape := ⟨4, ![2, 12, 8, 1024]⟩
abbrev S_ : Shape := ⟨0, ![]⟩

class Facts : Prop where
  bcast_S_S2x12x4 : S_.BroadcastsInDim S2x12x4 (![] : Fin 0 → Fin S2x12x4.rank)

variable [Facts]

def fn {F : FTy → Type} [FloatOps F] (main_arg0 : FVec F S2x8192x768 .f32) (main_arg1 : FVec F S2304x768 .f32) (main_arg2 : FVec F S2304 .f32) (main_arg3 : IVec S2x12x4 32) (main_arg4 : FVec F S2x12x8x1024 .f32) : IVec S2x12x4 1 :=
  let main_c : IVec S_ 32 := constantI S_ 32 0#32
  let main_v0 : IVec S2x12x4 32 := broadcastInDim S2x12x4 ![] bcast_S_S2x12x4 main_c
  let main_v1 : IVec S2x12x4 1 := cmpi .sge main_arg3 main_v0
  let main_c_0 : IVec S_ 32 := constantI S_ 32 8192#32
  let main_v2 : IVec S2x12x4 32 := broadcastInDim S2x12x4 ![] bcast_S_S2x12x4 main_c_0
  let main_v3 : IVec S2x12x4 1 := cmpi .slt main_arg3 main_v2
  let main_v4 : IVec S2x12x4 1 := andi main_v1 main_v3
  main_v4
-- ==== Kernel.lean ====
abbrev S2x8192x768 : Shape := ⟨3, ![2, 8192, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S2x12x32 : Shape := ⟨3, ![2, 12, 32]⟩
abbrev S2x768x384 : Shape := ⟨3, ![2, 768, 384]⟩
abbrev S2x1x8192x768 : Shape := ⟨4, ![2, 1, 8192, 768]⟩
abbrev S2x12x32x1 : Shape := ⟨4, ![2, 12, 32, 1]⟩
abbrev S2x12x32x768 : Shape := ⟨4, ![2, 12, 32, 768]⟩
abbrev S_ : Shape := ⟨0, ![]⟩
abbrev S2x12x32x768x1 : Shape := ⟨5, ![2, 12, 32, 768, 1]⟩
abbrev S1 : Shape := ⟨1, ![1]⟩
abbrev S1x1x1x1x1 : Shape := ⟨5, ![1, 1, 1, 1, 1]⟩
abbrev S24x32x768 : Shape := ⟨3, ![24, 32, 768]⟩
abbrev S12x1x64 : Shape := ⟨3, ![12, 1, 64]⟩
abbrev S2x384x64 : Shape := ⟨3, ![2, 384, 64]⟩
abbrev S1x32x768 : Shape := ⟨3, ![1, 32, 768]⟩
abbrev S64x768 : Shape := ⟨2, ![64, 768]⟩
abbrev S1x1x64 : Shape := ⟨3, ![1, 1, 64]⟩
abbrev S1x32x64 : Shape := ⟨3, ![1, 32, 64]⟩
abbrev S32x768 : Shape := ⟨2, ![32, 768]⟩
abbrev S32x64 : Shape := ⟨2, ![32, 64]⟩
abbrev S1x64 : Shape := ⟨2, ![1, 64]⟩
abbrev S2x384x768 : Shape := ⟨3, ![2, 384, 768]⟩
abbrev S2x32x64 : Shape := ⟨3, ![2, 32, 64]⟩
abbrev S2 : Shape := ⟨1, ![2]⟩
abbrev S1x768 : Shape := ⟨2, ![1, 768]⟩
abbrev S12x12 : Shape := ⟨2, ![12, 12]⟩
abbrev S32x32 : Shape := ⟨2, ![32, 32]⟩
abbrev S12x1x12x1 : Shape := ⟨4, ![12, 1, 12, 1]⟩
abbrev S1x32x1x32 : Shape := ⟨4, ![1, 32, 1, 32]⟩
abbrev S12x32x12x32 : Shape := ⟨4, ![12, 32, 12, 32]⟩
abbrev S384x384 : Shape := ⟨2, ![384, 384]⟩
abbrev S1x512x768 : Shape := ⟨3, ![1, 512, 768]⟩
abbrev S1x768x384 : Shape := ⟨3, ![1, 768, 384]⟩
abbrev S1x384x768 : Shape := ⟨3, ![1, 384, 768]⟩
abbrev S512x768 : Shape := ⟨2, ![512, 768]⟩
abbrev S768x384 : Shape := ⟨2, ![768, 384]⟩
abbrev S512x384 : Shape := ⟨2, ![512, 384]⟩
abbrev S512x32 : Shape := ⟨2, ![512, 32]⟩
abbrev S512 : Shape := ⟨1, ![512]⟩
abbrev S512x1 : Shape := ⟨2, ![512, 1]⟩
abbrev S384x768 : Shape := ⟨2, ![384, 768]⟩

abbrev nBuf : Space → Nat
  | .hbm => 145
  | .vmem => 21
  | .smem => 0
  | _ => 0

abbrev hbmTy0_0 (i : Nat) : BufTy := match i % 128 with
  | 0 => ⟨S2x8192x768, .f32⟩
  | 1 => ⟨S2304x768, .f32⟩
  | 2 => ⟨S2304, .f32⟩
  | 3 => ⟨S768x768, .f32⟩
  | 4 => ⟨S768, .f32⟩
  | 5 => ⟨S2x12x32, .i32⟩
  | 6 => ⟨S2x768x384, .f32⟩
  | 7 => ⟨S2x1x8192x768, .f32⟩
  | 8 => ⟨S2x12x32x1, .i32⟩
  | 9 => ⟨S2x12x32x768, .i32⟩
  | 10 => ⟨S_, .i32⟩
  | 11 => ⟨S2x12x32x768, .i32⟩
  | 12 => ⟨S2x12x32x768, .i1⟩
  | 13 => ⟨S_, .i32⟩
  | 14 => ⟨S2x12x32x768, .i32⟩
  | 15 => ⟨S2x12x32x768, .i32⟩
  | 16 => ⟨S2x12x32x768, .i32⟩
  | 17 => ⟨S2x12x32x768x1, .i32⟩
  | 18 => ⟨S2x8192x768, .f32⟩
  | 19 => ⟨S1, .i32⟩
  | 20 => ⟨S_, .i32⟩
  | 21 => ⟨S2x12x32x768x1, .i32⟩
  | 22 => ⟨S2x12x32x768x1, .i1⟩
  | 23 => ⟨S1x1x1x1x1, .i32⟩
  | 24 => ⟨S2x12x32x768x1, .i32⟩
  | 25 => ⟨S2x12x32x768x1, .i1⟩
  | 26 => ⟨S2x12x32x768x1, .i1⟩
  | 27 => ⟨S_, .i1⟩
  | 28 => ⟨S2x12x32x768, .i1⟩
  | 29 => ⟨S2x12x32x768, .f32⟩
  | 30 => ⟨S_, .f32⟩
  | 31 => ⟨S2x12x32x768, .f32⟩
  | 32 => ⟨S2x12x32x768, .f32⟩
  | 33 => ⟨S24x32x768, .f32⟩
  | 34 => ⟨S768, .f32⟩
  | 35 => ⟨S12x1x64, .f32⟩
  | 36 => ⟨S2x384x64, .f32⟩
  | 37 => ⟨S_, .f32⟩
  | 38 => ⟨S2x384x768, .f32⟩
  | 39 => ⟨S2x32x64, .f32⟩
  | 40 => ⟨S_, .i32⟩
  | 41 => ⟨S1, .i32⟩
  | 42 => ⟨S_, .i32⟩
  | 43 => ⟨S1, .i32⟩
  | 44 => ⟨S2, .i32⟩
  | 45 => ⟨S2x384x768, .f32⟩
  | 46 => ⟨S2x32x64, .f32⟩
  | 47 => ⟨S_, .i32⟩
  | 48 => ⟨S1, .i32⟩
  | 49 => ⟨S_, .i32⟩
  | 50 => ⟨S1, .i32⟩
  | 51 => ⟨S2, .i32⟩
  | 52 => ⟨S2x384x768, .f32⟩
  | 53 => ⟨S2x32x64, .f32⟩
  | 54 => ⟨S_, .i32⟩
  | 55 => ⟨S1, .i32⟩
  | 56 => ⟨S_, .i32⟩
  | 57 => ⟨S1, .i32⟩
  | 58 => ⟨S2, .i32⟩
  | 59 => ⟨S2x384x768, .f32⟩
  | 60 => ⟨S2x32x64, .f32⟩
  | 61 => ⟨S_, .i32⟩
  | 62 => ⟨S1, .i32⟩
  | 63 => ⟨S_, .i32⟩
  | 64 => ⟨S1, .i32⟩
  | 65 => ⟨S2, .i32⟩
  | 66 => ⟨S2x384x768, .f32⟩
  | 67 => ⟨S2x32x64, .f32⟩
  | 68 => ⟨S_, .i32⟩
  | 69 => ⟨S1, .i32⟩
  | 70 => ⟨S_, .i32⟩
  | 71 => ⟨S1, .i32⟩
  | 72 => ⟨S2, .i32⟩
  | 73 => ⟨S2x384x768, .f32⟩
  | 74 => ⟨S2x32x64, .f32⟩
  | 75 => ⟨S_, .i32⟩
  | 76 => ⟨S1, .i32⟩
  | 77 => ⟨S_, .i32⟩
  | 78 => ⟨S1, .i32⟩
  | 79 => ⟨S2, .i32⟩
  | 80 => ⟨S2x384x768, .f32⟩
  | 81 => ⟨S2x32x64, .f32⟩
  | 82 => ⟨S_, .i32⟩
  | 83 => ⟨S1, .i32⟩
  | 84 => ⟨S_, .i32⟩
  | 85 => ⟨S1, .i32⟩
  | 86 => ⟨S2, .i32⟩
  | 87 => ⟨S2x384x768, .f32⟩
  | 88 => ⟨S2x32x64, .f32⟩
  | 89 => ⟨S_, .i32⟩
  | 90 => ⟨S1, .i32⟩
  | 91 => ⟨S_, .i32⟩
  | 92 => ⟨S1, .i32⟩
  | 93 => ⟨S2, .i32⟩
  | 94 => ⟨S2x384x768, .f32⟩
  | 95 => ⟨S2x32x64, .f32⟩
  | 96 => ⟨S_, .i32⟩
  | 97 => ⟨S1, .i32⟩
  | 98 => ⟨S_, .i32⟩
  | 99 => ⟨S1, .i32⟩
  | 100 => ⟨S2, .i32⟩
  | 101 => ⟨S2x384x768, .f32⟩
  | 102 => ⟨S2x32x64, .f32⟩
  | 103 => ⟨S_, .i32⟩
  | 104 => ⟨S1, .i32⟩
  | 105 => ⟨S_, .i32⟩
  | 106 => ⟨S1, .i32⟩
  | 107 => ⟨S2, .i32⟩
  | 108 => ⟨S2x384x768, .f32⟩
  | 109 => ⟨S2x32x64, .f32⟩
  | 110 => ⟨S_, .i32⟩
  | 111 => ⟨S1, .i32⟩
  | 112 => ⟨S_, .i32⟩
  | 113 => ⟨S1, .i32⟩
  | 114 => ⟨S2, .i32⟩
  | 115 => ⟨S2x384x768, .f32⟩
  | 116 => ⟨S2x32x64, .f32⟩
  | 117 => ⟨S_, .i32⟩
  | 118 => ⟨S1, .i32⟩
  | 119 => ⟨S_, .i32⟩
  | 120 => ⟨S1, .i32⟩
  | 121 => ⟨S2, .i32⟩
  | 122 => ⟨S2x384x768, .f32⟩
  | 123 => ⟨S768x768, .f32⟩
  | 124 => ⟨S768x768, .f32⟩
  | 125 => ⟨S768, .f32⟩
  | 126 => ⟨S1x768, .f32⟩
  | 127 => ⟨S768x768, .f32⟩
  | _ => ⟨S2x8192x768, .f32⟩

abbrev hbmTy0_1 (i : Nat) : BufTy := match i % 128 with
  | 0 => ⟨S1x768, .f32⟩
  | 1 => ⟨S12x12, .i32⟩
  | 2 => ⟨S12x12, .i32⟩
  | 3 => ⟨S_, .i32⟩
  | 4 => ⟨S12x12, .i32⟩
  | 5 => ⟨S12x12, .i32⟩
  | 6 => ⟨S12x12, .i1⟩
  | 7 => ⟨S12x12, .f32⟩
  | 8 => ⟨S_, .f32⟩
  | 9 => ⟨S32x32, .f32⟩
  | 10 => ⟨S12x1x12x1, .f32⟩
  | 11 => ⟨S1x32x1x32, .f32⟩
  | 12 => ⟨S12x32x12x32, .f32⟩
  | 13 => ⟨S12x32x12x32, .f32⟩
  | 14 => ⟨S12x32x12x32, .f32⟩
  | 15 => ⟨S384x384, .f32⟩
  | 16 => ⟨S2x8192x768, .f32⟩
  | _ => ⟨S2x8192x768, .f32⟩

abbrev hbmTy (i : Nat) : BufTy := match i / 128 with
  | 0 => hbmTy0_0 i
  | 1 => hbmTy0_1 i
  | _ => ⟨S2x8192x768, .f32⟩

abbrev bufTy : (tb : Table) → Fin (tcTables nBuf tb) → BufTy
  | .hbm, ⟨i, _⟩ => hbmTy i
  | .local _ .vmem, ⟨0, _⟩ => ⟨S1x32x768, .f32⟩
  | .local _ .vmem, ⟨1, _⟩ => ⟨S1x32x768, .f32⟩
  | .local _ .vmem, ⟨2, _⟩ => ⟨S64x768, .f32⟩
  | .local _ .vmem, ⟨3, _⟩ => ⟨S64x768, .f32⟩
  | .local _ .vmem, ⟨4, _⟩ => ⟨S1x1x64, .f32⟩
  | .local _ .vmem, ⟨5, _⟩ => ⟨S1x1x64, .f32⟩
  | .local _ .vmem, ⟨6, _⟩ => ⟨S1x32x64, .f32⟩
  | .local _ .vmem, ⟨7, _⟩ => ⟨S1x32x64, .f32⟩
  | .local _ .vmem, ⟨8, _⟩ => ⟨S1x512x768, .f32⟩
  | .local _ .vmem, ⟨9, _⟩ => ⟨S1x512x768, .f32⟩
  | .local _ .vmem, ⟨10, _⟩ => ⟨S768x768, .f32⟩
  | .local _ .vmem, ⟨11, _⟩ => ⟨S1x768, .f32⟩
  | .local _ .vmem, ⟨12, _⟩ => ⟨S1x768x384, .f32⟩
  | .local _ .vmem, ⟨13, _⟩ => ⟨S1x768x384, .f32⟩
  | .local _ .vmem, ⟨14, _⟩ => ⟨S384x384, .f32⟩
  | .local _ .vmem, ⟨15, _⟩ => ⟨S1x384x768, .f32⟩
  | .local _ .vmem, ⟨16, _⟩ => ⟨S1x384x768, .f32⟩
  | .local _ .vmem, ⟨17, _⟩ => ⟨S768x768, .f32⟩
  | .local _ .vmem, ⟨18, _⟩ => ⟨S1x768, .f32⟩
  | .local _ .vmem, ⟨19, _⟩ => ⟨S1x512x768, .f32⟩
  | .local _ .vmem, ⟨20, _⟩ => ⟨S1x512x768, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_c_1 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_c_3 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_c : Ref sig .tc := ⟨.hbm, 40, rfl⟩
abbrev main_v10 : Ref sig .tc := ⟨.hbm, 41, rfl⟩
abbrev main_c_0 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_c_1 : Ref sig .tc := ⟨.hbm, 47, rfl⟩
abbrev main_v15 : Ref sig .tc := ⟨.hbm, 48, rfl⟩
abbrev main_c_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_3 : Ref sig .tc := ⟨.hbm, 54, rfl⟩
abbrev main_v20 : Ref sig .tc := ⟨.hbm, 55, rfl⟩
abbrev main_c_4 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_c_6 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_7 : Ref sig .tc := ⟨.hbm, 68, rfl⟩
abbrev main_v30 : Ref sig .tc := ⟨.hbm, 69, rfl⟩
abbrev main_c_8 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_9 : Ref sig .tc := ⟨.hbm, 75, rfl⟩
abbrev main_v35 : Ref sig .tc := ⟨.hbm, 76, rfl⟩
abbrev main_c_10 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_11 : Ref sig .tc := ⟨.hbm, 82, rfl⟩
abbrev main_v40 : Ref sig .tc := ⟨.hbm, 83, rfl⟩
abbrev main_c_12 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_13 : Ref sig .tc := ⟨.hbm, 89, rfl⟩
abbrev main_v45 : Ref sig .tc := ⟨.hbm, 90, rfl⟩
abbrev main_c_14 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_15 : Ref sig .tc := ⟨.hbm, 96, rfl⟩
abbrev main_v50 : Ref sig .tc := ⟨.hbm, 97, rfl⟩
abbrev main_c_16 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_c_17 : Ref sig .tc := ⟨.hbm, 103, rfl⟩
abbrev main_v55 : Ref sig .tc := ⟨.hbm, 104, rfl⟩
abbrev main_c_18 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_19 : Ref sig .tc := ⟨.hbm, 110, rfl⟩
abbrev main_v60 : Ref sig .tc := ⟨.hbm, 111, rfl⟩
abbrev main_c_20 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_c_21 : Ref sig .tc := ⟨.hbm, 117, rfl⟩
abbrev main_v65 : Ref sig .tc := ⟨.hbm, 118, rfl⟩
abbrev main_c_22 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_23 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_24 : Ref sig .tc := ⟨.hbm, 136, rfl⟩
abbrev main_v81 : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_v82 : Ref sig .tc := ⟨.hbm, 143, rfl⟩
abbrev main_v83 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c24_i32 : BitVec 32 := 24#32
  let v10 : BitVec 32 := Scalar.addi c24_i32 v9
  let c0_i32_3 : BitVec 32 := 0#32
  let c0_i32_4 : BitVec 32 := 0#32
  ![v10.toNat, c0_i32_3.toNat]

def cc0_transform_2 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x32x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S768x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x768x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S384x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x384x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S768x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x512x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ReferenceIdeal.lean ====
abbrev S2x8192x768 : Shape := ⟨3, ![2, 8192, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S2x12x32 : Shape := ⟨3, ![2, 12, 32]⟩
abbrev S2x768x384 : Shape := ⟨3, ![2, 768, 384]⟩
abbrev S768x2304 : Shape := ⟨2, ![768, 2304]⟩
abbrev S2x8192x2304 : Shape := ⟨3, ![2, 8192, 2304]⟩
abbrev S1x1x2304 : Shape := ⟨3, ![1, 1, 2304]⟩
abbrev S2x8192x3x12x64 : Shape := ⟨5, ![2, 8192, 3, 12, 64]⟩
abbrev S3x2x12x8192x64 : Shape := ⟨5, ![3, 2, 12, 8192, 64]⟩
abbrev S1x2x12x8192x64 : Shape := ⟨5, ![1, 2, 12, 8192, 64]⟩
abbrev S2x12x8192x64 : Shape := ⟨4, ![2, 12, 8192, 64]⟩
abbrev S2x12x32x1 : Shape := ⟨4, ![2, 12, 32, 1]⟩
abbrev S2x12x32x64 : Shape := ⟨4, ![2, 12, 32, 64]⟩
abbrev S2x12x64x12x32 : Shape := ⟨5, ![2, 12, 64, 12, 32]⟩
abbrev S12x12 : Shape := ⟨2, ![12, 12]⟩
abbrev S_ : Shape := ⟨0, ![]⟩
abbrev S1x12x1x12x1 : Shape := ⟨5, ![1, 12, 1, 12, 1]⟩
abbrev S2x12x64x32 : Shape := ⟨4, ![2, 12, 64, 32]⟩
abbrev S2x12x32x64x1 : Shape := ⟨5, ![2, 12, 32, 64, 1]⟩
abbrev S1 : Shape := ⟨1, ![1]⟩
abbrev S1x1x1x1x1 : Shape := ⟨5, ![1, 1, 1, 1, 1]⟩
abbrev S2x12x8192x32 : Shape := ⟨4, ![2, 12, 8192, 32]⟩
abbrev S2x12x8192 : Shape := ⟨3, ![2, 12, 8192]⟩
abbrev S2x12x8192x1 : Shape := ⟨4, ![2, 12, 8192, 1]⟩
abbrev S2x8192x12x64 : Shape := ⟨4, ![2, 8192, 12, 64]⟩
abbrev S1x1x768 : Shape := ⟨3, ![1, 1, 768]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S2x12x32, .i32⟩
  | .hbm, ⟨6, _⟩ => ⟨S2x768x384, .f32⟩
  | .hbm, ⟨7, _⟩ => ⟨S768x2304, .f32⟩
  | .hbm, ⟨8, _⟩ => ⟨S2x8192x2304, .f32⟩
  | .hbm, ⟨9, _⟩ => ⟨S1x1x2304, .f32⟩
  | .hbm, ⟨10, _⟩ => ⟨S2x8192x2304, .f32⟩
  | .hbm, ⟨11, _⟩ => ⟨S2x8192x2304, .f32⟩
  | .hbm, ⟨12, _⟩ => ⟨S2x8192x3x12x64, .f32⟩
  | .hbm, ⟨13, _⟩ => ⟨S3x2x12x8192x64, .f32⟩
  | .hbm, ⟨14, _⟩ => ⟨S1x2x12x8192x64, .f32⟩
  | .hbm, ⟨15, _⟩ => ⟨S2x12x8192x64, .f32⟩
  | .hbm, ⟨16, _⟩ => ⟨S1x2x12x8192x64, .f32⟩
  | .hbm, ⟨17, _⟩ => ⟨S2x12x8192x64, .f32⟩
  | .hbm, ⟨18, _⟩ => ⟨S2x12x32x1, .i32⟩
  | .hbm, ⟨19, _⟩ => ⟨S2x12x32x64, .i32⟩
  | .hbm, ⟨20, _⟩ => ⟨S2x12x64x12x32, .f32⟩
  | .hbm, ⟨21, _⟩ => ⟨S12x12, .i32⟩
  | .hbm, ⟨22, _⟩ => ⟨S12x12, .i32⟩
  | .hbm, ⟨23, _⟩ => ⟨S_, .i32⟩
  | .hbm, ⟨24, _⟩ => ⟨S12x12, .i32⟩
  | .hbm, ⟨25, _⟩ => ⟨S12x12, .i32⟩
  | .hbm, ⟨26, _⟩ => ⟨S12x12, .i1⟩
  | .hbm, ⟨27, _⟩ => ⟨S12x12, .f32⟩
  | .hbm, ⟨28, _⟩ => ⟨S1x12x1x12x1, .f32⟩
  | .hbm, ⟨29, _⟩ => ⟨S2x12x64x12x32, .f32⟩
  | .hbm, ⟨30, _⟩ => ⟨S2x12x64x12x32, .f32⟩
  | .hbm, ⟨31, _⟩ => ⟨S_, .f32⟩
  | .hbm, ⟨32, _⟩ => ⟨S2x12x64x32, .f32⟩
  | .hbm, ⟨33, _⟩ => ⟨S_, .i32⟩
  | .hbm, ⟨34, _⟩ => ⟨S2x12x32x64, .i32⟩
  | .hbm, ⟨35, _⟩ => ⟨S2x12x32x64, .i1⟩
  | .hbm, ⟨36, _⟩ => ⟨S_, .i32⟩
  | .hbm, ⟨37, _⟩ => ⟨S2x12x32x64, .i32⟩
  | .hbm, ⟨38, _⟩ => ⟨S2x12x32x64, .i32⟩
  | .hbm, ⟨39, _⟩ => ⟨S2x12x32x64, .i32⟩
  | .hbm, ⟨40, _⟩ => ⟨S2x12x32x64x1, .i32⟩
  | .hbm, ⟨41, _⟩ => ⟨S1, .i32⟩
  | .hbm, ⟨42, _⟩ => ⟨S_, .i32⟩
  | .hbm, ⟨43, _⟩ => ⟨S2x12x32x64x1, .i32⟩
  | .hbm, ⟨44, _⟩ => ⟨S2x12x32x64x1, .i1⟩
  | .hbm, ⟨45, _⟩ => ⟨S1x1x1x1x1, .i32⟩
  | .hbm, ⟨46, _⟩ => ⟨S2x12x32x64x1, .i32⟩
  | .hbm, ⟨47, _⟩ => ⟨S2x12x32x64x1, .i1⟩
  | .hbm, ⟨48, _⟩ => ⟨S2x12x32x64x1, .i1⟩
  | .hbm, ⟨49, _⟩ => ⟨S_, .i1⟩
  | .hbm, ⟨50, _⟩ => ⟨S2x12x32x64, .i1⟩
  | .hbm, ⟨51, _⟩ => ⟨S2x12x32x64, .f32⟩
  | .hbm, ⟨52, _⟩ => ⟨S_, .f32⟩
  | .hbm, ⟨53, _⟩ => ⟨S2x12x32x64, .f32⟩
  | .hbm, ⟨54, _⟩ => ⟨S2x12x32x64, .f32⟩
  | .hbm, ⟨55, _⟩ => ⟨S2x12x8192x32, .f32⟩
  | .hbm, ⟨56, _⟩ => ⟨S_, .f32⟩
  | .hbm, ⟨57, _⟩ => ⟨S2x12x8192x32, .f32⟩
  | .hbm, ⟨58, _⟩ => ⟨S2x12x8192x32, .f32⟩
  | .hbm, ⟨59, _⟩ => ⟨S_, .f32⟩
  | .hbm, ⟨60, _⟩ => ⟨S2x12x8192, .f32⟩
  | .hbm, ⟨61, _⟩ => ⟨S_, .f32⟩
  | .hbm, ⟨62, _⟩ => ⟨S2x12x8192, .f32⟩
  | .hbm, ⟨63, _⟩ => ⟨S2x12x8192, .f32⟩
  | .hbm, ⟨64, _⟩ => ⟨S2x12x8192x1, .f32⟩
  | .hbm, ⟨65, _⟩ => ⟨S2x12x8192x32, .f32⟩
  | .hbm, ⟨66, _⟩ => ⟨S2x12x8192x32, .f32⟩
  | .hbm, ⟨67, _⟩ => ⟨S2x12x8192x32, .f32⟩
  | .hbm, ⟨68, _⟩ => ⟨S_, .f32⟩
  | .hbm, ⟨69, _⟩ => ⟨S2x12x8192, .f32⟩
  | .hbm, ⟨70, _⟩ => ⟨S2x12x8192x1, .f32⟩
  | .hbm, ⟨71, _⟩ => ⟨S2x12x8192x32, .f32⟩
  | .hbm, ⟨72, _⟩ => ⟨S2x12x8192x32, .f32⟩
  | .hbm, ⟨73, _⟩ => ⟨S2x12x8192x64, .f32⟩
  | .hbm, ⟨74, _⟩ => ⟨S2x8192x12x64, .f32⟩
  | .hbm, ⟨75, _⟩ => ⟨S2x8192x768, .f32⟩
  | .hbm, ⟨76, _⟩ => ⟨S768x768, .f32⟩
  | .hbm, ⟨77, _⟩ => ⟨S2x8192x768, .f32⟩
  | .hbm, ⟨78, _⟩ => ⟨S1x1x768, .f32⟩
  | .hbm, ⟨79, _⟩ => ⟨S2x8192x768, .f32⟩
  | .hbm, ⟨80, _⟩ => ⟨S2x8192x768, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v24 : Ref sig .tc := ⟨.hbm, 54, rfl⟩
abbrev main_v25 : Ref sig .tc := ⟨.hbm, 55, rfl⟩
abbrev main_cst_0 : Ref sig .tc := ⟨.hbm, 56, rfl⟩
abbrev main_v26 : Ref sig .tc := ⟨.hbm, 57, rfl⟩
abbrev main_v27 : Ref sig .tc := ⟨.hbm, 58, rfl⟩
abbrev main_cst_1 : Ref sig .tc := ⟨.hbm, 59, rfl⟩
abbrev main_v28 : Ref sig .tc := ⟨.hbm, 60, rfl⟩
abbrev main_cst_2 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_3 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩

abbrev nD : Nat := 1
abbrev τ : Topo := Topo.v7x

variable {F : FTy → Type} [FloatOps F]
-- ==== Sampling.lean ====
abbrev S2x8192x768 : Shape := ⟨3, ![2, 8192, 768]⟩
abbrev S2304x768 : Shape := ⟨2, ![2304, 768]⟩
abbrev S2304 : Shape := ⟨1, ![2304]⟩
abbrev S2x12x4 : Shape := ⟨3, ![2, 12, 4]⟩
abbrev S2x12x8x1024 : Shape := ⟨4, ![2, 12, 8, 1024]⟩
abbrev S768x768 : Shape := ⟨2, ![768, 768]⟩
abbrev S768 : Shape := ⟨1, ![768]⟩
abbrev S1x768 : Shape := ⟨2, ![1, 768]⟩
abbrev S2x12x32 : Shape := ⟨3, ![2, 12, 32]⟩
abbrev S2x768x384 : Shape := ⟨3, ![2, 768, 384]⟩
abbrev S1x512x768 : Shape := ⟨3, ![1, 512, 768]⟩
abbrev S1x12x4 : Shape := ⟨3, ![1, 12, 4]⟩
abbrev S1x12x8x1024 : Shape := ⟨4, ![1, 12, 8, 1024]⟩
abbrev S1x12x32 : Shape := ⟨3, ![1, 12, 32]⟩
abbrev S1x768x384 : Shape := ⟨3, ![1, 768, 384]⟩
abbrev S8192x768 : Shape := ⟨2, ![8192, 768]⟩
abbrev S12x8192 : Shape := ⟨2, ![12, 8192]⟩
abbrev S512x768 : Shape := ⟨2, ![512, 768]⟩
abbrev S768x384 : Shape := ⟨2, ![768, 384]⟩
abbrev S8x8192 : Shape := ⟨2, ![8, 8192]⟩
abbrev S8x1024 : Shape := ⟨2, ![8, 1024]⟩
abbrev S1x32 : Shape := ⟨2, ![1, 32]⟩
abbrev S32x1 : Shape := ⟨2, ![32, 1]⟩
abbrev S32x8192 : Shape := ⟨2, ![32, 8192]⟩
abbrev S1x64 : Shape := ⟨2, ![1, 64]⟩
abbrev S8192x64 : Shape := ⟨2, ![8192, 64]⟩
abbrev S1x8192 : Shape := ⟨2, ![1, 8192]⟩
abbrev S1x1x1 : Shape := ⟨3, ![1, 1, 1]⟩
abbrev S4x64 : Shape := ⟨2, ![4, 64]⟩
abbrev S8x64 : Shape := ⟨2, ![8, 64]⟩
abbrev S8 : Shape := ⟨1, ![8]⟩
abbrev S8x1 : Shape := ⟨2, ![8, 1]⟩
abbrev S8192 : Shape := ⟨1, ![8192]⟩
abbrev S1x1x8192 : Shape := ⟨3, ![1, 1, 8192]⟩
abbrev S1 : Shape := ⟨1, ![1]⟩
abbrev S1x1x8x1024 : Shape := ⟨4, ![1, 1, 8, 1024]⟩
abbrev S1x8x1024 : Shape := ⟨3, ![1, 8, 1024]⟩
abbrev S1x1x32 : Shape := ⟨3, ![1, 1, 32]⟩
abbrev S32x64 : Shape := ⟨2, ![32, 64]⟩
abbrev S64x32 : Shape := ⟨2, ![64, 32]⟩
abbrev S1x64x32 : Shape := ⟨3, ![1, 64, 32]⟩

abbrev nBuf : Space → Nat
  | .hbm => 11
  | .vmem => 14
  | .smem => 0
  | _ => 0

abbrev bufTy : (tb : Table) → Fin (tcTables nBuf tb) → BufTy
  | .hbm, ⟨0, _⟩ => ⟨S2x8192x768, .f32⟩
  | .hbm, ⟨1, _⟩ => ⟨S2304x768, .f32⟩
  | .hbm, ⟨2, _⟩ => ⟨S2304, .f32⟩
  | .hbm, ⟨3, _⟩ => ⟨S2x12x4, .i32⟩
  | .hbm, ⟨4, _⟩ => ⟨S2x12x8x1024, .f32⟩
  | .hbm, ⟨5, _⟩ => ⟨S768x768, .f32⟩
  | .hbm, ⟨6, _⟩ => ⟨S768x768, .f32⟩
  | .hbm, ⟨7, _⟩ => ⟨S768, .f32⟩
  | .hbm, ⟨8, _⟩ => ⟨S1x768, .f32⟩
  | .hbm, ⟨9, _⟩ => ⟨S2x12x32, .i32⟩
  | .hbm, ⟨10, _⟩ => ⟨S2x768x384, .f32⟩
  | .local _ .vmem, ⟨0, _⟩ => ⟨S1x512x768, .f32⟩
  | .local _ .vmem, ⟨1, _⟩ => ⟨S1x512x768, .f32⟩
  | .local _ .vmem, ⟨2, _⟩ => ⟨S768x768, .f32⟩
  | .local _ .vmem, ⟨3, _⟩ => ⟨S1x768, .f32⟩
  | .local _ .vmem, ⟨4, _⟩ => ⟨S1x12x4, .i32⟩
  | .local _ .vmem, ⟨5, _⟩ => ⟨S1x12x4, .i32⟩
  | .local _ .vmem, ⟨6, _⟩ => ⟨S1x12x8x1024, .f32⟩
  | .local _ .vmem, ⟨7, _⟩ => ⟨S1x12x8x1024, .f32⟩
  | .local _ .vmem, ⟨8, _⟩ => ⟨S1x12x32, .i32⟩
  | .local _ .vmem, ⟨9, _⟩ => ⟨S1x12x32, .i32⟩
  | .local _ .vmem, ⟨10, _⟩ => ⟨S1x768x384, .f32⟩
  | .local _ .vmem, ⟨11, _⟩ => ⟨S1x768x384, .f32⟩
  | .local _ .vmem, ⟨12, _⟩ => ⟨S8192x768, .f32⟩
  | .local _ .vmem, ⟨13, _⟩ => ⟨S12x8192, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : Index := Scalar.indexCast v15
  let c0_8 : Index := 0#32
  ![v16.toNat, 0]
def k0_cond2 (i : grid0.Coords) : BitVec 1 :=
  let arg1 : BitVec 32 := BitVec.ofNat 32 (i 1).val
  let c16_i32_0 : BitVec 32 := 16#32
  let v3 : BitVec 1 := Scalar.cmpi .eq arg1 c16_i32_0
  let v4 : BitVec 32 := Scalar.extui v3
  let c0_i32_1 : BitVec 32 := 0#32
  let v5 : BitVec 1 := Scalar.cmpi .ne v4 c0_i32_1
  v5

def k0_off2 (v95 : BitVec 32) : Fin 2 → Nat :=
  let v96 : Index := Scalar.indexCast v95
  let c0_46 : Index := 0#32
  ![v96.toNat, 0]

def k0_chk1 (i : grid0.Coords) (v95 : BitVec 32) : Prop :=
  (∀ (k0_h2 : k0_cond2 i = 1#1), ∀ a, (k0_off2 v95) a + S1x768.size a ≤ S8192x768.size a)
theorem k0_off2_inb : ∀ (i : grid0.Coords) (v95 : BitVec 32) (k0_hw1 : k0_chk1 i v95), ∀ (k0_h2 : k0_cond2 i = 1#1), ∀ a, (k0_off2 v95) a + S1x768.size a ≤ S8192x768.size a := fun i v95 k0_hw1 k0_h2 => k0_hw1 k0_h2

def k0_off3 (v100 : BitVec 32) : Fin 2 → Nat :=
  let v101 : Index := Scalar.indexCast v100
  let c0_50 : Index := 0#32
  ![v101.toNat, 0]

def k0_chk2 (i : grid0.Coords) (v100 : BitVec 32) : Prop :=
  (∀ (k0_h2 : k0_cond2 i = 1#1), ∀ a, (k0_off3 v100) a + S1x768.size a ≤ S8192x768.size a)
theorem k0_off3_inb : ∀ (i : grid0.Coords) (v100 : BitVec 32) (k0_hw2 : k0_chk2 i v100), ∀ (k0_h2 : k0_cond2 i = 1#1), ∀ a, (k0_off3 v100) a + S1x768.size a ≤ S8192x768.size a := fun i v100 k0_hw2 k0_h2 => k0_hw2 k0_h2

def k0_off4 (v105 : BitVec 32) : Fin 2 → Nat :=
  let v106 : Index := Scalar.indexCast v105
  let c0_54 : Index := 0#32
  ![v106.toNat, 0]

def k0_chk3 (i : grid0.Coords) (v105 : BitVec 32) : Prop :=
  (∀ (k0_h2 : k0_cond2 i = 1#1), ∀ a, (k0_off4 v105) a + S1x768.size a ≤ S8192x768.size a)
theorem k0_off4_inb : ∀ (i : grid0.Coords) (v105 : BitVec 32) (k0_hw3 : k0_chk3 i v105), ∀ (k0_h2 : k0_cond2 i = 1#1), ∀ a, (k0_off4 v105) a + S1x768.size a ≤ S8192x768.size a := fun i v105 k0_hw3 k0_h2 => k0_hw3 k0_h2

def k0_off5 (v110 : BitVec 32) : Fin 2 → Nat :=
  let v111 : Index := Scalar.indexCast v110
  let c0_58 : Index := 0#32
  ![v111.toNat, 0]

def k0_chk4 (i : grid0.Coords) (v110 : BitVec 32) : Prop :=
  (∀ (k0_h2 : k0_cond2 i = 1#1), ∀ a, (k0_off5 v110) a + S1x768.size a ≤ S8192x768.size a)
theorem k0_off5_inb : ∀ (i : grid0.Coords) (v110 : BitVec 32) (k0_hw4 : k0_chk4 i v110), ∀ (k0_h2 : k0_cond2 i = 1#1), ∀ a, (k0_off5 v110) a + S1x768.size a ≤ S8192x768.size a := fun i v110 k0_hw4 k0_h2 => k0_hw4 k0_h2

def k0_off6 (v117 : BitVec 32) : Fin 2 → Nat :=
  let v118 : Index := Scalar.indexCast v117
  let c0_63 : Index := 0#32
  ![v118.toNat, 0]

def k0_chk5 (i : grid0.Coords) (v117 : BitVec 32) : Prop :=
  (∀ (k0_h2 : k0_cond2 i = 1#1), ∀ a, (k0_off6 v117) a + S1x768.size a ≤ S8192x768.size a)
theorem k0_off6_inb : ∀ (i : grid0.Coords) (v117 : BitVec 32) (k0_hw5 : k0_chk5 i v117), ∀ (k0_h2 : k0_cond2 i = 1#1), ∀ a, (k0_off6 v117) a + S1x768.size a ≤ S8192x768.size a := fun i v117 k0_hw5 k0_h2 => k0_hw5 k0_h2

def k0_off7 (v122 : BitVec 32) : Fin 2 → Nat :=
  let v123 : Index := Scalar.indexCast v122
  let c0_67 : Index := 0#32
  ![v123.toNat, 0]

def k0_chk6 (i : grid0.Coords) (v122 : BitVec 32) : Prop :=
  (∀ (k0_h2 : k0_cond2 i = 1#1), ∀ a, (k0_off7 v122) a + S1x768.size a ≤ S8192x768.size a)
theorem k0_off7_inb : ∀ (i : grid0.Coords) (v122 : BitVec 32) (k0_hw6 : k0_chk6 i v122), ∀ (k0_h2 : k0_cond2 i = 1#1), ∀ a, (k0_off7 v122) a + S1x768.size a ≤ S8192x768.size a := fun i v122 k0_hw6 k0_h2 => k0_hw6 k0_h2

def k0_off8 (v127 : BitVec 32) : Fin 2 → Nat :=
  let v128 : Index := Scalar.indexCast v127
  let c0_71 : Index := 0#32
  ![v128.toNat, 0]

def k0_chk7 (i : grid0.Coords) (v127 : BitVec 32) : Prop :=
  (∀ (k0_h2 : k0_cond2 i = 1#1), ∀ a, (k0_off8 v127) a + S1x768.size a ≤ S8192x768.size a)
theorem k0_off8_inb : ∀ (i : grid0.Coords) (v127 : BitVec 32) (k0_hw7 : k0_chk7 i v127), ∀ (k0_h2 : k0_cond2 i = 1#1), ∀ a, (k0_off8 v127) a + S1x768.size a ≤ S8192x768.size a := fun i v127 k0_hw7 k0_h2 => k0_hw7 k0_h2

def k0_off9 (v132 : BitVec 32) : Fin 2 → Nat :=
  let v133 : Index := Scalar.indexCast v132
  let c0_75 : Index := 0#32
  ![v133.toNat, 0]

def k0_chk8 (i : grid0.Coords) (v132 : BitVec 32) : Prop :=
  (∀ (k0_h2 : k0_cond2 i = 1#1), ∀ a, (k0_off9 v132) a + S1x768.size a ≤ S8192x768.size a)
theorem k0_off9_inb : ∀ (i : grid0.Coords) (v132 : BitVec 32) (k0_hw8 : k0_chk8 i v132), ∀ (k0_h2 : k0_cond2 i = 1#1), ∀ a, (k0_off9 v132) a + S1x768.size a ≤ S8192x768.size a := fun i v132 k0_hw8 k0_h2 => k0_hw8 k0_h2

def k0_off10 (v139 : BitVec 32) : Fin 2 → Nat :=
  let v140 : Index := Scalar.indexCast v139
  let c0_80 : Index := 0#32
  ![v140.toNat, 0]

def k0_chk9 (i : grid0.Coords) (v139 : BitVec 32) : Prop :=
  (∀ (k0_h2 : k0_cond2 i = 1#1), ∀ a, (k0_off10 v139) a + S1x768.size a ≤ S8192x768.size a)
theorem k0_off10_inb : ∀ (i : grid0.Coords) (v139 : BitVec 32) (k0_hw9 : k0_chk9 i v139), ∀ (k0_h2 : k0_cond2 i = 1#1), ∀ a, (k0_off10 v139) a + S1x768.size a ≤ S8192x768.size a := fun i v139 k0_hw9 k0_h2 => k0_hw9 k0_h2

def k0_off11 (v144 : BitVec 32) : Fin 2 → Nat :=
  let v145 : Index := Scalar.indexCast v144
  let c0_84 : Index := 0#32
  ![v145.toNat, 0]

def k0_chk10 (i : grid0.Coords) (v144 : BitVec 32) : Prop :=
  (∀ (k0_h2 : k0_cond2 i = 1#1), ∀ a, (k0_off11 v144) a + S1x768.size a ≤ S8192x768.size a)
theorem k0_off11_inb : ∀ (i : grid0.Coords) (v144 : BitVec 32) (k0_hw10 : k0_chk10 i v144), ∀ (k0_h2 : k0_cond2 i = 1#1), ∀ a, (k0_off11 v144) a + S1x768.size a ≤ S8192x768.size a := fun i v144 k0_hw10 k0_h2 => k0_hw10 k0_h2

def k0_off12 (v149 : BitVec 32) : Fin 2 → Nat :=
  let v150 : Index := Scalar.indexCast v149
  let c0_88 : Index := 0#32
  ![v150.toNat, 0]

def k0_chk11 (i : grid0.Coords) (v149 : BitVec 32) : Prop :=
  (∀ (k0_h2 : k0_cond2 i = 1#1), ∀ a, (k0_off12 v149) a + S1x768.size a ≤ S8192x768.size a)
theorem k0_off12_inb : ∀ (i : grid0.Coords) (v149 : BitVec 32) (k0_hw11 : k0_chk11 i v149), ∀ (k0_h2 : k0_cond2 i = 1#1), ∀ a, (k0_off12 v149) a + S1x768.size a ≤ S8192x768.size a := fun i v149 k0_hw11 k0_h2 => k0_hw11 k0_h2

def k0_off13 (v154 : BitVec 32) : Fin 2 → Nat :=
  let v155 : Index := Scalar.indexCast v154
  let c0_92 : Index := 0#32
  ![v155.toNat, 0]

def k0_chk12 (i : grid0.Coords) (v154 : BitVec 32) : Prop :=
  (∀ (k0_h2 : k0_cond2 i = 1#1), ∀ a, (k0_off13 v154) a + S1x768.size a ≤ S8192x768.size a)
theorem k0_off13_inb : ∀ (i : grid0.Coords) (v154 : BitVec 32) (k0_hw12 : k0_chk12 i v154), ∀ (k0_h2 : k0_cond2 i = 1#1), ∀ a, (k0_off13 v154) a + S1x768.size a ≤ S8192x768.size a := fun i v154 k0_hw12 k0_h2 => k0_hw12 k0_h2

def k0_off14 (v161 : BitVec 32) : Fin 2 → Nat :=
  let v162 : Index := Scalar.indexCast v161
  let c0_97 : Index := 0#32
  ![v162.toNat, 0]

def k0_chk13 (i : grid0.Coords) (v161 : BitVec 32) : Prop :=
  (∀ (k0_h2 : k0_cond2 i = 1#1), ∀ a, (k0_off14 v161) a + S1x768.size a ≤ S8192x768.size a)
theorem k0_off14_inb : ∀ (i : grid0.Coords) (v161 : BitVec 32) (k0_hw13 : k0_chk13 i v161), ∀ (k0_h2 : k0_cond2 i = 1#1), ∀ a, (k0_off14 v161) a + S1x768.size a ≤ S8192x768.size a := fun i v161 k0_hw13 k0_h2 => k0_hw13 k0_h2

def k0_off15 (v166 : BitVec 32) : Fin 2 → Nat :=
  let v167 : Index := Scalar.indexCast v166
  let c0_101 : Index := 0#32
  ![v167.toNat, 0]

def k0_chk14 (i : grid0.Coords) (v166 : BitVec 32) : Prop :=
  (∀ (k0_h2 : k0_cond2 i = 1#1), ∀ a, (k0_off15 v166) a + S1x768.size a ≤ S8192x768.size a)
theorem k0_off15_inb : ∀ (i : grid0.Coords) (v166 : BitVec 32) (k0_hw14 : k0_chk14 i v166), ∀ (k0_h2 : k0_cond2 i = 1#1), ∀ a, (k0_off15 v166) a + S1x768.size a ≤ S8192x768.size a := fun i v166 k0_hw14 k0_h2 => k0_hw14 k0_h2

def k0_off16 (v171 : BitVec 32) : Fin 2 → Nat :=
  let v172 : Index := Scalar.indexCast v171
  let c0_105 : Index := 0#32
  ![v172.toNat, 0]

def k0_chk15 (i : grid0.Coords) (v171 : BitVec 32) : Prop :=
  (∀ (k0_h2 : k0_cond2 i = 1#1), ∀ a, (k0_off16 v171) a + S1x768.size a ≤ S8192x768.size a)
theorem k0_off16_inb : ∀ (i : grid0.Coords) (v171 : BitVec 32) (k0_hw15 : k0_chk15 i v171), ∀ (k0_h2 : k0_cond2 i = 1#1), ∀ a, (k0_off16 v171) a + S1x768.size a ≤ S8192x768.size a := fun i v171 k0_hw15 k0_h2 => k0_hw15 k0_h2

def k0_off17 (v176 : BitVec 32) : Fin 2 → Nat :=
  let v177 : Index := Scalar.indexCast v176
  let c0_109 : Index := 0#32
  ![v177.toNat, 0]

def k0_chk16 (i : grid0.Coords) (v176 : BitVec 32) : Prop :=
  (∀ (k0_h2 : k0_cond2 i = 1#1), ∀ a, (k0_off17 v176) a + S1x768.size a ≤ S8192x768.size a)
theorem k0_off17_inb : ∀ (i : grid0.Coords) (v176 : BitVec 32) (k0_hw16 : k0_chk16 i v176), ∀ (k0_h2 : k0_cond2 i = 1#1), ∀ a, (k0_off17 v176) a + S1x768.size a ≤ S8192x768.size a := fun i v176 k0_hw16 k0_h2 => k0_hw16 k0_h2

def k0_off18 (v183 : BitVec 32) : Fin 2 → Nat :=
  let v184 : Index := Scalar.indexCast v183
  let c0_114 : Index := 0#32
  ![v184.toNat, 0]

def k0_chk17 (i : grid0.Coords) (v183 : BitVec 32) : Prop :=
  (∀ (k0_h2 : k0_cond2 i = 1#1), ∀ a, (k0_off18 v183) a + S1x768.size a ≤ S8192x768.size a)
theorem k0_off18_inb : ∀ (i : grid0.Coords) (v183 : BitVec 32) (k0_hw17 : k0_chk17 i v183), ∀ (k0_h2 : k0_cond2 i = 1#1), ∀ a, (k0_off18 v183) a + S1x768.size a ≤ S8192x768.size a := fun i v183 k0_hw17 k0_h2 => k0_hw17 k0_h2

def k0_off19 (v188 : BitVec 32) : Fin 2 → Nat :=
  let v189 : Index := Scalar.indexCast v188
  let c0_118 : Index := 0#32
  ![v189.toNat, 0]

def k0_chk18 (i : grid0.Coords) (v188 : BitVec 32) : Prop :=
  (∀ (k0_h2 : k0_cond2 i = 1#1), ∀ a, (k0_off19 v188) a + S1x768.size a ≤ S8192x768.size a)
theorem k0_off19_inb : ∀ (i : grid0.Coords) (v188 : BitVec 32) (k0_hw18 : k0_chk18 i v188), ∀ (k0_h2 : k0_cond2 i = 1#1), ∀ a, (k0_off19 v188) a + S1x768.size a ≤ S8192x768.size a := fun i v188 k0_hw18 k0_h2 => k0_hw18 k0_h2

def k0_off20 (v193 : BitVec 32) : Fin 2 → Nat :=
  let v194 : Index := Scalar.indexCast v193
  let c0_122 : Index := 0#32
  ![v194.toNat, 0]

def k0_chk19 (i : grid0.Coords) (v193 : BitVec 32) : Prop :=
  (∀ (k0_h2 : k0_cond2 i = 1#1), ∀ a, (k0_off20 v193) a + S1x768.size a ≤ S8192x768.size a)
theorem k0_off20_inb : ∀ (i : grid0.Coords) (v193 : BitVec 32) (k0_hw19 : k0_chk19 i v193), ∀ (k0_h2 : k0_cond2 i = 1#1), ∀ a, (k0_off20 v193) a + S1x768.size a ≤ S8192x768.size a := fun i v193 k0_hw19 k0_h2 => k0_hw19 k0_h2

def k0_off21 (v198 : BitVec 32) : Fin 2 → Nat :=
  let v199 : Index := Scalar.indexCast v198
  let c0_126 : Index := 0#32
  ![v199.toNat, 0]

def k0_chk20 (i : grid0.Coords) (v198 : BitVec 32) : Prop :=
  (∀ (k0_h2 : k0_cond2 i = 1#1), ∀ a, (k0_off21 v198) a + S1x768.size a ≤ S8192x768.size a)
theorem k0_off21_inb : ∀ (i : grid0.Coords) (v198 : BitVec 32) (k0_hw20 : k0_chk20 i v198), ∀ (k0_h2 : k0_cond2 i = 1#1), ∀ a, (k0_off21 v198) a + S1x768.size a ≤ S8192x768.size a := fun i v198 k0_hw20 k0_h2 => k0_hw20 k0_h2

def k0_off22 (v205 : BitVec 32) : Fin 2 → Nat :=
  let v206 : Index := Scalar.indexCast v205
  let c0_131 : Index := 0#32
  ![v206.toNat, 0]

def k0_chk21 (i : grid0.Coords) (v205 : BitVec 32) : Prop :=
  (∀ (k0_h2 : k0_cond2 i = 1#1), ∀ a, (k0_off22 v205) a + S1x768.size a ≤ S8192x768.size a)
theorem k0_off22_inb : ∀ (i : grid0.Coords) (v205 : BitVec 32) (k0_hw21 : k0_chk21 i v205), ∀ (k0_h2 : k0_cond2 i = 1#1), ∀ a, (k0_off22 v205) a + S1x768.size a ≤ S8192x768.size a := fun i v205 k0_hw21 k0_h2 => k0_hw21 k0_h2

def k0_off23 (v210 : BitVec 32) : Fin 2 → Nat :=
  let v211 : Index := Scalar.indexCast v210
  let c0_135 : Index := 0#32
  ![v211.toNat, 0]

def k0_chk22 (i : grid0.Coords) (v210 : BitVec 32) : Prop :=
  (∀ (k0_h2 : k0_cond2 i = 1#1), ∀ a, (k0_off23 v210) a + S1x768.size a ≤ S8192x768.size a)
theorem k0_off23_inb : ∀ (i : grid0.Coords) (v210 : BitVec 32) (k0_hw22 : k0_chk22 i v210), ∀ (k0_h2 : k0_cond2 i = 1#1), ∀ a, (k0_off23 v210) a + S1x768.size a ≤ S8192x768.size a := fun i v210 k0_hw22 k0_h2 => k0_hw22 k0_h2

def k0_off24 (v215 : BitVec 32) : Fin 2 → Nat :=
  let v216 : Index := Scalar.indexCast v215
  let c0_139 : Index := 0#32
  ![v216.toNat, 0]

def k0_chk23 (i : grid0.Coords) (v215 : BitVec 32) : Prop :=
  (∀ (k0_h2 : k0_cond2 i = 1#1), ∀ a, (k0_off24 v215) a + S1x768.size a ≤ S8192x768.size a)
theorem k0_off24_inb : ∀ (i : grid0.Coords) (v215 : BitVec 32) (k0_hw23 : k0_chk23 i v215), ∀ (k0_h2 : k0_cond2 i = 1#1), ∀ a, (k0_off24 v215) a + S1x768.size a ≤ S8192x768.size a := fun i v215 k0_hw23 k0_h2 => k0_hw23 k0_h2

def k0_off25 (v220 : BitVec 32) : Fin 2 → Nat :=
  let v221 : Index := Scalar.indexCast v220
  let c0_143 : Index := 0#32
  ![v221.toNat, 0]

def k0_chk24 (i : grid0.Coords) (v220 : BitVec 32) : Prop :=
  (∀ (k0_h2 : k0_cond2 i = 1#1), ∀ a, (k0_off25 v220) a + S1x768.size a ≤ S8192x768.size a)
theorem k0_off25_inb : ∀ (i : grid0.Coords) (v220 : BitVec 32) (k0_hw24 : k0_chk24 i v220), ∀ (k0_h2 : k0_cond2 i = 1#1), ∀ a, (k0_off25 v220) a + S1x768.size a ≤ S8192x768.size a := fun i v220 k0_hw24 k0_h2 => k0_hw24 k0_h2

def k0_off26 (v227 : BitVec 32) : Fin 2 → Nat :=
  let v228 : Index := Scalar.indexCast v227
  let c0_148 : Index := 0#32
  ![v228.toNat, 0]

def k0_chk25 (i : grid0.Coords) (v227 : BitVec 32) : Prop :=
  (∀ (k0_h2 : k0_cond2 i = 1#1), ∀ a, (k0_off26 v227) a + S1x768.size a ≤ S8192x768.size a)
theorem k0_off26_inb : ∀ (i : grid0.Coords) (v227 : BitVec 32) (k0_hw25 : k0_chk25 i v227), ∀ (k0_h2 : k0_cond2 i = 1#1), ∀ a, (k0_off26 v227) a + S1x768.size a ≤ S8192x768.size a := fun i v227 k0_hw25 k0_h2 => k0_hw25 k0_h2

def k0_off27 (v232 : BitVec 32) : Fin 2 → Nat :=
  let v233 : Index := Scalar.indexCast v232
  let c0_152 : Index := 0#32
  ![v233.toNat, 0]

def k0_chk26 (i : grid0.Coords) (v232 : BitVec 32) : Prop :=
  (∀ (k0_h2 : k0_cond2 i = 1#1), ∀ a, (k0_off27 v232) a + S1x768.size a ≤ S8192x768.size a)
theorem k0_off27_inb : ∀ (i : grid0.Coords) (v232 : BitVec 32) (k0_hw26 : k0_chk26 i v232), ∀ (k0_h2 : k0_cond2 i = 1#1), ∀ a, (k0_off27 v232) a + S1x768.size a ≤ S8192x768.size a := fun i v232 k0_hw26 k0_h2 => k0_hw26 k0_h2

def k0_off28 (v237 : BitVec 32) : Fin 2 → Nat :=
  let v238 : Index := Scalar.indexCast v237
  let c0_156 : Index := 0#32
  ![v238.toNat, 0]

def k0_chk27 (i : grid0.Coords) (v237 : BitVec 32) : Prop :=
  (∀ (k0_h2 : k0_cond2 i = 1#1), ∀ a, (k0_off28 v237) a + S1x768.size a ≤ S8192x768.size a)
theorem k0_off28_inb : ∀ (i : grid0.Coords) (v237 : BitVec 32) (k0_hw27 : k0_chk27 i v237), ∀ (k0_h2 : k0_cond2 i = 1#1), ∀ a, (k0_off28 v237) a + S1x768.size a ≤ S8192x768.size a := fun i v237 k0_hw27 k0_h2 => k0_hw27 k0_h2

def k0_off29 (v242 : BitVec 32) : Fin 2 → Nat :=
  let v243 : Index := Scalar.indexCast v242
  let c0_160 : Index := 0#32
  ![v243.toNat, 0]

def k0_chk28 (i : grid0.Coords) (v242 : BitVec 32) : Prop :=
  (∀ (k0_h2 : k0_cond2 i = 1#1), ∀ a, (k0_off29 v242) a + S1x768.size a ≤ S8192x768.size a)
theorem k0_off29_inb : ∀ (i : grid0.Coords) (v242 : BitVec 32) (k0_hw28 : k0_chk28 i v242), ∀ (k0_h2 : k0_cond2 i = 1#1), ∀ a, (k0_off29 v242) a + S1x768.size a ≤ S8192x768.size a := fun i v242 k0_hw28 k0_h2 => k0_hw28 k0_h2

def k0_off30 (v249 : BitVec 32) : Fin 2 → Nat :=
  let v250 : Index := Scalar.indexCast v249
  let c0_165 : Index := 0#32
  ![v250.toNat, 0]

def k0_chk29 (i : grid0.Coords) (v249 : BitVec 32) : Prop :=
  (∀ (k0_h2 : k0_cond2 i = 1#1), ∀ a, (k0_off30 v249) a + S1x768.size a ≤ S8192x768.size a)
theorem k0_off30_inb : ∀ (i : grid0.Coords) (v249 : BitVec 32) (k0_hw29 : k0_chk29 i v249), ∀ (k0_h2 : k0_cond2 i = 1#1), ∀ a, (k0_off30 v249) a + S1x768.size a ≤ S8192x768.size a := fun i v249 k0_hw29 k0_h2 => k0_hw29 k0_h2

def k0_off31 (v254 : BitVec 32) : Fin 2 → Nat :=
  let v255 : Index := Scalar.indexCast v254
  let c0_169 : Index := 0#32
  ![v255.toNat, 0]

def k0_chk30 (i : grid0.Coords) (v254 : BitVec 32) : Prop :=
  (∀ (k0_h2 : k0_cond2 i = 1#1), ∀ a, (k0_off31 v254) a + S1x768.size a ≤ S8192x768.size a)
theorem k0_off31_inb : ∀ (i : grid0.Coords) (v254 : BitVec 32) (k0_hw30 : k0_chk30 i v254), ∀ (k0_h2 : k0_cond2 i = 1#1), ∀ a, (k0_off31 v254) a + S1x768.size a ≤ S8192x768.size a := fun i v254 k0_hw30 k0_h2 => k0_hw30 k0_h2

def k0_off32 (v259 : BitVec 32) : Fin 2 → Nat :=
  let v260 : Index := Scalar.indexCast v259
  let c0_173 : Index := 0#32
  ![v260.toNat, 0]

def k0_chk31 (i : grid0.Coords) (v259 : BitVec 32) : Prop :=
  (∀ (k0_h2 : k0_cond2 i = 1#1), ∀ a, (k0_off32 v259) a + S1x768.size a ≤ S8192x768.size a)
theorem k0_off32_inb : ∀ (i : grid0.Coords) (v259 : BitVec 32) (k0_hw31 : k0_chk31 i v259), ∀ (k0_h2 : k0_cond2 i = 1#1), ∀ a, (k0_off32 v259) a + S1x768.size a ≤ S8192x768.size a := fun i v259 k0_hw31 k0_h2 => k0_hw31 k0_h2

def k0_off33 (v264 : BitVec 32) : Fin 2 → Nat :=
  let v265 : Index := Scalar.indexCast v264
  let c0_177 : Index := 0#32
  ![v265.toNat, 0]

def k0_chk32 (i : grid0.Coords) (v264 : BitVec 32) : Prop :=
  (∀ (k0_h2 : k0_cond2 i = 1#1), ∀ a, (k0_off33 v264) a + S1x768.size a ≤ S8192x768.size a)
theorem k0_off33_inb : ∀ (i : grid0.Coords) (v264 : BitVec 32) (k0_hw32 : k0_chk32 i v264), ∀ (k0_h2 : k0_cond2 i = 1#1), ∀ a, (k0_off33 v264) a + S1x768.size a ≤ S8192x768.size a := fun i v264 k0_hw32 k0_h2 => k0_hw32 k0_h2

def k0_off34 (v271 : BitVec 32) : Fin 2 → Nat :=
  let v272 : Index := Scalar.indexCast v271
  let c0_182 : Index := 0#32
  ![v272.toNat, 0]

def k0_chk33 (i : grid0.Coords) (v271 : BitVec 32) : Prop :=
  (∀ (k0_h2 : k0_cond2 i = 1#1), ∀ a, (k0_off34 v271) a + S1x768.size a ≤ S8192x768.size a)
theorem k0_off34_inb : ∀ (i : grid0.Coords) (v271 : BitVec 32) (k0_hw33 : k0_chk33 i v271), ∀ (k0_h2 : k0_cond2 i = 1#1), ∀ a, (k0_off34 v271) a + S1x768.size a ≤ S8192x768.size a := fun i v271 k0_hw33 k0_h2 => k0_hw33 k0_h2

def k0_off35 (v276 : BitVec 32) : Fin 2 → Nat :=
  let v277 : Index := Scalar.indexCast v276
  let c0_186 : Index := 0#32
  ![v277.toNat, 0]

def k0_chk34 (i : grid0.Coords) (v276 : BitVec 32) : Prop :=
  (∀ (k0_h2 : k0_cond2 i = 1#1), ∀ a, (k0_off35 v276) a + S1x768.size a ≤ S8192x768.size a)
theorem k0_off35_inb : ∀ (i : grid0.Coords) (v276 : BitVec 32) (k0_hw34 : k0_chk34 i v276), ∀ (k0_h2 : k0_cond2 i = 1#1), ∀ a, (k0_off35 v276) a + S1x768.size a ≤ S8192x768.size a := fun i v276 k0_hw34 k0_h2 => k0_hw34 k0_h2

def k0_off36 (v281 : BitVec 32) : Fin 2 → Nat :=
  let v282 : Index := Scalar.indexCast v281
  let c0_190 : Index := 0#32
  ![v282.toNat, 0]

def k0_chk35 (i : grid0.Coords) (v281 : BitVec 32) : Prop :=
  (∀ (k0_h2 : k0_cond2 i = 1#1), ∀ a, (k0_off36 v281) a + S1x768.size a ≤ S8192x768.size a)
theorem k0_off36_inb : ∀ (i : grid0.Coords) (v281 : BitVec 32) (k0_hw35 : k0_chk35 i v281), ∀ (k0_h2 : k0_cond2 i = 1#1), ∀ a, (k0_off36 v281) a + S1x768.size a ≤ S8192x768.size a := fun i v281 k0_hw35 k0_h2 => k0_hw35 k0_h2

def k0_off37 (v286 : BitVec 32) : Fin 2 → Nat :=
  let v287 : Index := Scalar.indexCast v286
  let c0_194 : Index := 0#32
  ![v287.toNat, 0]

def k0_chk36 (i : grid0.Coords) (v286 : BitVec 32) : Prop :=
  (∀ (k0_h2 : k0_cond2 i = 1#1), ∀ a, (k0_off37 v286) a + S1x768.size a ≤ S8192x768.size a)
theorem k0_off37_inb : ∀ (i : grid0.Coords) (v286 : BitVec 32) (k0_hw36 : k0_chk36 i v286), ∀ (k0_h2 : k0_cond2 i = 1#1), ∀ a, (k0_off37 v286) a + S1x768.size a ≤ S8192x768.size a := fun i v286 k0_hw36 k0_h2 => k0_hw36 k0_h2

def k0_off38 (v293 : BitVec 32) : Fin 2 → Nat :=
  let v294 : Index := Scalar.indexCast v293
  let c0_199 : Index := 0#32
  ![v294.toNat, 0]

def k0_chk37 (i : grid0.Coords) (v293 : BitVec 32) : Prop :=
  (∀ (k0_h2 : k0_cond2 i = 1#1), ∀ a, (k0_off38 v293) a + S1x768.size a ≤ S8192x768.size a)
theorem k0_off38_inb : ∀ (i : grid0.Coords) (v293 : BitVec 32) (k0_hw37 : k0_chk37 i v293), ∀ (k0_h2 : k0_cond2 i = 1#1), ∀ a, (k0_off38 v293) a + S1x768.size a ≤ S8192x768.size a := fun i v293 k0_hw37 k0_h2 => k0_hw37 k0_h2

def k0_off39 (v298 : BitVec 32) : Fin 2 → Nat :=
  let v299 : Index := Scalar.indexCast v298
  let c0_203 : Index := 0#32
  ![v299.toNat, 0]

def k0_chk38 (i : grid0.Coords) (v298 : BitVec 32) : Prop :=
  (∀ (k0_h2 : k0_cond2 i = 1#1), ∀ a, (k0_off39 v298) a + S1x768.size a ≤ S8192x768.size a)
theorem k0_off39_inb : ∀ (i : grid0.Coords) (v298 : BitVec 32) (k0_hw38 : k0_chk38 i v298), ∀ (k0_h2 : k0_cond2 i = 1#1), ∀ a, (k0_off39 v298) a + S1x768.size a ≤ S8192x768.size a := fun i v298 k0_hw38 k0_h2 => k0_hw38 k0_h2

def k0_off40 (v303 : BitVec 32) : Fin 2 → Nat :=
  let v304 : Index := Scalar.indexCast v303
  let c0_207 : Index := 0#32
  ![v304.toNat, 0]

def k0_chk39 (i : grid0.Coords) (v303 : BitVec 32) : Prop :=
  (∀ (k0_h2 : k0_cond2 i = 1#1), ∀ a, (k0_off40 v303) a + S1x768.size a ≤ S8192x768.size a)
theorem k0_off40_inb : ∀ (i : grid0.Coords) (v303 : BitVec 32) (k0_hw39 : k0_chk39 i v303), ∀ (k0_h2 : k0_cond2 i = 1#1), ∀ a, (k0_off40 v303) a + S1x768.size a ≤ S8192x768.size a := fun i v303 k0_hw39 k0_h2 => k0_hw39 k0_h2

def k0_off41 (v308 : BitVec 32) : Fin 2 → Nat :=
  let v309 : Index := Scalar.indexCast v308
  let c0_211 : Index := 0#32
  ![v309.toNat, 0]

def k0_chk40 (i : grid0.Coords) (v308 : BitVec 32) : Prop :=
  (∀ (k0_h2 : k0_cond2 i = 1#1), ∀ a, (k0_off41 v308) a + S1x768.size a ≤ S8192x768.size a)
theorem k0_off41_inb : ∀ (i : grid0.Coords) (v308 : BitVec 32) (k0_hw40 : k0_chk40 i v308), ∀ (k0_h2 : k0_cond2 i = 1#1), ∀ a, (k0_off41 v308) a + S1x768.size a ≤ S8192x768.size a := fun i v308 k0_hw40 k0_h2 => k0_hw40 k0_h2

def k0_off42 (v315 : BitVec 32) : Fin 2 → Nat :=
  let v316 : Index := Scalar.indexCast v315
  let c0_216 : Index := 0#32
  ![v316.toNat, 0]

def k0_chk41 (i : grid0.Coords) (v315 : BitVec 32) : Prop :=
  (∀ (k0_h2 : k0_cond2 i = 1#1), ∀ a, (k0_off42 v315) a + S1x768.size a ≤ S8192x768.size a)
theorem k0_off42_inb : ∀ (i : grid0.Coords) (v315 : BitVec 32) (k0_hw41 : k0_chk41 i v315), ∀ (k0_h2 : k0_cond2 i = 1#1), ∀ a, (k0_off42 v315) a + S1x768.size a ≤ S8192x768.size a := fun i v315 k0_hw41 k0_h2 => k0_hw41 k0_h2

def k0_off43 (v320 : BitVec 32) : Fin 2 → Nat :=
  let v321 : Index := Scalar.indexCast v320
  let c0_220 : Index := 0#32
  ![v321.toNat, 0]

def k0_chk42 (i : grid0.Coords) (v320 : BitVec 32) : Prop :=
  (∀ (k0_h2 : k0_cond2 i = 1#1), ∀ a, (k0_off43 v320) a + S1x768.size a ≤ S8192x768.size a)
theorem k0_off43_inb : ∀ (i : grid0.Coords) (v320 : BitVec 32) (k0_hw42 : k0_chk42 i v320), ∀ (k0_h2 : k0_cond2 i = 1#1), ∀ a, (k0_off43 v320) a + S1x768.size a ≤ S8192x768.size a := fun i v320 k0_hw42 k0_h2 => k0_hw42 k0_h2

def k0_off44 (v325 : BitVec 32) : Fin 2 → Nat :=
  let v326 : Index := Scalar.indexCast v325
  let c0_224 : Index := 0#32
  ![v326.toNat, 0]

def k0_chk43 (i : grid0.Coords) (v325 : BitVec 32) : Prop :=
  (∀ (k0_h2 : k0_cond2 i = 1#1), ∀ a, (k0_off44 v325) a + S1x768.size a ≤ S8192x768.size a)
theorem k0_off44_inb : ∀ (i : grid0.Coords) (v325 : BitVec 32) (k0_hw43 : k0_chk43 i v325), ∀ (k0_h2 : k0_cond2 i = 1#1), ∀ a, (k0_off44 v325) a + S1x768.size a ≤ S8192x768.size a := fun i v325 k0_hw43 k0_h2 => k0_hw43 k0_h2

def k0_off45 (v330 : BitVec 32) : Fin 2 → Nat :=
  let v331 : Index := Scalar.indexCast v330
  let c0_228 : Index := 0#32
  ![v331.toNat, 0]

def k0_chk44 (i : grid0.Coords) (v330 : BitVec 32) : Prop :=
  (∀ (k0_h2 : k0_cond2 i = 1#1), ∀ a, (k0_off45 v330) a + S1x768.size a ≤ S8192x768.size a)
theorem k0_off45_inb : ∀ (i : grid0.Coords) (v330 : BitVec 32) (k0_hw44 : k0_chk44 i v330), ∀ (k0_h2 : k0_cond2 i = 1#1), ∀ a, (k0_off45 v330) a + S1x768.size a ≤ S8192x768.size a := fun i v330 k0_hw44 k0_h2 => k0_hw44 k0_h2

def k0_off46 (v337 : BitVec 32) : Fin 2 → Nat :=
  let v338 : Index := Scalar.indexCast v337
  let c0_233 : Index := 0#32
  ![v338.toNat, 0]

def k0_chk45 (i : grid0.Coords) (v337 : BitVec 32) : Prop :=
  (∀ (k0_h2 : k0_cond2 i = 1#1), ∀ a, (k0_off46 v337) a + S1x768.size a ≤ S8192x768.size a)
theorem k0_off46_inb : ∀ (i : grid0.Coords) (v337 : BitVec 32) (k0_hw45 : k0_chk45 i v337), ∀ (k0_h2 : k0_cond2 i = 1#1), ∀ a, (k0_off46 v337) a + S1x768.size a ≤ S8192x768.size a := fun i v337 k0_hw45 k0_h2 => k0_hw45 k0_h2

def k0_off47 (v342 : BitVec 32) : Fin 2 → Nat :=
  let v343 : Index := Scalar.indexCast v342
  let c0_237 : Index := 0#32
  ![v343.toNat, 0]

def k0_chk46 (i : grid0.Coords) (v342 : BitVec 32) : Prop :=
  (∀ (k0_h2 : k0_cond2 i = 1#1), ∀ a, (k0_off47 v342) a + S1x768.size a ≤ S8192x768.size a)
theorem k0_off47_inb : ∀ (i : grid0.Coords) (v342 : BitVec 32) (k0_hw46 : k0_chk46 i v342), ∀ (k0_h2 : k0_cond2 i = 1#1), ∀ a, (k0_off47 v342) a + S1x768.size a ≤ S8192x768.size a := fun i v342 k0_hw46 k0_h2 => k0_hw46 k0_h2

def k0_off48 (v347 : BitVec 32) : Fin 2 → Nat :=
  let v348 : Index := Scalar.indexCast v347
  let c0_241 : Index := 0#32
  ![v348.toNat, 0]

def k0_chk47 (i : grid0.Coords) (v347 : BitVec 32) : Prop :=
  (∀ (k0_h2 : k0_cond2 i = 1#1), ∀ a, (k0_off48 v347) a + S1x768.size a ≤ S8192x768.size a)
theorem k0_off48_inb : ∀ (i : grid0.Coords) (v347 : BitVec 32) (k0_hw47 : k0_chk47 i v347), ∀ (k0_h2 : k0_cond2 i = 1#1), ∀ a, (k0_off48 v347) a + S1x768.size a ≤ S8192x768.size a := fun i v347 k0_hw47 k0_h2 => k0_hw47 k0_h2

def k0_off49 (v352 : BitVec 32) : Fin 2 → Nat :=
  let v353 : Index := Scalar.indexCast v352
  let c0_245 : Index := 0#32
  ![v353.toNat, 0]

def k0_chk48 (i : grid0.Coords) (v352 : BitVec 32) : Prop :=
  (∀ (k0_h2 : k0_cond2 i = 1#1), ∀ a, (k0_off49 v352) a + S1x768.size a ≤ S8192x768.size a)
theorem k0_off49_inb : ∀ (i : grid0.Coords) (v352 : BitVec 32) (k0_hw48 : k0_chk48 i v352), ∀ (k0_h2 : k0_cond2 i = 1#1), ∀ a, (k0_off49 v352) a + S1x768.size a ≤ S8192x768.size a := fun i v352 k0_hw48 k0_h2 => k0_hw48 k0_h2

@[reducible] def k0_t1_loop : Scf.Loop 32 :=
  let c0_i32_247 : BitVec 32 := 0#32
  let c10_i32 : BitVec 32 := 10#32
  let v358 : BitVec 32 := Scalar.addi c0_i32_247 c10_i32
  let c1_i32 : BitVec 32 := 1#32
  ⟨c0_i32_247, v358, c1_i32⟩
@[reducible] def k0_t2_loop : Scf.Loop 32 :=
  let c0_i32_268 : BitVec 32 := 0#32
  let c32_i32 : BitVec 32 := 32#32
  let v397 : BitVec 32 := Scalar.addi c0_i32_268 c32_i32
  let c1_i32_269 : BitVec 32 := 1#32
  ⟨c0_i32_268, v397, c1_i32_269⟩
@[reducible] def k0_t3_loop : Scf.Loop 32 :=
  let c0_i32_300 : BitVec 32 := 0#32
  let c32_i32_301 : BitVec 32 := 32#32
  let v449 : BitVec 32 := Scalar.addi c0_i32_300 c32_i32_301
  let c1_i32_302 : BitVec 32 := 1#32
  ⟨c0_i32_300, v449, c1_i32_302⟩
@[reducible] def k0_t4_loop : Scf.Loop 32 :=
  let c0_i32_332 : BitVec 32 := 0#32
  let c32_i32_333 : BitVec 32 := 32#32
  let v501 : BitVec 32 := Scalar.addi c0_i32_332 c32_i32_333
  let c1_i32_334 : BitVec 32 := 1#32
  ⟨c0_i32_332, v501, c1_i32_334⟩
@[reducible] def k0_t5_loop : Scf.Loop 32 :=
  let c0_i32_365 : BitVec 32 := 0#32
  let c32_i32_366 : BitVec 32 := 32#32
  let v553 : BitVec 32 := Scalar.addi c0_i32_365 c32_i32_366
  let c1_i32_367 : BitVec 32 := 1#32
  ⟨c0_i32_365, v553, c1_i32_367⟩
@[reducible] def k0_t6_loop : Scf.Loop 32 :=
  let c0_i32_397 : BitVec 32 := 0#32
  let c32_i32_398 : BitVec 32 := 32#32
  let v605 : BitVec 32 := Scalar.addi c0_i32_397 c32_i32_398
  let c1_i32_399 : BitVec 32 := 1#32
  ⟨c0_i32_397, v605, c1_i32_399⟩
@[reducible] def k0_t7_loop : Scf.Loop 32 :=
  let c0_i32_430 : BitVec 32 := 0#32
  let c32_i32_431 : BitVec 32 := 32#32
  let v657 : BitVec 32 := Scalar.addi c0_i32_430 c32_i32_431
  let c1_i32_432 : BitVec 32 := 1#32
  ⟨c0_i32_430, v657, c1_i32_432⟩
@[reducible] def k0_t8_loop : Scf.Loop 32 :=
  let c0_i32_462 : BitVec 32 := 0#32
  let c32_i32_463 : BitVec 32 := 32#32
  let v709 : BitVec 32 := Scalar.addi c0_i32_462 c32_i32_463
  let c1_i32_464 : BitVec 32 := 1#32
  ⟨c0_i32_462, v709, c1_i32_464⟩
@[reducible] def k0_t9_loop : Scf.Loop 32 :=
  let c0_i32_495 : BitVec 32 := 0#32
  let c32_i32_496 : BitVec 32 := 32#32
  let v761 : BitVec 32 := Scalar.addi c0_i32_495 c32_i32_496
  let c1_i32_497 : BitVec 32 := 1#32
  ⟨c0_i32_495, v761, c1_i32_497⟩
@[reducible] def k0_t10_loop : Scf.Loop 32 :=
  let c0_i32_527 : BitVec 32 := 0#32
  let c32_i32_528 : BitVec 32 := 32#32
  let v813 : BitVec 32 := Scalar.addi c0_i32_527 c32_i32_528
  let c1_i32_529 : BitVec 32 := 1#32
  ⟨c0_i32_527, v813, c1_i32_529⟩
@[reducible] def k0_t11_loop : Scf.Loop 32 :=
  let c0_i32_560 : BitVec 32 := 0#32
  let c32_i32_561 : BitVec 32 := 32#32
  let v865 : BitVec 32 := Scalar.addi c0_i32_560 c32_i32_561
  let c1_i32_562 : BitVec 32 := 1#32
  ⟨c0_i32_560, v865, c1_i32_562⟩
@[reducible] def k0_t12_loop : Scf.Loop 32 :=
  let c0_i32_592 : BitVec 32 := 0#32
  let c32_i32_593 : BitVec 32 := 32#32
  let v917 : BitVec 32 := Scalar.addi c0_i32_592 c32_i32_593
  let c1_i32_594 : BitVec 32 := 1#32
  ⟨c0_i32_592, v917, c1_i32_594⟩
@[reducible] def k0_t13_loop : Scf.Loop 32 :=
  let c0_i32_625 : BitVec 32 := 0#32
  let c32_i32_626 : BitVec 32 := 32#32
  let v969 : BitVec 32 := Scalar.addi c0_i32_625 c32_i32_626
  let c1_i32_627 : BitVec 32 := 1#32
  ⟨c0_i32_625, v969, c1_i32_627⟩
def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x12x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x12x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x12x32 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x768x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Proof.Attn.lean ====
/- The attention call's payloads read at an index: the scaled logits, each head's slab of them less its row's
   greatest, the quotient by the head's sum, the product with the values and the output projection. -/
module

public import proofs.«01_k».proof.Proof.Gen.KernelIdeal.Frame
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

theorem head_slices (h : Fin 12) : S512x384.Slices ![0, h.val * 32] S512x32 := by
  revert h; decide

/-- One head's slab of the logits. -/
def slab (l : FVec Ideal S512x384 .f32) (h : Fin 12) : FVec Ideal S512x32 .f32 :=
  extractStridedSlice S512x32 ![0, h.val * 32] l (head_slices h)

/-- A slab less the greatest entry of each row. -/
def less (y : FVec Ideal S512x32 .f32) : FVec Ideal S512x32 .f32 :=
  subf y (broadcastTo S512x32 (shapeCast S512x1 (multiReduction .maximumf [1] S512 y 0xFF800000#32 reduces_S512x32_S512 (.inl rfl) rfl) shapeCasts_S512_S512x1) broadcasts_S512x1_S512x32)

theorem joins : Shape.Concatenates ((List.ofFn fun h : Fin 12 => (⟨S512x32, fun _ => (0 : EReal)⟩ : (s : Shape) × (s.Idx → EReal))).map (·.1)) S512x384 1 := by
  decide

/-- The slabs less their rows' greatest, side by side. -/
def cent (l : FVec Ideal S512x384 .f32) : FVec Ideal S512x384 .f32 :=
  concatenate S512x384 1 (List.ofFn fun h : Fin 12 => (⟨S512x32, less (slab l h)⟩ : (s : Shape) × (s.Idx → EReal))) joins

/-- The exponentials divided by a product with a matrix. -/
def quot (e : FVec Ideal S512x384 .f32) (o : Vec Ideal S384x384 .f32) : FVec Ideal S512x384 .f32 :=
  divf e (matmul dot_S512x384_S384x384_S512x384_1_0_0_1_n_n (some .fp32) e (φ₂ := .f32) (shapeCast S384x384 o shapeCasts_S384x384_S384x384) (constant S512x384 .f32 0x00000000#32))

/-- The product with the values. -/
def times (a : FVec Ideal S512x384 .f32) (p : Vec Ideal S1x384x768 .f32) : FVec Ideal S512x768 .f32 :=
  matmul dot_S512x384_S384x768_S512x768_1_0_0_1_n_n none a (φ₂ := .f32) (shapeCast S384x768 p shapeCasts_S1x384x768_S384x768) (constant S512x768 .f32 0x00000000#32)

theorem pay9_eq (v0 : Vec Ideal S1x512x768 .f32) (v2 : Vec Ideal S768x768 .f32) (v5 : Vec Ideal S1x768 .f32) (v9 : Vec Ideal S1x768x384 .f32)
    (o : Vec Ideal S384x384 .f32) (p : Vec Ideal S1x384x768 .f32) :
    k1_pay9 (k1_pay2 v0 v2 v5 v9) (k1_pay3 v0 v2 v5 v9) (k1_pay4 v0 v2 v5 v9) (k1_pay5 v0 v2 v5 v9) (k1_pay6 v0 v2 v5 v9) (k1_pay7 v0 v2 v5 v9) (k1_pay8 v0 v2 v5 v9) o p
      = times (quot (exp (cent (k1_pay2 v0 v2 v5 v9))) o) p := by
  rfl

theorem logits_at (v0 : Vec Ideal S1x512x768 .f32) (v2 : Vec Ideal S768x768 .f32) (v5 : Vec Ideal S1x768 .f32) (v9 : Vec Ideal S1x768x384 .f32)
    (n : Fin 512) (j : Fin 384) :
    k1_pay2 v0 v2 v5 v9 (ix2 n j)
      = (∑ k : Fin 768, ((∑ c : Fin 768, v0 (ix3 0 n c) * v2 (ix2 c k)) + v5 (ix2 0 k)) * v9 (ix3 0 k j)) * Ideal.ofBits .f32 0x3E000000#32 := by
  pointwise [k1_pay2]

theorem proj_at (y : FVec Ideal S512x768 .f32) (w : Vec Ideal S768x768 .f32) (b : Vec Ideal S1x768 .f32) (z : Fin 1) (n : Fin 512) (c : Fin 768) :
    k1_pay1 y w b (ix3 z n c) = (∑ j : Fin 768, y (ix2 n j) * w (ix2 j c)) + b (ix2 0 c) := by
  pointwise [k1_pay1]

theorem less_at (y : FVec Ideal S512x32 .f32) (n : Fin 512) (s : Fin 32) :
    less y (ix2 n s) = y (ix2 n s) - Finset.univ.fold max (Ideal.ofBits .f32 0xFF800000#32) fun t : Fin 32 => y (ix2 n t) := by
  pointwise [less]

theorem slab_at (l : FVec Ideal S512x384 .f32) (h : Fin 12) (n : Fin 512) (s : Fin 32) :
    slab l h (ix2 n s) = l (ix2 n ⟨h.val * 32 + s.val, by omega⟩) := by
  pointwise [slab]

theorem cent_at (l : FVec Ideal S512x384 .f32) (h : Fin 12) (n : Fin 512) (s : Fin 32) :
    cent l (ix2 n ⟨h.val * 32 + s.val, by omega⟩)
      = l (ix2 n ⟨h.val * 32 + s.val, by omega⟩) - Finset.univ.fold max (Ideal.ofBits .f32 0xFF800000#32) fun t : Fin 32 => l (ix2 n ⟨h.val * 32 + t.val, by omega⟩) := by
  have e : cent l (ix2 n ⟨h.val * 32 + s.val, by omega⟩) = less (slab l h) (ix2 n s) :=
    concatenate_ofFn_apply (t := S512x384) (s₁ := S512x32) (1 : Fin 2) (fun h : Fin 12 => less (slab l h)) joins rfl 32 rfl
      (ix2 n ⟨h.val * 32 + s.val, by omega⟩) h
      (show (h.val * 32 + s.val) / 32 = h.val by omega) (ix2 n s) (show s.val = (h.val * 32 + s.val) % 32 by omega)
      (fun b hb => match b, hb with
        | ⟨0, _⟩, _ => rfl
        | ⟨1, _⟩, hb => absurd rfl hb)
  rw [e, less_at, slab_at]
  simp only [slab_at]

theorem quot_at (e : FVec Ideal S512x384 .f32) (o : Vec Ideal S384x384 .f32) (n : Fin 512) (j : Fin 384) :
    quot e o (ix2 n j) = Ideal.div (e (ix2 n j)) (∑ k : Fin 384, e (ix2 n k) * o (ix2 k j)) := by
  pointwise [quot]

theorem times_at (a : FVec Ideal S512x384 .f32) (p : Vec Ideal S1x384x768 .f32) (n : Fin 512) (j : Fin 768) :
    times a p (ix2 n j) = ∑ k : Fin 384, a (ix2 n k) * p (ix3 0 k j) := by
  pointwise [times]

/-- One row's scaled logits, from the row of `x`, the query weights and the block matrix of keys. -/
def rowL (x : Fin 768 → EReal) (wq : Fin 768 → Fin 768 → EReal) (bq : Fin 768 → EReal) (kb : Fin 768 → Fin 384 → EReal) (j : Fin 384) : EReal :=
  (∑ k : Fin 768, ((∑ c : Fin 768, x c * wq c k) + bq k) * kb k j) * Ideal.ofBits .f32 0x3E000000#32

/-- The exponential of a logit less the greatest of its head. -/
def rowE (l : Fin 384 → EReal) (j : Fin 384) : EReal :=
  Ideal.exp (l j - Finset.univ.fold max (Ideal.ofBits .f32 0xFF800000#32) fun t : Fin 32 => l ⟨j.val / 32 * 32 + t.val, by omega⟩)

/-- One row of the call's result from its exponentials. -/
def rowO (e : Fin 384 → EReal) (on : Fin 384 → Fin 384 → EReal) (vb : Fin 384 → Fin 768 → EReal) (wp : Fin 768 → Fin 768 → EReal) (bp : Fin 768 → EReal)
    (c : Fin 768) : EReal :=
  (∑ j : Fin 768, (∑ k : Fin 384, Ideal.div (e k) (∑ k' : Fin 384, e k' * on k' k) * vb k j) * wp j c) + bp c

theorem exp_cent_at (l : FVec Ideal S512x384 .f32) (n : Fin 512) (j : Fin 384) :
    exp (F := Ideal) (cent l) (ix2 n j) = rowE (fun j => l (ix2 n j)) j := by
  have e : j = ⟨(⟨j.val / 32, by omega⟩ : Fin 12).val * 32 + (⟨j.val % 32, by omega⟩ : Fin 32).val, by dsimp only; omega⟩ :=
    Fin.ext (show j.val = j.val / 32 * 32 + j.val % 32 by omega)
  have h := cent_at l ⟨j.val / 32, by omega⟩ n ⟨j.val % 32, by omega⟩
  rw [← e] at h
  exact congrArg Ideal.exp h

/-- The call's payload, at a row of its block. -/
theorem body_at (v0 : Vec Ideal S1x512x768 .f32) (v2 : Vec Ideal S768x768 .f32) (v5 : Vec Ideal S1x768 .f32) (v9 : Vec Ideal S1x768x384 .f32)
    (o : Vec Ideal S384x384 .f32) (p : Vec Ideal S1x384x768 .f32) (w : Vec Ideal S768x768 .f32) (b : Vec Ideal S1x768 .f32)
    (z : Fin 1) (n : Fin 512) (c : Fin 768) :
    k1_pay1 (k1_pay9 (k1_pay2 v0 v2 v5 v9) (k1_pay3 v0 v2 v5 v9) (k1_pay4 v0 v2 v5 v9) (k1_pay5 v0 v2 v5 v9) (k1_pay6 v0 v2 v5 v9) (k1_pay7 v0 v2 v5 v9) (k1_pay8 v0 v2 v5 v9) o p) w b (ix3 z n c)
      = rowO (rowE (rowL (fun c => v0 (ix3 0 n c)) (fun c k => v2 (ix2 c k)) (fun k => v5 (ix2 0 k)) (fun k j => v9 (ix3 0 k j))))
          (fun k j => o (ix2 k j)) (fun k j => p (ix3 0 k j)) (fun j c => w (ix2 j c)) (fun c => b (ix2 0 c)) c := by
  have hl : (fun j => k1_pay2 v0 v2 v5 v9 (ix2 n j)) = rowL (fun c => v0 (ix3 0 n c)) (fun c k => v2 (ix2 c k)) (fun k => v5 (ix2 0 k)) (fun k j => v9 (ix3 0 k j)) :=
    funext fun j => logits_at v0 v2 v5 v9 n j
  rw [pay9_eq, proj_at]
  simp only [times_at, quot_at, exp_cent_at, hl]
  rfl

theorem pmat_at (x : Vec Ideal S1x32x768 .f32) (w : Vec Ideal S64x768 .f32) (b : Vec Ideal S1x1x64 .f32) (z : Fin 1) (s : Fin 32) (d : Fin 64) :
    k0_pay1 x w b (ix3 z s d) = (∑ c : Fin 768, x (ix3 0 s c) * w (ix2 d c)) + b (ix3 0 0 d) := by
  pointwise [k0_pay1]

end Cert.KernelIdeal.Attn
-- ==== Proof.Regions.lean ====
/- The two calls' result arrays, at an index, from the contents of the arrays they read. -/
module

public import proofs.«01_k».proof.Proof.Attn

@[expose] public section

set_option maxRecDepth 16384

noncomputable section

namespace Cert.KernelIdeal.Regions

open Cert.KernelIdeal Cert.KernelIdeal.Gen Cert.KernelIdeal.Attn Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx1 : ∀ t : Fin cfg1.N, win1_0.index t = ![(grid1.coords t 0).val, (grid1.coords t 1).val, 0] ∧ win1_1.index t = ![0, 0] ∧ win1_2.index t = ![0, 0]
    ∧ win1_3.index t = ![(grid1.coords t 0).val, 0, 0] ∧ win1_4.index t = ![0, 0] ∧ win1_5.index t = ![(grid1.coords t 0).val, 0, 0]
    ∧ win1_6.index t = ![0, 0] ∧ win1_7.index t = ![0, 0] ∧ win1_8.index t = ![(grid1.coords t 0).val, (grid1.coords t 1).val, 0] :=
  (by decide +kernel : ∀ t : Fin grid1.N, _)

/-- The attention call's result array, over the contents of the arrays it reads. -/
def G1 (x : FVec Ideal S2x8192x768 .f32) (wq : FVec Ideal S768x768 .f32) (bq : FVec Ideal S1x768 .f32) (kb : FVec Ideal S2x768x384 .f32)
    (on : FVec Ideal S384x384 .f32) (vb : FVec Ideal S2x384x768 .f32) (wp : FVec Ideal S768x768 .f32) (bp : FVec Ideal S1x768 .f32) : FVec Ideal S2x8192x768 .f32 :=
  fun i => rowO (rowE (rowL (fun c => x (ix3 (i 0) (i 1) c)) (fun c k => wq (ix2 c k)) (fun k => bq (ix2 0 k)) (fun k j => kb (ix3 (i 0) k j))))
          (fun k j => on (ix2 k j)) (fun k j => vb (ix3 (i 0) k j)) (fun j c => wp (ix2 j c)) (fun c => bp (ix2 0 c)) (i 2)

set_option maxHeartbeats 1600000 in
theorem final1 (c : Dev nD) : (dat1 V c).arrAt (8 : Fin cfg1.W) cfg1.N
    = G1 (V c main_arg0) (V c main_v70) (V c main_v72) (V c main_arg6) (V c main_v82) (V c main_v68) (V c main_v73) (V c main_v74) := by
  refine (dat1 V c).arrAt_eq_of_covers (8 : Fin cfg1.W) _ (by decide +kernel) fun t _ y => ?_
  blk_simp
  rw [after1_8]; frame_out
  idx_vars y
  refine (body_at _ _ _ _ _ _ _ _ _ _ _).trans ?_
  have h0 : ∀ k : Fin 768, iblk1 V c 0 t (ix3 0 y1 k)
      = V c main_arg0 (ix3 ((((cfg1.win (8 : Fin cfg1.W)).blk t).view.emb (ix3 y0 y1 y2)) 0) ((((cfg1.win (8 : Fin cfg1.W)).blk t).view.emb (ix3 y0 y1 y2)) 1) k) := by
    intro k; blk_ext [iblk1, idx1 t]
  have h1 : ∀ k j : Fin 768, iblk1 V c 1 t (ix2 k j) = V c main_v70 (ix2 k j) := by
    intro k j; blk_ext [iblk1, idx1 t]
  have h2 : ∀ k : Fin 768, iblk1 V c 2 t (ix2 0 k) = V c main_v72 (ix2 0 k) := by
    intro k; blk_ext [iblk1, idx1 t]
  have h3 : ∀ (k : Fin 768) (j : Fin 384), iblk1 V c 3 t (ix3 0 k j)
      = V c main_arg6 (ix3 ((((cfg1.win (8 : Fin cfg1.W)).blk t).view.emb (ix3 y0 y1 y2)) 0) k j) := by
    intro k j; blk_ext [iblk1, idx1 t]
  have h4 : ∀ k j : Fin 384, iblk1 V c 4 t (ix2 k j) = V c main_v82 (ix2 k j) := by
    intro k j; blk_ext [iblk1, idx1 t]
  have h5 : ∀ (k : Fin 384) (j : Fin 768), iblk1 V c 5 t (ix3 0 k j)
      = V c main_v68 (ix3 ((((cfg1.win (8 : Fin cfg1.W)).blk t).view.emb (ix3 y0 y1 y2)) 0) k j) := by
    intro k j; blk_ext [iblk1, idx1 t]
  have h6 : ∀ k j : Fin 768, iblk1 V c 6 t (ix2 k j) = V c main_v73 (ix2 k j) := by
    intro k j; blk_ext [iblk1, idx1 t]
  have h7 : ∀ k : Fin 768, iblk1 V c 7 t (ix2 0 k) = V c main_v74 (ix2 0 k) := by
    intro k; blk_ext [iblk1, idx1 t]
  have h8 : y2 = (((cfg1.win (8 : Fin cfg1.W)).blk t).view.emb (ix3 y0 y1 y2)) 2 := by
    refine Fin.ext ?_
    blk_simp [idx1 t]
  simp only [h0, h1, h2, h3, h4, h5, h6, h7]
  exact congrArg _ h8

theorem idx0 : ∀ t : Fin cfg0.N, win0_0.index t = ![t.val, 0, 0] ∧ win0_1.index t = ![24 + t.val % 12, 0] ∧ win0_2.index t = ![t.val % 12, 0, 0]
    ∧ win0_3.index t = ![t.val / 12, t.val % 12, 0] :=
  (by decide +kernel : ∀ t : Fin grid0.N, _)

/-- The value projection's result array: row `h * 32 + s` of batch `b` is the projection of block `b * 12 + h`'s row `s`. -/
def G0 (x : FVec Ideal S24x32x768 .f32) (w : FVec Ideal S2304x768 .f32) (b : FVec Ideal S12x1x64 .f32) : FVec Ideal S2x384x64 .f32 :=
  fun i => (∑ c : Fin 768, x (ix3 ⟨(i 0).val * 12 + (i 1).val / 32, by have h0 : (i 0).val < 2 := (i 0).isLt; have h1 : (i 1).val < 384 := (i 1).isLt; omega⟩ ⟨(i 1).val % 32, by omega⟩ c)
      * w (ix2 ⟨1536 + (i 1).val / 32 * 64 + (i 2).val, by have h1 : (i 1).val < 384 := (i 1).isLt; have h2 : (i 2).val < 64 := (i 2).isLt; omega⟩ c))
    + b (ix3 ⟨(i 1).val / 32, by have h1 : (i 1).val < 384 := (i 1).isLt; omega⟩ 0 (i 2))

set_option maxHeartbeats 1600000 in
theorem final0 (c : Dev nD) : (dat0 V c).arrAt (3 : Fin cfg0.W) cfg0.N = G0 (V c main_v4) (V c main_arg1) (V c main_v6) := by
  refine (dat0 V c).arrAt_eq_of_covers (3 : Fin cfg0.W) _ (by decide +kernel) fun t _ y => ?_
  blk_simp
  rw [after0_3]; frame_out
  idx_vars y
  refine (pmat_at _ _ _ _ _ _).trans ?_
  unfold G0
  have ht : t.val < 24 := t.isLt
  blk_point [iblk0, idx0 t]

end Cert.KernelIdeal.Regions
-- ==== Proof.HostStages.lean ====
/- The host operations around the two calls, as functions, each read at an index: the sampled rows of `x`, the value
   bias, the block-diagonal matrix of values, the block matrix of ones, the transposed weights. -/
module

public import proofs.«01_k».proof.Proof.Gen.KernelIdeal.Frame
public import Idealize.ShloMosaic.Lib.Pointwise
public import Idealize.ShloMosaic.Lib.WordCmp
public import Idealize.ShloMosaic.Lib.Routing.OpsSet
public import Idealize.ShloMosaic.Lib.Routing.OpsPair

@[expose] public section

set_option maxRecDepth 16384

noncomputable section

namespace Cert.KernelIdeal.HostStages

open Cert.KernelIdeal Cert.KernelIdeal.Gen Idealize.ShloMosaic Idealize.ShloMosaic.TcCoe Idealize.SL.Sem

/-! ## The sampled rows of `x` -/

/-- The sampled rows' numbers, one per gathered channel. -/
def rowsAt (s : IVec S2x12x32 32) : IVec S2x12x32x768 32 :=
  broadcastInDim S2x12x32x768 ![0, 1, 2, 3] bcast_S2x12x32x1_S2x12x32x768_0_1_2_3 (broadcastInDim S2x12x32x1 ![0, 1, 2] bcast_S2x12x32_S2x12x32x1_0_1_2 s)

/-- The row numbers with a negative one counted from the end. -/
def wrapped (i : IVec S2x12x32x768 32) : IVec S2x12x32x768x1 32 :=
  shapeCast _ (select (cmpi .slt i (broadcastInDim S2x12x32x768 ![] bcast_S_S2x12x32x768 (constantI S_ 32 0#32)))
    (addi i (broadcastInDim S2x12x32x768 ![] bcast_S_S2x12x32x768 (constantI S_ 32 8192#32))) i) shapeCasts_S2x12x32x768_S2x12x32x768x1

/-- Whether a wrapped row number is a row. -/
def inRange (i : IVec S2x12x32x768x1 32) : IVec S2x12x32x768 1 :=
  Host.reduce IntOp.andi (andi (cmpi .sge i (broadcastInDim S2x12x32x768x1 ![] bcast_S_S2x12x32x768x1 (constantI S_ 32 0#32)))
    (cmpi .sle i (broadcastInDim S2x12x32x768x1 ![0, 1, 2, 3, 4] bcast_S1x1x1x1x1_S2x12x32x768x1_0_1_2_3_4
      (broadcastInDim S1x1x1x1x1 ![4] bcast_S1_S1x1x1x1x1_4 (constantI S1 32 8191#32))))) (constantI S_ 1 1#1) reducesTo_S2x12x32x768x1_S2x12x32x768_d4 h_S_

/-- The rows of `x` as the gather reads them. -/
def flat (x : FVec Ideal S2x8192x768 .f32) : FVec Ideal S2x8192x768 .f32 :=
  shapeCast _ (broadcastInDim S2x1x8192x768 ![0, 2, 3] bcast_S2x8192x768_S2x1x8192x768_0_2_3 x) shapeCasts_S2x1x8192x768_S2x8192x768

/-- The rows taken at wrapped row numbers. -/
def gathered (v : FVec Ideal S2x8192x768 .f32) (i : IVec S2x12x32x768x1 32) : FVec Ideal S2x12x32x768 .f32 :=
  Host.gather gather_S2x8192x768_S2x12x32x768x1_S2x12x32x768_n_1_02_03_1_4_111 v i

/-- The sampled rows, block by block. -/
def taken (x : FVec Ideal S2x8192x768 .f32) (s : IVec S2x12x32 32) : FVec Ideal S24x32x768 .f32 :=
  shapeCast _ (select (inRange (wrapped (rowsAt s))) (gathered (flat x) (wrapped (rowsAt s)))
    (broadcastInDim S2x12x32x768 ![] bcast_S_S2x12x32x768 (constant S_ .f32 0x7FC00000#32))) shapeCasts_S2x12x32x768_S24x32x768

theorem flat_at (x : FVec Ideal S2x8192x768 .f32) (i : Fin 2) (n : Fin 8192) (c : Fin 768) : flat x (ix3 i n c) = x (ix3 i n c) := by
  pointwise [flat]

theorem toNat_row (n : Fin 8192) : min (BitVec.ofNat 32 n.val).toInt.toNat 8191 = n.val := by
  have h := n.isLt
  have e : (BitVec.ofNat 32 n.val).toInt = (n.val : Int) := by
    rw [BitVec.toInt_eq_toNat_of_lt (by rw [BitVec.toNat_ofNat]; omega), BitVec.toNat_ofNat]
    omega
  rw [e]; omega

theorem gathered_at (v : FVec Ideal S2x8192x768 .f32) (s : IVec S2x12x32x768x1 32) (i : Fin 2) (h : Fin 12) (r : Fin 32) (c : Fin 768)
    (n : Fin 8192) (hn : s (ix5 i h r c 0) = BitVec.ofNat 32 n.val) :
    gathered v s (ix4 i h r c) = v (ix3 i n c) := by
  unfold gathered Host.gather
  refine congrArg v (funext fun a => Fin.ext ?_)
  have hs : ∀ p, gather_S2x8192x768_S2x12x32x768x1_S2x12x32x768_n_1_02_03_1_4_111.siIdx (ix4 i h r c) p = ix5 i h r c 0 := by
    intro p
    funext b; refine Fin.ext ?_
    match b with
    | ⟨0, _⟩ => rfl
    | ⟨1, _⟩ => rfl
    | ⟨2, _⟩ => rfl
    | ⟨3, _⟩ => rfl
    | ⟨4, _⟩ => exact Nat.lt_one_iff.1 p.isLt
  match a with
  | ⟨0, _⟩ => exact (show 0 + i.val + 0 = i.val by omega)
  | ⟨1, _⟩ =>
    show min (s (gather_S2x8192x768_S2x12x32x768x1_S2x12x32x768_n_1_02_03_1_4_111.siIdx (ix4 i h r c) ⟨0, by decide⟩)).toInt.toNat 8191 + 0 + 0 = n.val
    rw [hs, hn, toNat_row]; rfl
  | ⟨2, _⟩ => exact (show 0 + c.val + 0 = c.val by omega)

theorem taken_at (x : FVec Ideal S2x8192x768 .f32) (s : IVec S2x12x32 32) (i : Fin 2) (h : Fin 12) (r : Fin 32) (c : Fin 768)
    (n : Fin 8192) (hn : s (ix3 i h r) = BitVec.ofNat 32 n.val) :
    taken x s (ix3 ⟨i.val * 12 + h.val, by omega⟩ r c) = x (ix3 i n c) := by
  have e0 : IntOp.cmpi CmpIPredicate.slt (BitVec.ofNat 32 n.val) 0#32 = 0#1 := by word_cmp
  have hw : ∀ e : Fin 1, wrapped (rowsAt s) (ix5 i h r c e) = BitVec.ofNat 32 n.val := by
    intro e
    pointwise [wrapped, rowsAt, hn]
    rw [e0]; rfl
  have hr : inRange (wrapped (rowsAt s)) (ix4 i h r c) = 1#1 := by
    pointwise [inRange, hw]
    have e1 : IntOp.cmpi CmpIPredicate.sge (BitVec.ofNat 32 n.val) 0#32 = 1#1 := by word_cmp
    have e2 : IntOp.cmpi CmpIPredicate.sle (BitVec.ofNat 32 n.val) 8191#32 = 1#1 := by word_cmp
    rw [e1, e2]; decide
  have hg := gathered_at (flat x) (wrapped (rowsAt s)) i h r c n (hw 0)
  pointwise [taken, hr, hg, flat_at]

/-! ## The value bias, the transposed weights, the rows of the other biases -/

/-- The value part of the bias, head by head. -/
def biasV (b : FVec Ideal S2304 .f32) : FVec Ideal S12x1x64 .f32 :=
  shapeCast _ (extractStridedSlice S768 ![1536] b slices_S2304_S768_1536) shapeCasts_S768_S12x1x64

theorem biasV_at (b : FVec Ideal S2304 .f32) (h : Fin 12) (z : Fin 1) (d : Fin 64) :
    biasV b (ix3 h z d) = b (ix1 ⟨1536 + (h.val * 64 + d.val), by omega⟩) := by
  pointwise [biasV]

/-! ## The block matrix of ones -/

/-- The unit matrix over the heads. -/
def eye : FVec Ideal S12x12 .f32 :=
  uitofp .f32 (cmpi .eq (addi (iotaInDim S12x12 32 0) (broadcastInDim S12x12 ![] bcast_S_S12x12 (constantI S_ 32 0#32))) (iotaInDim S12x12 32 1))

/-- Its product, block by block, with a matrix of ones. -/
def blocks : FVec Ideal S384x384 .f32 :=
  shapeCast _ (mulf (broadcastInDim S12x32x12x32 ![0, 1, 2, 3] bcast_S12x1x12x1_S12x32x12x32_0_1_2_3 (broadcastInDim S12x1x12x1 ![0, 2] bcast_S12x12_S12x1x12x1_0_2 eye))
    (broadcastInDim S12x32x12x32 ![0, 1, 2, 3] bcast_S1x32x1x32_S12x32x12x32_0_1_2_3 (broadcastInDim S1x32x1x32 ![1, 3] bcast_S32x32_S1x32x1x32_1_3
      (broadcastInDim S32x32 ![] bcast_S_S32x32 (constant (F := Ideal) S_ .f32 0x3F800000#32))))) shapeCasts_S12x32x12x32_S384x384

theorem eye_at (g h : Fin 12) : eye (ix2 g h) = if g = h then 1 else 0 := by
  have e : ∀ g h : Fin 12, IntOp.cmpi CmpIPredicate.eq (IntOp.addi (BitVec.ofNat 32 g.val) 0#32) (BitVec.ofNat 32 h.val) = if g = h then 1#1 else 0#1 := by
    decide
  pointwise [eye]
  rw [e]
  by_cases hgh : g = h
  · rw [if_pos hgh, if_pos hgh]
    exact (by norm_num : (((1 : ℕ) : ℝ) : EReal) = 1)
  · rw [if_neg hgh, if_neg hgh]
    exact (by norm_num : (((0 : ℕ) : ℝ) : EReal) = 0)

theorem blocks_at (g h : Fin 12) (s t : Fin 32) :
    blocks (ix2 ⟨g.val * 32 + s.val, by omega⟩ ⟨h.val * 32 + t.val, by omega⟩) = if g = h then 1 else 0 := by
  pointwise [blocks, eye_at]

/-! ## The block-diagonal matrix of values -/

theorem head_slices (h : Fin 12) : S2x384x64.Slices ![0, h.val * 32, 0] S2x32x64 := by
  revert h; decide

/-- Where one head's values go: the block's first row and column. -/
def corner (h : Fin 12) : IVec S2 32 :=
  concatenate S2 0 [⟨S1, broadcastInDim S1 ![] bcast_S_S1 (constantI S_ 32 (BitVec.ofNat 32 (h.val * 32)))⟩, ⟨S1, broadcastInDim S1 ![] bcast_S_S1 (constantI S_ 32 (BitVec.ofNat 32 (h.val * 64)))⟩] concatenates_S1_S1_S2_d0

/-- One head's values written into the matrix. -/
def put (z : FVec Ideal S2x384x768 .f32) (y : FVec Ideal S2x384x64 .f32) (h : Fin 12) : FVec Ideal S2x384x768 .f32 :=
  Host.scatter scatter_S2x384x768_S2_S2x32x64_012_n_12_0 (fun _ b => b) z (corner h) (extractStridedSlice S2x32x64 ![0, h.val * 32, 0] y (head_slices h))

/-- The matrix after the first `k` heads. -/
def stack (y : FVec Ideal S2x384x64 .f32) : (k : Nat) → k ≤ 12 → FVec Ideal S2x384x768 .f32
  | 0, _ => broadcastInDim S2x384x768 ![] bcast_S_S2x384x768 (constant S_ .f32 0x00000000#32)
  | k + 1, hk => put (stack y k (Nat.le_of_succ_le hk)) y ⟨k, hk⟩

theorem corner_at (h : Fin 12) : corner h (ix1 0) = BitVec.ofNat 32 (h.val * 32) ∧ corner h (ix1 1) = BitVec.ofNat 32 (h.val * 64) := by
  constructor
  · pointwise [corner]
  · pointwise [corner]

theorem slice_at (y : FVec Ideal S2x384x64 .f32) (h : Fin 12) (i : Fin 2) (s : Fin 32) (d : Fin 64) :
    extractStridedSlice S2x32x64 ![0, h.val * 32, 0] y (head_slices h) (ix3 i s d) = y (ix3 i ⟨h.val * 32 + s.val, by omega⟩ d) := by
  pointwise

theorem toInt_small (n : Nat) (h : n < 1024) : (BitVec.ofNat 32 n).toInt = (n : Int) := by
  rw [BitVec.toInt_eq_toNat_of_lt (by rw [BitVec.toNat_ofNat]; omega), BitVec.toNat_ofNat]
  omega

theorem lands (h : Fin 12) (i' : Fin 2) (s : Fin 32) (d : Fin 64) (i : Fin 2) (r : Fin 384) (j : Fin 768) :
    scatter_S2x384x768_S2_S2x32x64_012_n_12_0.resultIdx? (ix3 i' s d) (corner h) = some (ix3 i r j)
      ↔ i'.val = i.val ∧ h.val * 32 + s.val = r.val ∧ h.val * 64 + d.val = j.val := by
  rw [Routing.resultIdx?_eq_some]
  have h1 : scatter_S2x384x768_S2_S2x32x64_012_n_12_0.start (ix3 i' s d) (corner h) (1 : Fin 3) = ((h.val * 32 : Nat) : Int) := by
    rw [← toInt_small (h.val * 32) (by omega), ← (corner_at h).1]
    refine congrArg (fun p => (corner h p).toInt) (funext fun b => Fin.ext ?_)
    match b with
    | ⟨0, _⟩ => rfl
  have h2 : scatter_S2x384x768_S2_S2x32x64_012_n_12_0.start (ix3 i' s d) (corner h) (2 : Fin 3) = ((h.val * 64 : Nat) : Int) := by
    rw [← toInt_small (h.val * 64) (by omega), ← (corner_at h).2]
    refine congrArg (fun p => (corner h p).toInt) (funext fun b => Fin.ext ?_)
    match b with
    | ⟨0, _⟩ => rfl
  constructor
  · intro q
    have q0 : (0 : Int) + (i'.val : Int) = (i.val : Int) := q (0 : Fin 3)
    have q1 : scatter_S2x384x768_S2_S2x32x64_012_n_12_0.start (ix3 i' s d) (corner h) (1 : Fin 3) + (s.val : Int) = (r.val : Int) := q (1 : Fin 3)
    have q2 : scatter_S2x384x768_S2_S2x32x64_012_n_12_0.start (ix3 i' s d) (corner h) (2 : Fin 3) + (d.val : Int) = (j.val : Int) := q (2 : Fin 3)
    rw [h1] at q1; rw [h2] at q2
    omega
  · rintro ⟨q0, q1, q2⟩ a
    match a with
    | ⟨0, _⟩ => exact (show (0 : Int) + (i'.val : Int) = (i.val : Int) by omega)
    | ⟨1, _⟩ =>
      show scatter_S2x384x768_S2_S2x32x64_012_n_12_0.start (ix3 i' s d) (corner h) (1 : Fin 3) + (s.val : Int) = (r.val : Int)
      rw [h1]; omega
    | ⟨2, _⟩ =>
      show scatter_S2x384x768_S2_S2x32x64_012_n_12_0.start (ix3 i' s d) (corner h) (2 : Fin 3) + (d.val : Int) = (j.val : Int)
      rw [h2]; omega

theorem put_at (z : FVec Ideal S2x384x768 .f32) (y : FVec Ideal S2x384x64 .f32) (h g : Fin 12) (i : Fin 2) (s : Fin 32) (j : Fin 768) :
    put z y h (ix3 i ⟨g.val * 32 + s.val, by omega⟩ j)
      = if g = h ∧ j.val / 64 = h.val then y (ix3 i ⟨g.val * 32 + s.val, by omega⟩ ⟨j.val % 64, by omega⟩) else z (ix3 i ⟨g.val * 32 + s.val, by omega⟩ j) := by
  unfold put
  by_cases hc : g = h ∧ j.val / 64 = h.val
  · rw [if_pos hc]
    obtain ⟨rfl, hj⟩ := hc
    refine Routing.scatter_set_hit _ _ _ _ _ _ (fun k hk => ?_) (ix3 i s ⟨j.val % 64, by omega⟩) ((lands _ _ _ _ _ _ _).2 ⟨rfl, rfl, by dsimp only; omega⟩)
    idx_vars k
    obtain ⟨e0, e1, e2⟩ := (lands _ _ _ _ _ _ _).1 hk
    rw [slice_at]
    have e1' : g.val * 32 + k1.val = g.val * 32 + s.val := e1
    have hs : k1 = s := Fin.ext (by omega)
    have hd : k2 = ⟨j.val % 64, by omega⟩ := Fin.ext (show k2.val = j.val % 64 by omega)
    have hi : k0 = i := Fin.ext (by omega)
    rw [hs, hd, hi]
  · rw [if_neg hc]
    refine Routing.scatter_set_miss _ _ _ _ _ fun k hk => hc ?_
    idx_vars k
    obtain ⟨e0, e1, e2⟩ := (lands _ _ _ _ _ _ _).1 hk
    dsimp only at e1
    exact ⟨Fin.ext (by omega), by omega⟩

theorem stack_at (y : FVec Ideal S2x384x64 .f32) (g : Fin 12) (i : Fin 2) (s : Fin 32) (j : Fin 768) (k : Nat) (hk : k ≤ 12) :
    stack y k hk (ix3 i ⟨g.val * 32 + s.val, by omega⟩ j)
      = if g.val < k ∧ j.val / 64 = g.val then y (ix3 i ⟨g.val * 32 + s.val, by omega⟩ ⟨j.val % 64, by omega⟩) else 0 := by
  induction k with
  | zero =>
    rw [if_neg (by omega)]
    pointwise [stack]
  | succ k ih =>
    rw [stack, put_at, ih]
    by_cases hg : g.val = k
    · by_cases hj : j.val / 64 = g.val
      · rw [if_pos ⟨Fin.ext hg, by rw [hj, hg]⟩, if_pos ⟨by omega, hj⟩]
      · rw [if_neg (fun q => hj (by rw [q.2, hg])), if_neg (fun q => hj q.2), if_neg (fun q => hj q.2)]
    · rw [if_neg (fun q => hg (congrArg Fin.val q.1))]
      by_cases hj : g.val < k ∧ j.val / 64 = g.val
      · rw [if_pos hj, if_pos ⟨by omega, hj.2⟩]
      · rw [if_neg hj, if_neg (fun q => hj ⟨by omega, q.2⟩)]

/-! ## The weights -/

/-- The query rows of the projection matrix, transposed. -/
def wqT (w : FVec Ideal S2304x768 .f32) : FVec Ideal S768x768 .f32 :=
  transpose S768x768 [1, 0] (extractStridedSlice S768x768 ![0, 0] w slices_S2304x768_S768x768_0_0) transposes_S768x768_S768x768_1_0

theorem wqT_at (w : FVec Ideal S2304x768 .f32) (c k : Fin 768) : wqT w (ix2 c k) = w (ix2 ⟨k.val, by omega⟩ c) := by
  pointwise [wqT]

/-- The query part of the bias, as a row. -/
def biasQ (b : FVec Ideal S2304 .f32) : FVec Ideal S1x768 .f32 :=
  shapeCast _ (extractStridedSlice S768 ![0] b slices_S2304_S768_0) shapeCasts_S768_S1x768

theorem biasQ_at (b : FVec Ideal S2304 .f32) (k : Fin 768) : biasQ b (ix2 0 k) = b (ix1 ⟨k.val, by omega⟩) := by
  pointwise [biasQ]

/-- The output projection, transposed. -/
def wpT (w : FVec Ideal S768x768 .f32) : FVec Ideal S768x768 .f32 := transpose S768x768 [1, 0] w transposes_S768x768_S768x768_1_0

theorem wpT_at (w : FVec Ideal S768x768 .f32) (j c : Fin 768) : wpT w (ix2 j c) = w (ix2 c j) := by
  pointwise [wpT]

/-- The output bias, as a row. -/
def biasP (b : FVec Ideal S768 .f32) : FVec Ideal S1x768 .f32 := shapeCast _ b shapeCasts_S768_S1x768

theorem biasP_at (b : FVec Ideal S768 .f32) (c : Fin 768) : biasP b (ix2 0 c) = b (ix1 c) := by
  pointwise [biasP]

end Cert.KernelIdeal.HostStages
-- ==== Proof.Value.lean ====
/- What the program leaves in memory, and what the two calls read: the result array after the launch is the attention
   call's, over the host stages of the arguments. -/
module

public import proofs.«01_k».proof.Proof.Regions
public import proofs.«01_k».proof.Proof.HostStages
public import Idealize.ShloMosaic.Lib.StableHlo.Run
public import Idealize.ShloMosaic.Lib.Pipeline.RegionsLoop
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo Idealize.ShloMosaic.Rounds

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every execution ends with the result array at the last boundary's contents and the arguments as launched. -/
theorem run : θ_run defs (onTc (τ := τ) (main (F := Ideal))) ⟨m, fun _ => 0, ρ⟩ (fun r => ∀ c : Dev nD,
      r.2.mem ((c.tc : Thread nD τ).loc main_v83) = W7 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v83 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

/-! ## What the calls read -/

/-- The value projection's rows. -/
theorem read_rows (c : Dev nD) : V3 m ρ c main_v4 = HostStages.taken (m (c.tc.loc main_arg0)) (m (c.tc.loc main_arg5)) := by
  show StableHlo.after hostOps0_2 (StableHlo.after hostOps0_1 (StableHlo.after hostOps0 (W0 m ρ c))) (Proc.devRef .tc main_v4) = _
  simp only [hostOps0, hostOps0_1, hostOps0_2, TRef.binary, TRef.nullary, TRef.reshape, TRef.ternary, TRef.unary, TRef.toBuf, TRef.ofBuf, cast_eq]
  after_results_simp <;> rfl

theorem read_biasV (c : Dev nD) : V3 m ρ c main_v6 = HostStages.biasV (m (c.tc.loc main_arg2)) := by
  show StableHlo.after hostOps0_2 (StableHlo.after hostOps0_1 (StableHlo.after hostOps0 (W0 m ρ c))) (Proc.devRef .tc main_v6) = _
  simp only [hostOps0, hostOps0_1, hostOps0_2, TRef.binary, TRef.nullary, TRef.reshape, TRef.ternary, TRef.unary, TRef.toBuf, TRef.ofBuf, cast_eq]
  after_results_simp <;> rfl

/-- The attention call's arrays that the first stretch after the value projection prepares, from any contents before it. -/
theorem host1 (W : Valuation τ sig (Elt Ideal)) :
    StableHlo.after hostOps1 W (Proc.devRef .tc main_v70) = HostStages.wqT (W (Proc.devRef .tc main_arg1))
    ∧ StableHlo.after hostOps1 W (Proc.devRef .tc main_v72) = HostStages.biasQ (W (Proc.devRef .tc main_arg2))
    ∧ StableHlo.after hostOps1 W (Proc.devRef .tc main_v73) = HostStages.wpT (W (Proc.devRef .tc main_arg3))
    ∧ StableHlo.after hostOps1 W (Proc.devRef .tc main_v74) = HostStages.biasP (W (Proc.devRef .tc main_arg4)) := by
  simp only [hostOps1, TRef.binary, TRef.nullary, TRef.reshape, TRef.ternary, TRef.unary, TRef.toBuf, TRef.ofBuf, cast_eq]
  refine ⟨?_, ?_, ?_, ?_⟩ <;> after_results_simp <;> rfl

/-- The block-diagonal matrix of values, from the value projection's result. -/
theorem host1_stack (W : Valuation τ sig (Elt Ideal)) :
    StableHlo.after hostOps1 W (Proc.devRef .tc main_v68) = HostStages.stack (W (Proc.devRef .tc main_v7)) 12 le_rfl := by
  simp only [hostOps1, TRef.binary, TRef.nullary, TRef.reshape, TRef.ternary, TRef.unary, TRef.toBuf, TRef.ofBuf, cast_eq]
  after_results_simp <;> rfl

/-- The block matrix of ones. -/
theorem host1_blocks (W : Valuation τ sig (Elt Ideal)) :
    StableHlo.after hostOps1_1 (StableHlo.after hostOps1 W) (Proc.devRef .tc main_v82) = HostStages.blocks := by
  simp only [hostOps1, hostOps1_1, TRef.binary, TRef.nullary, TRef.reshape, TRef.ternary, TRef.unary, TRef.toBuf, TRef.ofBuf, cast_eq]
  after_results_simp <;> rfl

/-- The launch's result: the attention call over the host stages of the arguments. -/
theorem result (c : Dev nD) : W7 m ρ c (Proc.devRef .tc main_v83)
    = Regions.G1 (m (c.tc.loc main_arg0)) (HostStages.wqT (m (c.tc.loc main_arg1))) (HostStages.biasQ (m (c.tc.loc main_arg2)))
        (m (c.tc.loc main_arg6)) HostStages.blocks
        (HostStages.stack (Regions.G0 (HostStages.taken (m (c.tc.loc main_arg0)) (m (c.tc.loc main_arg5))) (m (c.tc.loc main_arg1)) (HostStages.biasV (m (c.tc.loc main_arg2)))) 12 le_rfl)
        (HostStages.wpT (m (c.tc.loc main_arg3))) (HostStages.biasP (m (c.tc.loc main_arg4))) := by
  have hs : W4 m ρ c (Proc.devRef .tc main_v7)
      = Regions.G0 (HostStages.taken (m (c.tc.loc main_arg0)) (m (c.tc.loc main_arg5))) (m (c.tc.loc main_arg1)) (HostStages.biasV (m (c.tc.loc main_arg2))) := by
    refine (W4_arr m ρ c 3).trans ((Regions.final0 (V3 m ρ) c).trans ?_)
    rw [read_rows, read_biasV]
    exact congrArg (fun w => Regions.G0 _ w _) (W3_args m ρ c main_arg1 (by decide))
  have h1 := host1 (W4 m ρ c)
  rw [W4_args m ρ c main_arg1 (by decide), W4_args m ρ c main_arg2 (by decide), W4_args m ρ c main_arg3 (by decide), W4_args m ρ c main_arg4 (by decide)] at h1
  refine (W7_arr m ρ c 8).trans ((Regions.final1 (V6 m ρ) c).trans ?_)
  have e0 : V6 m ρ c main_arg0 = m (c.tc.loc main_arg0) := W6_args m ρ c main_arg0 (by decide)
  have e6 : V6 m ρ c main_arg6 = m (c.tc.loc main_arg6) := W6_args m ρ c main_arg6 (by decide)
  have e70 : V6 m ρ c main_v70 = HostStages.wqT (m (c.tc.loc main_arg1)) := (W6_of m ρ c main_v70 (by decide)).trans h1.1
  have e72 : V6 m ρ c main_v72 = HostStages.biasQ (m (c.tc.loc main_arg2)) := (W6_of m ρ c main_v72 (by decide)).trans h1.2.1
  have e73 : V6 m ρ c main_v73 = HostStages.wpT (m (c.tc.loc main_arg3)) := (W6_of m ρ c main_v73 (by decide)).trans h1.2.2.1
  have e74 : V6 m ρ c main_v74 = HostStages.biasP (m (c.tc.loc main_arg4)) := (W6_of m ρ c main_v74 (by decide)).trans h1.2.2.2
  have e68 : V6 m ρ c main_v68 = HostStages.stack (Regions.G0 (HostStages.taken (m (c.tc.loc main_arg0)) (m (c.tc.loc main_arg5))) (m (c.tc.loc main_arg1)) (HostStages.biasV (m (c.tc.loc main_arg2)))) 12 le_rfl :=
     (W6_of m ρ c main_v68 (by decide)).trans ((host1_stack (W4 m ρ c)).trans (congrArg (fun y => HostStages.stack y 12 le_rfl) hs))
  have e82 : V6 m ρ c main_v82 = HostStages.blocks := host1_blocks (W4 m ρ c)
  rw [e0, e6, e82, e70, e72, e68, e73, e74]

end Cert.KernelIdeal.Value
-- ==== Proof.RefStages.lean ====
/- The reference's result, cut into stages, and each stage read at an index: the joint projection to queries,
   keys and values, the head split, the gather of the sampled values, the logits, the softmax, the output
   projection. -/
module

public import proofs.«01_k».proof.Proof.Gen.ReferenceIdeal.Run
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-- The joint projection `x Wᵀ + b`. -/
def qkv (x : FVec Ideal S2x8192x768 .f32) (w : FVec Ideal S2304x768 .f32) (b : FVec Ideal S2304 .f32) : FVec Ideal S2x8192x2304 .f32 :=
  addf (Host.dotGeneral dot_S2x8192x768_S768x2304_S2x8192x2304_2_0_01_1_n_n none x (transpose S768x2304 [1, 0] w transposes_S2304x768_S768x2304_1_0))
    (broadcastInDim S2x8192x2304 ![0, 1, 2] bcast_S1x1x2304_S2x8192x2304_0_1_2 (broadcastInDim S1x1x2304 ![2] bcast_S2304_S1x1x2304_2 b))

/-- The joint projection split in (part, batch, head, row, channel). -/
def heads (y : FVec Ideal S2x8192x2304 .f32) : FVec Ideal S3x2x12x8192x64 .f32 :=
  transpose S3x2x12x8192x64 [2, 0, 3, 1, 4] (shapeCast _ y shapeCasts_S2x8192x2304_S2x8192x3x12x64) transposes_S2x8192x3x12x64_S3x2x12x8192x64_2_0_3_1_4

/-- The queries. -/
def partQ (h : FVec Ideal S3x2x12x8192x64 .f32) : FVec Ideal S2x12x8192x64 .f32 :=
  shapeCast _ (extractStridedSlice S1x2x12x8192x64 ![0, 0, 0, 0, 0] h slices_S3x2x12x8192x64_S1x2x12x8192x64_0_0_0_0_0) shapeCasts_S1x2x12x8192x64_S2x12x8192x64

/-- The values. -/
def partV (h : FVec Ideal S3x2x12x8192x64 .f32) : FVec Ideal S2x12x8192x64 .f32 :=
  shapeCast _ (extractStridedSlice S1x2x12x8192x64 ![2, 0, 0, 0, 0] h slices_S3x2x12x8192x64_S1x2x12x8192x64_2_0_0_0_0) shapeCasts_S1x2x12x8192x64_S2x12x8192x64

/-- The sampled rows' numbers, one per gathered channel. -/
def rowsAt (s : IVec S2x12x32 32) : IVec S2x12x32x64 32 :=
  broadcastInDim S2x12x32x64 ![0, 1, 2, 3] bcast_S2x12x32x1_S2x12x32x64_0_1_2_3 (broadcastInDim S2x12x32x1 ![0, 1, 2] bcast_S2x12x32_S2x12x32x1_0_1_2 s)

/-- The row numbers with a negative one counted from the end. -/
def wrapped (i : IVec S2x12x32x64 32) : IVec S2x12x32x64x1 32 :=
  shapeCast _ (select (cmpi .slt i (broadcastInDim S2x12x32x64 ![] bcast_S_S2x12x32x64 (constantI S_ 32 0#32)))
    (addi i (broadcastInDim S2x12x32x64 ![] bcast_S_S2x12x32x64 (constantI S_ 32 8192#32))) i) shapeCasts_S2x12x32x64_S2x12x32x64x1

/-- Whether a wrapped row number is a row. -/
def inRange (i : IVec S2x12x32x64x1 32) : IVec S2x12x32x64 1 :=
  Host.reduce IntOp.andi (andi (cmpi .sge i (broadcastInDim S2x12x32x64x1 ![] bcast_S_S2x12x32x64x1 (constantI S_ 32 0#32)))
    (cmpi .sle i (broadcastInDim S2x12x32x64x1 ![0, 1, 2, 3, 4] bcast_S1x1x1x1x1_S2x12x32x64x1_0_1_2_3_4
      (broadcastInDim S1x1x1x1x1 ![4] bcast_S1_S1x1x1x1x1_4 (constantI S1 32 8191#32))))) (constantI S_ 1 1#1) reducesTo_S2x12x32x64x1_S2x12x32x64_d4 h_S_

/-- The rows taken at wrapped row numbers. -/
def gathered (v : FVec Ideal S2x12x8192x64 .f32) (i : IVec S2x12x32x64x1 32) : FVec Ideal S2x12x32x64 .f32 :=
  Host.gather gather_S2x12x8192x64_S2x12x32x64x1_S2x12x32x64_n_2_013_013_2_4_1111 v i

/-- The sampled rows of an array of rows. -/
def taken (v : FVec Ideal S2x12x8192x64 .f32) (i : IVec S2x12x32x64 32) : FVec Ideal S2x12x32x64 .f32 :=
  select (inRange (wrapped i)) (gathered v (wrapped i)) (broadcastInDim S2x12x32x64 ![] bcast_S_S2x12x32x64 (constant S_ .f32 0x7FC00000#32))

/-- The scaled logits. -/
def logits (q : FVec Ideal S2x12x8192x64 .f32) (k : FVec Ideal S2x12x64x32 .f32) : FVec Ideal S2x12x8192x32 .f32 :=
  mulf (Host.dotGeneral dot_S2x12x8192x64_S2x12x64x32_S2x12x8192x32_3_2_2_3_01_01 none q k)
    (broadcastInDim S2x12x8192x32 ![] bcast_S_S2x12x8192x32 (constant S_ .f32 0x3E000000#32))

/-- The greatest logit of each row. -/
def rowmax (l : FVec Ideal S2x12x8192x32 .f32) : FVec Ideal S2x12x8192 .f32 :=
  Host.reduce FloatOps.maximumf l (constant S_ .f32 0xFF800000#32) reducesTo_S2x12x8192x32_S2x12x8192_d3 h_S_

/-- The exponentials of the logits less a number for each row. -/
def wt (l : FVec Ideal S2x12x8192x32 .f32) (m : FVec Ideal S2x12x8192 .f32) : FVec Ideal S2x12x8192x32 .f32 :=
  Host.exp (subf l (broadcastInDim S2x12x8192x32 ![0, 1, 2, 3] bcast_S2x12x8192x1_S2x12x8192x32_0_1_2_3
    (broadcastInDim S2x12x8192x1 ![0, 1, 2] bcast_S2x12x8192_S2x12x8192x1_0_1_2
      (maximumf (broadcastInDim S2x12x8192 ![] bcast_S_S2x12x8192 (constant S_ .f32 0xFF800000#32)) m))))

/-- The exponentials of the logits less their greatest in the row. -/
def weights (l : FVec Ideal S2x12x8192x32 .f32) : FVec Ideal S2x12x8192x32 .f32 := wt l (rowmax l)

/-- The unit matrix over the heads. -/
def eye : FVec Ideal S12x12 .f32 :=
  uitofp .f32 (cmpi .eq (addi (iotaInDim S12x12 32 0) (broadcastInDim S12x12 ![] bcast_S_S12x12 (constantI S_ 32 0#32))) (iotaInDim S12x12 32 1))

/-- The diagonal blocks of a matrix of head blocks. -/
def keysT (k : FVec Ideal S2x768x384 .f32) : FVec Ideal S2x12x64x32 .f32 :=
  Host.reduceAdd (mulf (shapeCast _ k shapeCasts_S2x768x384_S2x12x64x12x32)
    (broadcastInDim S2x12x64x12x32 ![0, 1, 2, 3, 4] bcast_S1x12x1x12x1_S2x12x64x12x32_0_1_2_3_4
      (broadcastInDim S1x12x1x12x1 ![1, 3] bcast_S12x12_S1x12x1x12x1_1_3 eye))) (constant S_ .f32 0x00000000#32)
    reducesTo_S2x12x64x12x32_S2x12x64x32_d3 h_S_

/-- The weights divided by their sum in the row. -/
def normed (e : FVec Ideal S2x12x8192x32 .f32) : FVec Ideal S2x12x8192x32 .f32 :=
  Host.divf e (broadcastInDim S2x12x8192x32 ![0, 1, 2, 3] bcast_S2x12x8192x1_S2x12x8192x32_0_1_2_3
    (broadcastInDim S2x12x8192x1 ![0, 1, 2] bcast_S2x12x8192_S2x12x8192x1_0_1_2
      (Host.reduceAdd e (constant S_ .f32 0x00000000#32) reducesTo_S2x12x8192x32_S2x12x8192_d3 h_S_)))

/-- The attention's rows, heads side by side. -/
def mixed (a : FVec Ideal S2x12x8192x32 .f32) (v : FVec Ideal S2x12x32x64 .f32) : FVec Ideal S2x8192x768 .f32 :=
  shapeCast _ (transpose S2x8192x12x64 [0, 2, 1, 3] (Host.dotGeneral dot_S2x12x8192x32_S2x12x32x64_S2x12x8192x64_3_2_2_3_01_01 none a v)
    transposes_S2x12x8192x64_S2x8192x12x64_0_2_1_3) shapeCasts_S2x8192x12x64_S2x8192x768

/-- The output projection. -/
def projected (o : FVec Ideal S2x8192x768 .f32) (w : FVec Ideal S768x768 .f32) (b : FVec Ideal S768 .f32) : FVec Ideal S2x8192x768 .f32 :=
  addf (Host.dotGeneral dot_S2x8192x768_S768x768_S2x8192x768_2_0_01_1_n_n none o (transpose S768x768 [1, 0] w transposes_S768x768_S768x768_1_0))
    (broadcastInDim S2x8192x768 ![0, 1, 2] bcast_S1x1x768_S2x8192x768_0_1_2 (broadcastInDim S1x1x768 ![2] bcast_S768_S1x1x768_2 b))

/-- From the queries, the sampled keys and values to the result. -/
def attended (q : FVec Ideal S2x12x8192x64 .f32) (k : FVec Ideal S2x12x64x32 .f32) (v : FVec Ideal S2x12x32x64 .f32)
    (w : FVec Ideal S768x768 .f32) (b : FVec Ideal S768 .f32) : FVec Ideal S2x8192x768 .f32 :=
  projected (mixed (normed (weights (logits q k))) v) w b

theorem qkv_at (x : FVec Ideal S2x8192x768 .f32) (w : FVec Ideal S2304x768 .f32) (b : FVec Ideal S2304 .f32) (i : Fin 2) (n : Fin 8192) (j : Fin 2304) :
    qkv x w b (ix3 i n j) = (∑ c : Fin 768, x (ix3 i n c) * w (ix2 j c)) + b (ix1 j) := by
  pointwise [qkv]

theorem heads_at (y : FVec Ideal S2x8192x2304 .f32) (p : Fin 3) (i : Fin 2) (h : Fin 12) (n : Fin 8192) (d : Fin 64) :
    heads y (ix5 p i h n d) = y (ix3 i n ⟨p.val * 768 + (h.val * 64 + d.val), by omega⟩) := by
  pointwise [heads]
  exact congrArg y (congrArg (ix3 i n) (Fin.ext (Nat.add_assoc _ _ _)))

theorem partQ_at (z : FVec Ideal S3x2x12x8192x64 .f32) (i : Fin 2) (h : Fin 12) (n : Fin 8192) (d : Fin 64) :
    partQ z (ix4 i h n d) = z (ix5 0 i h n d) := by
  pointwise [partQ]

theorem partV_at (z : FVec Ideal S3x2x12x8192x64 .f32) (i : Fin 2) (h : Fin 12) (n : Fin 8192) (d : Fin 64) :
    partV z (ix4 i h n d) = z (ix5 2 i h n d) := by
  pointwise [partV]

theorem logits_at (q : FVec Ideal S2x12x8192x64 .f32) (k : FVec Ideal S2x12x64x32 .f32) (i : Fin 2) (h : Fin 12) (n : Fin 8192) (s : Fin 32) :
    logits q k (ix4 i h n s) = (∑ d : Fin 64, q (ix4 i h n d) * k (ix4 i h d s)) * Ideal.ofBits .f32 0x3E000000#32 := by
  pointwise [logits]

theorem normed_at (e : FVec Ideal S2x12x8192x32 .f32) (i : Fin 2) (h : Fin 12) (n : Fin 8192) (s : Fin 32) :
    normed e (ix4 i h n s) = Ideal.div (e (ix4 i h n s)) (∑ t : Fin 32, e (ix4 i h n t)) := by
  pointwise [normed]

theorem mixed_at (a : FVec Ideal S2x12x8192x32 .f32) (v : FVec Ideal S2x12x32x64 .f32) (i : Fin 2) (n : Fin 8192) (h : Fin 12) (d : Fin 64) :
    mixed a v (ix3 i n ⟨h.val * 64 + d.val, by omega⟩) = ∑ s : Fin 32, a (ix4 i h n s) * v (ix4 i h s d) := by
  pointwise [mixed]

theorem projected_at (o : FVec Ideal S2x8192x768 .f32) (w : FVec Ideal S768x768 .f32) (b : FVec Ideal S768 .f32) (i : Fin 2) (n : Fin 8192) (c : Fin 768) :
    projected o w b (ix3 i n c) = (∑ j : Fin 768, o (ix3 i n j) * w (ix2 c j)) + b (ix1 c) := by
  pointwise [projected]

theorem rowmax_at (l : FVec Ideal S2x12x8192x32 .f32) (i : Fin 2) (h : Fin 12) (n : Fin 8192) :
    rowmax l (ix3 i h n) = Finset.univ.fold max (Ideal.ofBits .f32 0xFF800000#32) fun t => l (ix4 i h n t) := by
  pointwise [rowmax]

theorem wt_at (l : FVec Ideal S2x12x8192x32 .f32) (m : FVec Ideal S2x12x8192 .f32) (i : Fin 2) (h : Fin 12) (n : Fin 8192) (s : Fin 32) :
    wt l m (ix4 i h n s) = Ideal.exp (l (ix4 i h n s) - max (Ideal.ofBits .f32 0xFF800000#32) (m (ix3 i h n))) := by
  pointwise [wt]

theorem max_fold (b : EReal) (f : Fin 32 → EReal) : max b (Finset.univ.fold max b f) = Finset.univ.fold max b f :=
  max_eq_right ((Finset.le_fold_max b).2 (Or.inl le_rfl))

theorem weights_at (l : FVec Ideal S2x12x8192x32 .f32) (i : Fin 2) (h : Fin 12) (n : Fin 8192) (s : Fin 32) :
    weights l (ix4 i h n s) = Ideal.exp (l (ix4 i h n s) - Finset.univ.fold max (Ideal.ofBits .f32 0xFF800000#32) fun t => l (ix4 i h n t)) := by
  unfold weights
  rw [wt_at, rowmax_at, max_fold]

theorem eye_at (g h : Fin 12) : eye (ix2 g h) = if g = h then 1 else 0 := by
  have e : ∀ g h : Fin 12, IntOp.cmpi CmpIPredicate.eq (BitVec.ofNat 32 g.val + 0#32) (BitVec.ofNat 32 h.val) = if g = h then 1#1 else 0#1 := by
    decide
  pointwise [eye]
  have e' : IntOp.cmpi CmpIPredicate.eq (IntOp.addi (BitVec.ofNat 32 g.val) 0#32) (BitVec.ofNat 32 h.val) = if g = h then 1#1 else 0#1 := e g h
  rw [e']
  by_cases hgh : g = h
  · rw [if_pos hgh, if_pos hgh]
    exact (by norm_num : (((1 : ℕ) : ℝ) : EReal) = 1)
  · rw [if_neg hgh, if_neg hgh]
    exact (by norm_num : (((0 : ℕ) : ℝ) : EReal) = 0)

theorem keysT_at (k : FVec Ideal S2x768x384 .f32) (i : Fin 2) (h : Fin 12) (d : Fin 64) (s : Fin 32) :
    keysT k (ix4 i h d s) = k (ix3 i ⟨h.val * 64 + d.val, by omega⟩ ⟨h.val * 32 + s.val, by omega⟩) := by
  pointwise [keysT, eye_at]
  rw [Finset.sum_eq_single h (fun x _ hx => by rw [if_neg (Ne.symm hx), mul_zero]) (fun hx => absurd (Finset.mem_univ h) hx), if_pos rfl, mul_one]

theorem toNat_row (n : Fin 8192) : min (BitVec.ofNat 32 n.val).toInt.toNat 8191 = n.val := by
  have h := n.isLt
  have e : (BitVec.ofNat 32 n.val).toInt = (n.val : Int) := by
    rw [BitVec.toInt_eq_toNat_of_lt (by rw [BitVec.toNat_ofNat]; omega), BitVec.toNat_ofNat]
    omega
  rw [e]; omega

theorem gathered_at (v : FVec Ideal S2x12x8192x64 .f32) (s : IVec S2x12x32x64x1 32) (i : Fin 2) (h : Fin 12) (r : Fin 32) (d : Fin 64)
    (n : Fin 8192) (hn : s (ix5 i h r d 0) = BitVec.ofNat 32 n.val) :
    gathered v s (ix4 i h r d) = v (ix4 i h n d) := by
  unfold gathered Host.gather
  refine congrArg v (funext fun a => Fin.ext ?_)
  have hs : ∀ p, gather_S2x12x8192x64_S2x12x32x64x1_S2x12x32x64_n_2_013_013_2_4_1111.siIdx (ix4 i h r d) p = ix5 i h r d 0 := by
    intro p
    funext b; refine Fin.ext ?_
    match b with
    | ⟨0, _⟩ => rfl
    | ⟨1, _⟩ => rfl
    | ⟨2, _⟩ => rfl
    | ⟨3, _⟩ => rfl
    | ⟨4, _⟩ => exact Nat.lt_one_iff.1 p.isLt
  match a with
  | ⟨0, _⟩ => exact (show 0 + i.val + 0 = i.val by omega)
  | ⟨1, _⟩ => exact (show 0 + h.val + 0 = h.val by omega)
  | ⟨2, _⟩ =>
    show min (s (gather_S2x12x8192x64_S2x12x32x64x1_S2x12x32x64_n_2_013_013_2_4_1111.siIdx (ix4 i h r d) ⟨0, by decide⟩)).toInt.toNat 8191 + 0 + 0 = n.val
    rw [hs, hn, toNat_row]; rfl
  | ⟨3, _⟩ => exact (show 0 + d.val + 0 = d.val by omega)

theorem taken_at (v : FVec Ideal S2x12x8192x64 .f32) (s : IVec S2x12x32 32) (i : Fin 2) (h : Fin 12) (r : Fin 32) (d : Fin 64)
    (n : Fin 8192) (hn : s (ix3 i h r) = BitVec.ofNat 32 n.val) :
    taken v (rowsAt s) (ix4 i h r d) = v (ix4 i h n d) := by
  have e0 : IntOp.cmpi CmpIPredicate.slt (BitVec.ofNat 32 n.val) 0#32 = 0#1 := by word_cmp
  have hw : ∀ e : Fin 1, wrapped (rowsAt s) (ix5 i h r d e) = BitVec.ofNat 32 n.val := by
    intro e
    pointwise [wrapped, rowsAt, hn]
    rw [e0]; rfl
  have hr : inRange (wrapped (rowsAt s)) (ix4 i h r d) = 1#1 := by
    pointwise [inRange, hw]
    have e1 : IntOp.cmpi CmpIPredicate.sge (BitVec.ofNat 32 n.val) 0#32 = 1#1 := by word_cmp
    have e2 : IntOp.cmpi CmpIPredicate.sle (BitVec.ofNat 32 n.val) 8191#32 = 1#1 := by word_cmp
    rw [e1, e2]; decide
  have hg := gathered_at v (wrapped (rowsAt s)) i h r d n (hw 0)
  pointwise [taken, hr, hg]

/-- The reference's result is the stages in order. -/
theorem res_eq (m : (ℓ : Loc nD τ sig) → Buf (Elt Ideal) ℓ) (c : Dev nD) :
    Value.res_out0 (F := Ideal) m c
      = attended (partQ (heads (qkv (m (c.tc.loc main_arg0)) (m (c.tc.loc main_arg1)) (m (c.tc.loc main_arg2)))))
          (keysT (m (c.tc.loc main_arg6)))
          (taken (partV (heads (qkv (m (c.tc.loc main_arg0)) (m (c.tc.loc main_arg1)) (m (c.tc.loc main_arg2))))) (rowsAt (m (c.tc.loc main_arg5))))
          (m (c.tc.loc main_arg3)) (m (c.tc.loc main_arg4)) := by
  rfl

end Cert.ReferenceIdeal.Stages
-- ==== Proof.Assembly.lean ====
/- The two programs compute the same array: the kernel's sums over all channels and all heads' samples keep only the
   terms of one head, since the key matrix, the value matrix and the block matrix of ones vanish elsewhere. -/
module

public import proofs.«01_k».proof.Proof.Value
public import proofs.«01_k».proof.Proof.RefStages

@[expose] public section

set_option maxRecDepth 16384

noncomputable section

namespace Cert.Assembly

open Cert.KernelIdeal Idealize.ShloMosaic Idealize.ShloMosaic.TcCoe Idealize.SL.Sem
open Cert.KernelIdeal.Attn (rowL rowE rowO)

/-- A sum over all heads' entries is the sum over one head's, when the other heads' vanish. -/
theorem sum_head {D N : Nat} (hN : N = 12 * D) (f : Fin N → EReal) (h : Fin 12)
    (hlt : ∀ (g : Fin 12) (d : Fin D), g.val * D + d.val < N)
    (hz : ∀ g : Fin 12, g ≠ h → ∀ d : Fin D, f ⟨g.val * D + d.val, hlt g d⟩ = 0) :
    ∑ k : Fin N, f k = ∑ d : Fin D, f ⟨h.val * D + d.val, hlt h d⟩ := by
  rw [Fin.sum_univ_tiles 12 D hN.symm f]
  refine Finset.sum_eq_single h (fun g _ hg => Finset.sum_eq_zero fun d _ => hz g hg d) fun hn => absurd (Finset.mem_univ h) hn

/-- A head's logit, from that head's channels. -/
theorem rowL_head (x : Fin 768 → EReal) (wq : Fin 768 → Fin 768 → EReal) (bq : Fin 768 → EReal) (kb : Fin 768 → Fin 384 → EReal)
    (hk : ∀ (g h : Fin 12) (d : Fin 64) (s : Fin 32), g ≠ h → kb ⟨g.val * 64 + d.val, by omega⟩ ⟨h.val * 32 + s.val, by omega⟩ = 0)
    (h : Fin 12) (s : Fin 32) :
    rowL x wq bq kb ⟨h.val * 32 + s.val, by omega⟩
      = (∑ d : Fin 64, ((∑ c : Fin 768, x c * wq c ⟨h.val * 64 + d.val, by omega⟩) + bq ⟨h.val * 64 + d.val, by omega⟩)
          * kb ⟨h.val * 64 + d.val, by omega⟩ ⟨h.val * 32 + s.val, by omega⟩) * Ideal.ofBits .f32 0x3E000000#32 := by
  unfold rowL
  rw [sum_head (D := 64) rfl _ h (fun g d => by omega) fun g hg d => by rw [hk g h d s hg, mul_zero]]

/-- A head's exponential, from that head's logits. -/
theorem rowE_head (l : Fin 384 → EReal) (h : Fin 12) (s : Fin 32) :
    rowE l ⟨h.val * 32 + s.val, by omega⟩
      = Ideal.exp (l ⟨h.val * 32 + s.val, by omega⟩ - Finset.univ.fold max (Ideal.ofBits .f32 0xFF800000#32) fun t : Fin 32 => l ⟨h.val * 32 + t.val, by omega⟩) := by
  unfold rowE
  have e : (fun t : Fin 32 => l ⟨(h.val * 32 + s.val) / 32 * 32 + t.val, by omega⟩) = fun t : Fin 32 => l ⟨h.val * 32 + t.val, by omega⟩ :=
    funext fun t => congrArg l (Fin.ext (show (h.val * 32 + s.val) / 32 * 32 + t.val = h.val * 32 + t.val by omega))
  exact congrArg (fun f => Ideal.exp (_ - Finset.univ.fold max _ f)) e

/-- A row of the result, head by head. -/
theorem rowO_heads (e : Fin 384 → EReal) (on : Fin 384 → Fin 384 → EReal) (vb : Fin 384 → Fin 768 → EReal) (wp : Fin 768 → Fin 768 → EReal) (bp : Fin 768 → EReal)
    (hon : ∀ (g h : Fin 12) (s t : Fin 32), on ⟨g.val * 32 + s.val, by omega⟩ ⟨h.val * 32 + t.val, by omega⟩ = if g = h then 1 else 0)
    (v : Fin 12 → Fin 32 → Fin 64 → EReal)
    (hv : ∀ (g h : Fin 12) (s : Fin 32) (d : Fin 64), vb ⟨g.val * 32 + s.val, by omega⟩ ⟨h.val * 64 + d.val, by omega⟩ = if h = g then v g s d else 0)
    (o : Fin 768 → EReal)
    (ho : ∀ (h : Fin 12) (d : Fin 64), o ⟨h.val * 64 + d.val, by omega⟩
      = ∑ s : Fin 32, Ideal.div (e ⟨h.val * 32 + s.val, by omega⟩) (∑ t : Fin 32, e ⟨h.val * 32 + t.val, by omega⟩) * v h s d) (c : Fin 768) :
    rowO e on vb wp bp c = (∑ j : Fin 768, o j * wp j c) + bp c := by
  unfold rowO
  refine congrArg (· + bp c) (Finset.sum_congr rfl fun j _ => congrArg (· * wp j c) ?_)
  obtain ⟨h, d, rfl⟩ : ∃ (h : Fin 12) (d : Fin 64), j = ⟨h.val * 64 + d.val, by omega⟩ :=
    ⟨⟨j.val / 64, by omega⟩, ⟨j.val % 64, by omega⟩, Fin.ext (show j.val = j.val / 64 * 64 + j.val % 64 by omega)⟩
  rw [ho, sum_head (D := 32) rfl _ h (fun g s => by omega) fun g hg s => by rw [hv g h s d, if_neg (Ne.symm hg), mul_zero]]
  refine Finset.sum_congr rfl fun s _ => ?_
  rw [hv h h s d, if_pos rfl, sum_head (D := 32) rfl _ h (fun g s => by omega) fun g hg t => by rw [hon g h t s, if_neg hg, mul_zero]]
  refine congrArg (fun y => Ideal.div _ y * _) (Finset.sum_congr rfl fun t _ => ?_)
  rw [hon h h t s, if_pos rfl, mul_one]

section
open Cert.ReferenceIdeal.Stages (qkv heads partQ partV keysT attended logits weights normed mixed projected)

variable (x : FVec Ideal S2x8192x768 .f32) (w : FVec Ideal S2304x768 .f32) (b : FVec Ideal S2304 .f32) (wp : FVec Ideal S768x768 .f32)
  (bp : FVec Ideal S768 .f32) (s : IVec S2x12x32 32) (kb : FVec Ideal S2x768x384 .f32)

/-- The kernel's values: the value projection of the sampled rows. -/
def vals : FVec Ideal S2x384x64 .f32 := Regions.G0 (HostStages.taken x s) w (HostStages.biasV b)

/-- A head's sampled value is the reference's. -/
theorem vals_at (i : Fin 2) (h : Fin 12) (r : Fin 32) (d : Fin 64) (n : Fin 8192) (hn : s (ix3 i h r) = BitVec.ofNat 32 n.val) :
    vals x w b s (ix3 i ⟨h.val * 32 + r.val, by omega⟩ d)
      = ReferenceIdeal.Stages.taken (partV (heads (qkv x w b))) (ReferenceIdeal.Stages.rowsAt s) (ix4 i h r d) := by
  rw [ReferenceIdeal.Stages.taken_at _ _ i h r d n hn, ReferenceIdeal.Stages.partV_at, ReferenceIdeal.Stages.heads_at, ReferenceIdeal.Stages.qkv_at]
  show (∑ c : Fin 768, HostStages.taken x s (ix3 ⟨i.val * 12 + (h.val * 32 + r.val) / 32, _⟩ ⟨(h.val * 32 + r.val) % 32, _⟩ c)
      * w (ix2 ⟨1536 + (h.val * 32 + r.val) / 32 * 64 + d.val, _⟩ c)) + HostStages.biasV b (ix3 ⟨(h.val * 32 + r.val) / 32, _⟩ 0 d) = _
  have e1 : (h.val * 32 + r.val) / 32 = h.val := by omega
  have e2 : (h.val * 32 + r.val) % 32 = r.val := by omega
  simp only [e1, e2, Fin.eta]
  rw [HostStages.biasV_at]
  refine congr (congrArg _ (Finset.sum_congr rfl fun c _ => ?_)) (congrArg b (congrArg ix1 (Fin.ext (by dsimp only; omega))))
  rw [HostStages.taken_at _ _ i h r c n hn]
  exact congrArg (x (ix3 i n c) * ·) (congrArg (fun k => w (ix2 k c)) (Fin.ext (by dsimp only; omega)))

/-- The query entering a logit is the reference's. -/
theorem query_at (i : Fin 2) (n : Fin 8192) (h : Fin 12) (d : Fin 64) :
    (∑ c : Fin 768, x (ix3 i n c) * HostStages.wqT w (ix2 c ⟨h.val * 64 + d.val, by omega⟩)) + HostStages.biasQ b (ix2 0 ⟨h.val * 64 + d.val, by omega⟩)
      = partQ (heads (qkv x w b)) (ix4 i h n d) := by
  rw [ReferenceIdeal.Stages.partQ_at, ReferenceIdeal.Stages.heads_at, ReferenceIdeal.Stages.qkv_at, HostStages.biasQ_at]
  refine congr (congrArg _ (Finset.sum_congr rfl fun c _ => ?_)) (congrArg b (congrArg ix1 (Fin.ext ?_)))
  · rw [HostStages.wqT_at]
    refine congrArg (x (ix3 i n c) * ·) (congrArg (fun k => w (ix2 k c)) (Fin.ext ?_))
    show h.val * 64 + d.val = 0 * 768 + (h.val * 64 + d.val)
    omega
  · show h.val * 64 + d.val = 0 * 768 + (h.val * 64 + d.val)
    omega

/-- The kernel's array is the reference's, for row numbers in range and a block matrix of keys. -/
theorem same (hs : ∀ (i : Fin 2) (h : Fin 12) (r : Fin 32), ∃ n : Fin 8192, s (ix3 i h r) = BitVec.ofNat 32 n.val)
    (hk : ∀ (i : Fin 2) (g h : Fin 12) (d : Fin 64) (r : Fin 32), g ≠ h → kb (ix3 i ⟨g.val * 64 + d.val, by omega⟩ ⟨h.val * 32 + r.val, by omega⟩) = 0) :
    Regions.G1 x (HostStages.wqT w) (HostStages.biasQ b) kb HostStages.blocks (HostStages.stack (vals x w b s) 12 le_rfl) (HostStages.wpT wp) (HostStages.biasP bp)
      = attended (partQ (heads (qkv x w b))) (keysT kb) (ReferenceIdeal.Stages.taken (partV (heads (qkv x w b))) (ReferenceIdeal.Stages.rowsAt s)) wp bp := by
  funext q
  obtain ⟨i, n, c, rfl⟩ : ∃ (i : Fin 2) (n : Fin 8192) (c : Fin 768), q = ix3 i n c := by
    idx_vars q
    exact ⟨_, _, _, rfl⟩
  set e := weights (logits (partQ (heads (qkv x w b))) (keysT kb)) with he
  set v := ReferenceIdeal.Stages.taken (partV (heads (qkv x w b))) (ReferenceIdeal.Stages.rowsAt s) with hv
  set l : Fin 384 → EReal := rowL (fun c => x (ix3 i n c)) (fun c k => HostStages.wqT w (ix2 c k)) (fun k => HostStages.biasQ b (ix2 0 k)) (fun k j => kb (ix3 i k j)) with hl
  have hlog : ∀ (h : Fin 12) (r : Fin 32), l ⟨h.val * 32 + r.val, by omega⟩ = logits (partQ (heads (qkv x w b))) (keysT kb) (ix4 i h n r) := by
    intro h r
    rw [hl, rowL_head _ _ _ _ (fun g h d r hg => hk i g h d r hg), ReferenceIdeal.Stages.logits_at]
    refine congrArg (· * _) (Finset.sum_congr rfl fun d _ => ?_)
    rw [ReferenceIdeal.Stages.keysT_at, query_at]
  have hexp : ∀ (h : Fin 12) (r : Fin 32), rowE l ⟨h.val * 32 + r.val, by omega⟩ = e (ix4 i h n r) := by
    intro h r
    rw [rowE_head, he, ReferenceIdeal.Stages.weights_at, hlog]
    exact congrArg (fun f => Ideal.exp (_ - Finset.univ.fold max _ f)) (funext fun t => hlog h t)
  rw [attended, ReferenceIdeal.Stages.projected_at]
  show rowO (rowE l) (fun k j => HostStages.blocks (ix2 k j)) (fun k j => HostStages.stack (vals x w b s) 12 le_rfl (ix3 i k j))
    (fun j c => HostStages.wpT wp (ix2 j c)) (fun c => HostStages.biasP bp (ix2 0 c)) c = _
  refine (rowO_heads (rowE l) _ _ _ _ (fun g h r t => HostStages.blocks_at g h r t) (fun h r d => v (ix4 i h r d)) (fun g h r d => ?_)
    (fun j => mixed (normed e) v (ix3 i n j)) (fun h d => ?_) c).trans ?_
  · rw [HostStages.stack_at]
    have e1 : (h.val * 64 + d.val) / 64 = h.val := by omega
    have e2 : (h.val * 64 + d.val) % 64 = d.val := by omega
    obtain ⟨n', hn⟩ := hs i g r
    by_cases hg : h = g
    · subst hg
      rw [if_pos ⟨h.isLt, e1⟩, if_pos rfl]
      simp only [e2, Fin.eta]
      exact vals_at x w b s i h r d n' hn
    · rw [if_neg fun q => hg (Fin.ext (e1.symm.trans q.2)), if_neg hg]
  · rw [ReferenceIdeal.Stages.mixed_at]
    refine Finset.sum_congr rfl fun r _ => ?_
    rw [ReferenceIdeal.Stages.normed_at, hexp]
    exact congrArg (fun y => Ideal.div _ y * _) (Finset.sum_congr rfl fun t _ => (hexp h t).symm)
  · rw [show HostStages.biasP bp (ix2 0 c) = bp (ix1 c) from HostStages.biasP_at bp c]
    exact congrArg (· + _) (Finset.sum_congr rfl fun j _ => congrArg (_ * ·) (HostStages.wpT_at wp j c))

end

end Cert.Assembly
-- ==== Proof.Sampled.lean ====
/- What the precondition says at an index: every sampled row number is a row, and the key matrix vanishes off its head's block. -/
module

public import proofs.«01_k».proof.Pre_sampled
public import Idealize.ShloMosaic.Lib.Pointwise
public import Idealize.ShloMosaic.Lib.WordCmp

@[expose] public section

set_option maxRecDepth 16384

noncomputable section

namespace Cert.Sampled

open Cert.Pre_sampled Idealize.ShloMosaic

variable [Facts]
variable (x : FVec Ideal S2x8192x768 .f32) (w : FVec Ideal S2304x768 .f32) (b : FVec Ideal S2304 .f32) (wp : FVec Ideal S768x768 .f32)
  (bp : FVec Ideal S768 .f32) (s : IVec S2x12x32 32) (kb : FVec Ideal S2x768x384 .f32)

/-- The precondition's bit at one index. -/
theorem fn_at (i : Fin 2) (g : Fin 12) (d : Fin 64) (h : Fin 12) (r : Fin 32) :
    fn (F := Ideal) x w b wp bp s kb (ix5 i g d h r)
      = IntOp.andi (IntOp.andi (IntOp.cmpi .sge (s (ix3 i g r)) 0#32) (IntOp.cmpi .slt (s (ix3 i g r)) 8192#32))
          (IntOp.ori (IntOp.cmpi .eq (BitVec.ofNat 32 g.val) (BitVec.ofNat 32 h.val))
            (BitVec.ofBool (decide (kb (ix3 i ⟨g.val * 64 + d.val, by omega⟩ ⟨h.val * 32 + r.val, by omega⟩) = 0)))) := by
  pointwise [fn]

theorem and_one : ∀ p q : BitVec 1, IntOp.andi p q = 1#1 → p = 1#1 ∧ q = 1#1 := by decide
theorem or_one : ∀ p q : BitVec 1, IntOp.ori p q = 1#1 → p = 1#1 ∨ q = 1#1 := by decide

theorem ofBool_one (p : Bool) (h : BitVec.ofBool p = 1#1) : p = true := by
  cases p
  · exact absurd h (by decide)
  · rfl

/-- A word between 0 and 8192 is a row number. -/
theorem row_of (a : BitVec 32) (h0 : IntOp.cmpi .sge a 0#32 = 1#1) (h1 : IntOp.cmpi .slt a 8192#32 = 1#1) :
    ∃ n : Fin 8192, a = BitVec.ofNat 32 n.val := by
  have g0 := ofBool_one _ h0
  have g1 := ofBool_one _ h1
  simp only [BitVec.sle_eq_decide, BitVec.slt_eq_decide, decide_eq_true_eq] at g0 g1
  have e0 : (0#32 : BitVec 32).toInt = 0 := by decide
  have e1 : (8192#32 : BitVec 32).toInt = 8192 := by decide
  rw [e0] at g0
  rw [e1] at g1
  rw [BitVec.toInt_eq_toNat_cond] at g0 g1
  have hlt := a.isLt
  refine ⟨⟨a.toNat, by split at g0 <;> omega⟩, ?_⟩
  exact BitVec.eq_of_toNat_eq (by simp)

variable (hp : fn (F := Ideal) x w b wp bp s kb = fun _ => 1#1)
include hp

/-- Every sampled row number is a row. -/
theorem rows (i : Fin 2) (h : Fin 12) (r : Fin 32) : ∃ n : Fin 8192, s (ix3 i h r) = BitVec.ofNat 32 n.val := by
  have q := (fn_at x w b wp bp s kb i h 0 0 r).symm.trans (congrFun hp _)
  obtain ⟨q0, q1⟩ := and_one _ _ (and_one _ _ q).1
  exact row_of _ q0 q1

/-- The key matrix vanishes off its head's block. -/
theorem keys (i : Fin 2) (g h : Fin 12) (d : Fin 64) (r : Fin 32) (hg : g ≠ h) :
    kb (ix3 i ⟨g.val * 64 + d.val, by omega⟩ ⟨h.val * 32 + r.val, by omega⟩) = 0 := by
  have q := (fn_at x w b wp bp s kb i g d h r).symm.trans (congrFun hp _)
  rcases or_one _ _ (and_one _ _ q).2 with q | q
  · have e := ofBool_one _ q
    refine absurd (Fin.ext ?_) hg
    have e' : BitVec.ofNat 32 g.val = BitVec.ofNat 32 h.val := by simpa using e
    have := congrArg BitVec.toNat e'
    simp only [BitVec.toNat_ofNat] at this
    omega
  · exact of_decide_eq_true (ofBool_one _ q)

end Cert.Sampled
-- ==== Proof.KmixSteps.lean ====
/-
  One memory operation at a time: what each operation of the key-mixing kernel's body does to the state its proof carries.
-/
module

public import proofs.«01_k».proof.Proof.Gen.SamplingIdeal.Skeleton
public import Idealize.ShloMosaic.Lib.Tactic
public import Idealize.ShloMosaic.Lib.Pipeline.FrameBody
public import Idealize.ShloMosaic.Lib.Pipeline.FrameSuffix

@[expose] public section

noncomputable section

namespace Cert.SamplingIdeal.Kmix

open Cert.SamplingIdeal Cert.SamplingIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Generic

variable {α : Type} (c : Dev nD) {s : Shape} {e : EltTy}

/-- A load from an owned memref reads the owned contents on the rectangle. -/
theorem load_step {R : sProp 𝕄} {Q : α → sProp 𝕄} {m : Memref sig .tc .vmem s e} {X : s.Idx → Elt F e} {r : Rect s} {hl : m.view.LoadsAt r.toLoadRect}
    {k : (r.shape.Idx → Elt F e) → Prog (TpuEff nD τ sig (Elt F) Λ₀ .tc) α}
    (h : iprop(R ∗ owns (c : Thread nD τ) m fullShare X) ⊢ wp (M := 𝕄) frame (wpE (defs₀ (F := F)) Variants.none c none) Set.univ (k (View.ld X r)) Q) :
    iprop(R ∗ owns (c : Thread nD τ) m fullShare X)
      ⊢ wp (M := 𝕄) frame (wpE (defs₀ (F := F)) Variants.none c none) Set.univ (Prog.lift (.load m r.toLoadRect hl) >>= k) Q := by
  show _ ⊢ wp (M := 𝕄) frame (wpE (defs₀ (F := F)) Variants.none c none) Set.univ (.op (.load m r.toLoadRect hl) k) Q
  unfold owns at h ⊢
  iintro ⟨HR, %f, %hf, H⟩
  subst hf
  have hw := wp_load Variants.none (c : Thread nD τ) none (defs := defs₀ (F := F)) (Γ := .empty) Set.univ (m := m) (r := r.toLoadRect) (hl := hl) (k := k) (Q := Q) (q := fullShare)
    (f := f) (S := m.view.set) (View.setOn_subset_set _ _)
  iapply hw $$ H
  iintro H
  iapply h
  isplitl [HR]; · iexact HR
  iexists f
  isplitr; · ipureintro; rfl
  iexact H

/-- A store into an owned memref leaves the payload on the rectangle and the former contents elsewhere. -/
theorem store_step {R : sProp 𝕄} {Q : α → sProp 𝕄} {m : Memref sig .tc .vmem s e} {X : s.Idx → Elt F e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α}
    (h : ∀ X' : s.Idx → Elt F e, (∀ x, X' (r.emb x) = w x) → (∀ y, y ∉ r.set → X' y = X y) →
      iprop(R ∗ owns (c : Thread nD τ) m fullShare X') ⊢ wp (M := 𝕄) frame (wpE (defs₀ (F := F)) Variants.none c none) Set.univ (k ⟨⟩) Q) :
    iprop(R ∗ owns (c : Thread nD τ) m fullShare X)
      ⊢ wp (M := 𝕄) frame (wpE (defs₀ (F := F)) Variants.none c none) Set.univ (Prog.lift (.store m r w Finset.univ hx hm) >>= k) Q := by
  show _ ⊢ wp (M := 𝕄) frame (wpE (defs₀ (F := F)) Variants.none c none) Set.univ (.op (.store m r w Finset.univ hx hm) k) Q
  unfold owns at h ⊢
  iintro ⟨HR, %f, %hf, H⟩
  subst hf
  have hw := wp_store_writes₀ Variants.none (c : Thread nD τ) none (defs := defs₀ (F := F)) Set.univ (m := m) (r := r) (w := w) (hx := hx) (hm := hm)
    (k := k) (Q := Q) (f := f) (S := m.view.set) (View.set_slice_subset _ _)
  iapply hw $$ H
  iintro H
  iapply h (m.view.read (Elt F) (m.view.writes (Elt F) f [⟨r, w⟩]))
    (fun x => View.read_writes_cons_emb m.view f r w [] x) (fun y hy => View.read_writes_cons_miss m.view f ⟨r, w⟩ [] y hy)
  isplitl [HR]; · iexact HR
  iexists _
  isplitr; · ipureintro; rfl
  iexact H

end Generic

/-! ## The rectangles of one head -/

/-- Head `h`'s row of the row numbers. -/
abbrev rowRect (h : ℕ) (hh : h < 12) : Rect S1x12x32 :=
  Rect.unit (s := S1x12x32) ![0, h, 0] S1x1x32.size (by intro a; fin_cases a <;> simp [S1x12x32, S1x1x32] <;> omega)

/-- Head `h`'s block of the block matrix. -/
abbrev blkRect (h : ℕ) (hh : h < 12) : Rect S1x768x384 :=
  Rect.unit (s := S1x768x384) ![0, 64 * h, 32 * h] S1x64x32.size (by intro a; fin_cases a <;> simp [S1x768x384, S1x64x32] <;> omega)

/-- Head `h`'s columns of the keys. -/
abbrev keyRect (h : ℕ) (hh : h < 12) : Rect S8192x768 :=
  Rect.unit (s := S8192x768) ![0, 64 * h] S8192x64.size (by intro a; fin_cases a <;> simp [S8192x768, S8192x64] <;> omega)

/-- Head `h`'s row of the squared norms. -/
abbrev normRect (h : ℕ) (hh : h < 12) : Rect S12x8192 :=
  Rect.unit (s := S12x8192) ![h, 0] S1x8192.size (by intro a; fin_cases a <;> simp [S12x8192, S1x8192] <;> omega)

/-! ## The state of one batch's last step -/

/-- Each key row's number, along the rows of the one-hot matrix. -/
abbrev keyNo : IVec S32x8192 32 := iota .tc S32x8192 32 [1] iota_S32x8192_d1_w32

section State

-- what is known of the row numbers one head picks, as a row and as a column
variable (PK : IVec S1x32 32 → IVec S32x1 32 → Prop)
variable (K : S8192x768.Idx → Elt F .f32)

-- the row numbers each head picks
variable (T : ℕ → IVec S1x32 32 × IVec S32x1 32)

/-- The first `N` heads have their keys' squared norms. -/
def Norms (N : ℕ) (d : S12x8192.Idx → Elt F .f32) : Prop :=
  ∀ (h : ℕ) (hh : h < 12), h < N → ∀ x, d ((normRect h hh).emb x) = k0_pay31 (View.ld K (keyRect h hh)) x

/-- The first `N` heads have their keys' squared norms, and the first `n` heads are done: each has picked its row numbers, written them,
    and written the product of their one-hot matrix with its keys; every place outside the heads' blocks holds zero. -/
def Done (N n : ℕ) (g7 : S1x12x32.Idx → Elt F .i32) (g8 : S1x768x384.Idx → Elt F .f32) (d : S12x8192.Idx → Elt F .f32) : Prop :=
  (∀ (h : ℕ) (hh : h < 12), h < n → PK (T h).1 (T h).2 ∧ (∀ x, g7 ((rowRect h hh).emb x) = k0_pay74 (T h).1 x)
    ∧ ∀ x, g8 ((blkRect h hh).emb x) = k0_pay75 keyNo (T h).2 (View.ld K (keyRect h hh)) x)
  ∧ (∀ y, (∀ (h : ℕ) (hh : h < 12), y ∉ (blkRect h hh).set) → g8 y = k0_pay27 y) ∧ Norms K N d

/-- `Done`, and head `n` has written the row numbers `w`. -/
def Half (N n : ℕ) (w : S1x1x32.Idx → Elt F .i32) (g7 : S1x12x32.Idx → Elt F .i32) (g8 : S1x768x384.Idx → Elt F .f32)
    (d : S12x8192.Idx → Elt F .f32) : Prop :=
  Done PK K T N n g7 g8 d ∧ ∀ hh : n < 12, ∀ x, g7 ((rowRect n hh).emb x) = w x

variable (c : Dev nD) (a5 : Memref sig .tc .vmem S1x12x4 .i32) (a6 : Memref sig .tc .vmem S1x12x8x1024 .f32)
  (a7 : Memref sig .tc .vmem S1x12x32 .i32) (a8 : Memref sig .tc .vmem S1x768x384 .f32)
  (a9 : Memref sig .tc .vmem S8192x768 .f32) (a10 : Memref sig .tc .vmem S12x8192 .f32)
  (x5 : S1x12x4.Idx → Elt F .i32) (x6 : S1x12x8x1024.Idx → Elt F .f32)

/-- What the body owns there: the first row numbers `x5`, the Gumbel numbers `x6`, the keys `K`, the two results and the
    squared norms, at contents that `φ` holds of. -/
def St (φ : (S1x12x32.Idx → Elt F .i32) → (S1x768x384.Idx → Elt F .f32) → (S12x8192.Idx → Elt F .f32) → Prop) : sProp 𝕄 :=
  iprop(∃ g7 g8 d, ⌜φ g7 g8 d⌝ ∗ owns (c : Thread nD τ) a5 fullShare x5 ∗ owns (c : Thread nD τ) a6 fullShare x6
    ∗ owns (c : Thread nD τ) a7 fullShare g7 ∗ owns (c : Thread nD τ) a8 fullShare g8
    ∗ owns (c : Thread nD τ) a9 fullShare K ∗ owns (c : Thread nD τ) a10 fullShare d)

variable {PK K T c a5 a6 a7 a8 a9 a10 x5 x6}
variable {φ : (S1x12x32.Idx → Elt F .i32) → (S1x768x384.Idx → Elt F .f32) → (S12x8192.Idx → Elt F .f32) → Prop} {α β : Type}

/-- The state, with one owned memref in front of the wand-free rest. -/
theorem St_intro {g7 : S1x12x32.Idx → Elt F .i32} {g8 : S1x768x384.Idx → Elt F .f32} {d : S12x8192.Idx → Elt F .f32} (hφ : φ g7 g8 d) :
    iprop(owns (c : Thread nD τ) a5 fullShare x5 ∗ owns (c : Thread nD τ) a6 fullShare x6
      ∗ owns (c : Thread nD τ) a7 fullShare g7 ∗ owns (c : Thread nD τ) a8 fullShare g8
      ∗ owns (c : Thread nD τ) a9 fullShare K ∗ owns (c : Thread nD τ) a10 fullShare d) ⊢ (St K c a5 a6 a7 a8 a9 a10 x5 x6 φ : sProp 𝕄) := by
  unfold St
  iintro H
  iexists g7, g8, d
  isplitr; · ipureintro; exact hφ
  iexact H

theorem St_elim {G : sProp 𝕄}
    (h : ∀ g7 g8 d, φ g7 g8 d → iprop(owns (c : Thread nD τ) a5 fullShare x5 ∗ owns (c : Thread nD τ) a6 fullShare x6
      ∗ owns (c : Thread nD τ) a7 fullShare g7 ∗ owns (c : Thread nD τ) a8 fullShare g8
      ∗ owns (c : Thread nD τ) a9 fullShare K ∗ owns (c : Thread nD τ) a10 fullShare d) ⊢ G) : (St K c a5 a6 a7 a8 a9 a10 x5 x6 φ : sProp 𝕄) ⊢ G := by
  unfold St
  iintro ⟨%g7, %g8, %d, %hφ, H⟩
  iapply (h g7 g8 d hφ) $$ H

/-! Taking one conjunct to the end, and putting it back. -/

theorem pull_here {B T : sProp 𝕄} : iprop(B ∗ T) ⊢ iprop(T ∗ B) := by
  iintro ⟨HB, HT⟩
  isplitl [HT] <;> iassumption

theorem pull_next {A B R T : sProp 𝕄} (h : T ⊢ iprop(R ∗ B)) : iprop(A ∗ T) ⊢ iprop((A ∗ R) ∗ B) := by
  iintro ⟨HA, HT⟩
  icases h $$ HT with ⟨HR, HB⟩
  isplitl [HA HR]
  · isplitl [HA] <;> iassumption
  · iexact HB

theorem push_next {A B R T : sProp 𝕄} (h : iprop(R ∗ B) ⊢ T) : iprop((A ∗ R) ∗ B) ⊢ iprop(A ∗ T) := by
  iintro ⟨⟨HA, HR⟩, HB⟩
  isplitl [HA]
  · iexact HA
  · iapply h
    isplitl [HR] <;> iassumption

theorem load5 {Q : α → sProp 𝕄} {r : Rect S1x12x4} {hl : a5.view.LoadsAt r.toLoadRect} {k : (r.shape.Idx → Elt F .i32) → Prog (TpuEff nD τ sig (Elt F) Λ₀ .tc) α}
    (h : St K c a5 a6 a7 a8 a9 a10 x5 x6 φ ⊢ wp (M := 𝕄) frame (wpE (defs₀ (F := F)) Variants.none (c : Thread nD τ) none) Set.univ (k (View.ld x5 r)) Q) : St K c a5 a6 a7 a8 a9 a10 x5 x6 φ ⊢ wp (M := 𝕄) frame (wpE (defs₀ (F := F)) Variants.none (c : Thread nD τ) none) Set.univ (Prog.lift (.load a5 r.toLoadRect hl) >>= k) Q := by
  refine St_elim fun g7 g8 d hφ => ?_
  refine .trans ?_ (load_step c (X := x5) (R := iprop(owns (c : Thread nD τ) a6 fullShare x6 ∗ owns (c : Thread nD τ) a7 fullShare g7
    ∗ owns (c : Thread nD τ) a8 fullShare g8 ∗ owns (c : Thread nD τ) a9 fullShare K ∗ owns (c : Thread nD τ) a10 fullShare d))
    (.trans ?_ ((St_intro (φ := φ) (g7 := g7) (g8 := g8) (d := d) hφ).trans h)))
  · exact pull_here
  · exact pull_here

theorem load6 {Q : α → sProp 𝕄} {r : Rect S1x12x8x1024} {hl : a6.view.LoadsAt r.toLoadRect} {k : (r.shape.Idx → Elt F .f32) → Prog (TpuEff nD τ sig (Elt F) Λ₀ .tc) α}
    (h : St K c a5 a6 a7 a8 a9 a10 x5 x6 φ ⊢ wp (M := 𝕄) frame (wpE (defs₀ (F := F)) Variants.none (c : Thread nD τ) none) Set.univ (k (View.ld x6 r)) Q) : St K c a5 a6 a7 a8 a9 a10 x5 x6 φ ⊢ wp (M := 𝕄) frame (wpE (defs₀ (F := F)) Variants.none (c : Thread nD τ) none) Set.univ (Prog.lift (.load a6 r.toLoadRect hl) >>= k) Q := by
  refine St_elim fun g7 g8 d hφ => ?_
  refine .trans ?_ (load_step c (X := x6) (R := iprop(owns (c : Thread nD τ) a5 fullShare x5 ∗ owns (c : Thread nD τ) a7 fullShare g7
    ∗ owns (c : Thread nD τ) a8 fullShare g8 ∗ owns (c : Thread nD τ) a9 fullShare K ∗ owns (c : Thread nD τ) a10 fullShare d))
    (.trans ?_ ((St_intro (φ := φ) (g7 := g7) (g8 := g8) (d := d) hφ).trans h)))
  · exact pull_next pull_here
  · exact push_next pull_here

theorem load7 {Q : α → sProp 𝕄} {r : Rect S1x12x32} {hl : a7.view.LoadsAt r.toLoadRect} {k : (r.shape.Idx → Elt F .i32) → Prog (TpuEff nD τ sig (Elt F) Λ₀ .tc) α}
    (h : ∀ v, St K c a5 a6 a7 a8 a9 a10 x5 x6 φ ⊢ wp (M := 𝕄) frame (wpE (defs₀ (F := F)) Variants.none (c : Thread nD τ) none) Set.univ (k v) Q) : St K c a5 a6 a7 a8 a9 a10 x5 x6 φ ⊢ wp (M := 𝕄) frame (wpE (defs₀ (F := F)) Variants.none (c : Thread nD τ) none) Set.univ (Prog.lift (.load a7 r.toLoadRect hl) >>= k) Q := by
  refine St_elim fun g7 g8 d hφ => ?_
  refine .trans ?_ (load_step c (X := g7) (R := iprop(owns (c : Thread nD τ) a5 fullShare x5 ∗ owns (c : Thread nD τ) a6 fullShare x6
    ∗ owns (c : Thread nD τ) a8 fullShare g8 ∗ owns (c : Thread nD τ) a9 fullShare K ∗ owns (c : Thread nD τ) a10 fullShare d))
    (.trans ?_ ((St_intro (φ := φ) (g7 := g7) (g8 := g8) (d := d) hφ).trans (h _))))
  · exact pull_next (pull_next pull_here)
  · exact push_next (push_next pull_here)

theorem store7 {N n : ℕ} (hn : n < 12) {Q : α → sProp 𝕄} {w : S1x1x32.Idx → Elt F .i32}
    {hx : (a7.access (rowRect n hn)).Stores Finset.univ} {hm : Finset.univ = Finset.univ ∨ ∀ a, (rowRect n hn).stride a = 1}
    {k : PUnit → Prog (TpuEff nD τ sig (Elt F) Λ₀ .tc) α}
    (h : St K c a5 a6 a7 a8 a9 a10 x5 x6 (Half PK K T N n w) ⊢ wp (M := 𝕄) frame (wpE (defs₀ (F := F)) Variants.none (c : Thread nD τ) none) Set.univ (k ⟨⟩) Q) :
    St K c a5 a6 a7 a8 a9 a10 x5 x6 (Done PK K T N n) ⊢ wp (M := 𝕄) frame (wpE (defs₀ (F := F)) Variants.none (c : Thread nD τ) none) Set.univ (Prog.lift (.store a7 (rowRect n hn) w Finset.univ hx hm) >>= k) Q := by
  refine St_elim fun g7 g8 d hφ => ?_
  refine .trans ?_ (store_step c (R := iprop(owns (c : Thread nD τ) a5 fullShare x5 ∗ owns (c : Thread nD τ) a6 fullShare x6
    ∗ owns (c : Thread nD τ) a8 fullShare g8 ∗ owns (c : Thread nD τ) a9 fullShare K ∗ owns (c : Thread nD τ) a10 fullShare d)) (X := g7)
    (fun X' hin hout => .trans ?_ ((St_intro (φ := Half PK K T N n w) (g7 := X') (g8 := g8) (d := d) ?_).trans h)))
  · exact pull_next (pull_next pull_here)
  · exact push_next (push_next pull_here)
  · refine ⟨⟨fun h hh hlt => ?_, hφ.2⟩, fun _ => hin⟩
    obtain ⟨hpk, h7, h8⟩ := hφ.1 h hh hlt
    refine ⟨hpk, fun x => ?_, h8⟩
    rw [hout _ ?_, h7]
    refine Rect.not_mem_set_of_axis _ _ (1 : Fin 3) n 1 rfl rfl rfl (.inl ?_)
    have hx := (x 1).isLt
    show h + 1 * (x 1).val < n
    have : (x 1).val < 1 := hx
    omega

theorem load8 {Q : α → sProp 𝕄} {r : Rect S1x768x384} {hl : a8.view.LoadsAt r.toLoadRect} {k : (r.shape.Idx → Elt F .f32) → Prog (TpuEff nD τ sig (Elt F) Λ₀ .tc) α}
    (h : ∀ v, St K c a5 a6 a7 a8 a9 a10 x5 x6 φ ⊢ wp (M := 𝕄) frame (wpE (defs₀ (F := F)) Variants.none (c : Thread nD τ) none) Set.univ (k v) Q) : St K c a5 a6 a7 a8 a9 a10 x5 x6 φ ⊢ wp (M := 𝕄) frame (wpE (defs₀ (F := F)) Variants.none (c : Thread nD τ) none) Set.univ (Prog.lift (.load a8 r.toLoadRect hl) >>= k) Q := by
  refine St_elim fun g7 g8 d hφ => ?_
  refine .trans ?_ (load_step c (X := g8) (R := iprop(owns (c : Thread nD τ) a5 fullShare x5 ∗ owns (c : Thread nD τ) a6 fullShare x6
    ∗ owns (c : Thread nD τ) a7 fullShare g7 ∗ owns (c : Thread nD τ) a9 fullShare K ∗ owns (c : Thread nD τ) a10 fullShare d))
    (.trans ?_ ((St_intro (φ := φ) (g7 := g7) (g8 := g8) (d := d) hφ).trans (h _))))
  · exact pull_next (pull_next (pull_next pull_here))
  · exact push_next (push_next (push_next pull_here))

/-- The store of zeros over the whole block matrix. -/
theorem store8_zero {Q : α → sProp 𝕄} {inb : ∀ a, (![0, 0, 0] : Fin 3 → ℕ) a + S1x768x384.size a ≤ S1x768x384.size a}
    {hx : (a8.access (Rect.unit (s := S1x768x384) ![0, 0, 0] S1x768x384.size inb)).Stores Finset.univ}
    {hm : Finset.univ = Finset.univ ∨ ∀ a, (Rect.unit (s := S1x768x384) ![0, 0, 0] S1x768x384.size inb).stride a = 1}
    {k : PUnit → Prog (TpuEff nD τ sig (Elt F) Λ₀ .tc) α}
    (h : St K c a5 a6 a7 a8 a9 a10 x5 x6 (Done PK K T 0 0) ⊢ wp (M := 𝕄) frame (wpE (defs₀ (F := F)) Variants.none (c : Thread nD τ) none) Set.univ (k ⟨⟩) Q) :
    St K c a5 a6 a7 a8 a9 a10 x5 x6 (fun _ _ _ => True)
      ⊢ wp (M := 𝕄) frame (wpE (defs₀ (F := F)) Variants.none (c : Thread nD τ) none) Set.univ (Prog.lift (.store a8 (Rect.unit (s := S1x768x384) ![0, 0, 0] S1x768x384.size inb) (k0_pay27 (F := F)) Finset.univ hx hm) >>= k) Q := by
  refine St_elim fun g7 g8 d hφ => ?_
  refine .trans ?_ (store_step c (R := iprop(owns (c : Thread nD τ) a5 fullShare x5 ∗ owns (c : Thread nD τ) a6 fullShare x6
    ∗ owns (c : Thread nD τ) a7 fullShare g7 ∗ owns (c : Thread nD τ) a9 fullShare K ∗ owns (c : Thread nD τ) a10 fullShare d)) (X := g8)
    (fun X' hin hout => .trans ?_ ((St_intro (φ := Done PK K T 0 0) (g7 := g7) (g8 := X') (d := d) ?_).trans h)))
  · exact pull_next (pull_next (pull_next pull_here))
  · exact push_next (push_next (push_next pull_here))
  · refine ⟨fun h hh hlt => absurd hlt (Nat.not_lt_zero _), fun y _ => ?_, fun h hh hlt => absurd hlt (Nat.not_lt_zero _)⟩
    have e : (Rect.unit (s := S1x768x384) ![0, 0, 0] S1x768x384.size inb).emb y = y := by
      refine Rect.emb_eq_of_coords _ _ _ fun a => ?_
      fin_cases a <;> (show _ = 0 + 1 * _; omega)
    rw [← hin y, e]

theorem store8 {N n : ℕ} (hn : n < 12) {Q : α → sProp 𝕄} {w7 : S1x1x32.Idx → Elt F .i32} {w : S1x64x32.Idx → Elt F .f32}
    {hx : (a8.access (blkRect n hn)).Stores Finset.univ} {hm : Finset.univ = Finset.univ ∨ ∀ a, (blkRect n hn).stride a = 1}
    {k : PUnit → Prog (TpuEff nD τ sig (Elt F) Λ₀ .tc) α}
    {row : IVec S1x32 32} {col : IVec S32x1 32} (hpk : PK row col) (h7 : w7 = k0_pay74 row)
    (h8 : w = k0_pay75 keyNo col (View.ld K (keyRect n hn)))
    (h : St K c a5 a6 a7 a8 a9 a10 x5 x6 (Done PK K (Function.update T n (row, col)) N (n + 1)) ⊢ wp (M := 𝕄) frame (wpE (defs₀ (F := F)) Variants.none (c : Thread nD τ) none) Set.univ (k ⟨⟩) Q) :
    St K c a5 a6 a7 a8 a9 a10 x5 x6 (Half PK K T N n w7) ⊢ wp (M := 𝕄) frame (wpE (defs₀ (F := F)) Variants.none (c : Thread nD τ) none) Set.univ (Prog.lift (.store a8 (blkRect n hn) w Finset.univ hx hm) >>= k) Q := by
  refine St_elim fun g7 g8 d hφ => ?_
  refine .trans ?_ (store_step c (R := iprop(owns (c : Thread nD τ) a5 fullShare x5 ∗ owns (c : Thread nD τ) a6 fullShare x6
    ∗ owns (c : Thread nD τ) a7 fullShare g7 ∗ owns (c : Thread nD τ) a9 fullShare K ∗ owns (c : Thread nD τ) a10 fullShare d)) (X := g8)
    (fun X' hin hout => .trans ?_ ((St_intro (φ := Done PK K (Function.update T n (row, col)) N (n + 1)) (g7 := g7) (g8 := X') (d := d) ?_).trans h)))
  · exact pull_next (pull_next (pull_next pull_here))
  · exact push_next (push_next (push_next pull_here))
  · refine ⟨fun h hh hlt => ?_, fun y hy => ?_, hφ.1.2.2⟩
    · by_cases hn' : h = n
      · subst hn'
        rw [Function.update_self]
        exact ⟨hpk, fun x => by rw [hφ.2 hh, h7], fun x => by rw [hin, h8]⟩
      · obtain ⟨hpk, h7, h8⟩ := hφ.1.1 h hh (by omega)
        rw [Function.update_of_ne hn']
        refine ⟨hpk, h7, fun x => ?_⟩
        rw [hout _ ?_, h8]
        refine Rect.not_mem_set_of_axis _ _ (1 : Fin 3) (64 * n) 64 rfl rfl rfl (.inl ?_)
        have hx : (x 1).val < 64 := (x 1).isLt
        show 64 * h + 1 * (x 1).val < 64 * n
        omega
    · rw [hout _ (hy n hn)]
      exact hφ.1.2.1 y hy

theorem load9 {Q : α → sProp 𝕄} {r : Rect S8192x768} {hl : a9.view.LoadsAt r.toLoadRect} {k : (r.shape.Idx → Elt F .f32) → Prog (TpuEff nD τ sig (Elt F) Λ₀ .tc) α}
    (h : St K c a5 a6 a7 a8 a9 a10 x5 x6 φ ⊢ wp (M := 𝕄) frame (wpE (defs₀ (F := F)) Variants.none (c : Thread nD τ) none) Set.univ (k (View.ld K r)) Q) : St K c a5 a6 a7 a8 a9 a10 x5 x6 φ ⊢ wp (M := 𝕄) frame (wpE (defs₀ (F := F)) Variants.none (c : Thread nD τ) none) Set.univ (Prog.lift (.load a9 r.toLoadRect hl) >>= k) Q := by
  refine St_elim fun g7 g8 d hφ => ?_
  refine .trans ?_ (load_step c (X := K) (R := iprop(owns (c : Thread nD τ) a5 fullShare x5 ∗ owns (c : Thread nD τ) a6 fullShare x6
    ∗ owns (c : Thread nD τ) a7 fullShare g7 ∗ owns (c : Thread nD τ) a8 fullShare g8 ∗ owns (c : Thread nD τ) a10 fullShare d))
    (.trans ?_ ((St_intro (φ := φ) (g7 := g7) (g8 := g8) (d := d) hφ).trans h)))
  · exact pull_next (pull_next (pull_next (pull_next pull_here)))
  · exact push_next (push_next (push_next (push_next pull_here)))

/-- Squared norms read before they are written: the program makes no use of them. -/
theorem load10_any {Q : α → sProp 𝕄} {r : Rect S12x8192} {hl : a10.view.LoadsAt r.toLoadRect} {k : (r.shape.Idx → Elt F .f32) → Prog (TpuEff nD τ sig (Elt F) Λ₀ .tc) α}
    (h : ∀ v, St K c a5 a6 a7 a8 a9 a10 x5 x6 φ ⊢ wp (M := 𝕄) frame (wpE (defs₀ (F := F)) Variants.none (c : Thread nD τ) none) Set.univ (k v) Q) : St K c a5 a6 a7 a8 a9 a10 x5 x6 φ ⊢ wp (M := 𝕄) frame (wpE (defs₀ (F := F)) Variants.none (c : Thread nD τ) none) Set.univ (Prog.lift (.load a10 r.toLoadRect hl) >>= k) Q := by
  refine St_elim fun g7 g8 d hφ => ?_
  refine .trans ?_ (load_step c (X := d) (R := iprop(owns (c : Thread nD τ) a5 fullShare x5 ∗ owns (c : Thread nD τ) a6 fullShare x6
    ∗ owns (c : Thread nD τ) a7 fullShare g7 ∗ owns (c : Thread nD τ) a8 fullShare g8 ∗ owns (c : Thread nD τ) a9 fullShare K))
    (.trans ?_ ((St_intro (φ := φ) (g7 := g7) (g8 := g8) (d := d) hφ).trans (h _))))
  · exact pull_next (pull_next (pull_next (pull_next .rfl)))
  · exact push_next (push_next (push_next (push_next .rfl)))

/-- A head's squared norms read. -/
theorem load10 {N n h : ℕ} {inb : ∀ a, (![h, 0] : Fin 2 → ℕ) a + S1x8192.size a ≤ S12x8192.size a} (hN : h < N) {Q : α → sProp 𝕄} {hl : a10.view.LoadsAt (Rect.unit (s := S12x8192) ![h, 0] S1x8192.size inb).toLoadRect}
    {k : ((Rect.unit (s := S12x8192) ![h, 0] S1x8192.size inb).shape.Idx → Elt F .f32) → Prog (TpuEff nD τ sig (Elt F) Λ₀ .tc) α}
    (h' : St K c a5 a6 a7 a8 a9 a10 x5 x6 (Done PK K T N n) ⊢ wp (M := 𝕄) frame (wpE (defs₀ (F := F)) Variants.none (c : Thread nD τ) none) Set.univ (k (k0_pay31 (View.ld K (keyRect h (inb 0))))) Q) :
    St K c a5 a6 a7 a8 a9 a10 x5 x6 (Done PK K T N n) ⊢ wp (M := 𝕄) frame (wpE (defs₀ (F := F)) Variants.none (c : Thread nD τ) none) Set.univ (Prog.lift (.load a10 (Rect.unit (s := S12x8192) ![h, 0] S1x8192.size inb).toLoadRect hl) >>= k) Q := by
  refine St_elim fun g7 g8 d hφ => ?_
  have e : View.ld d (Rect.unit (s := S12x8192) ![h, 0] S1x8192.size inb) = k0_pay31 (View.ld K (keyRect h (inb 0))) := funext fun x => hφ.2.2 h (inb 0) hN x
  refine .trans ?_ (load_step c (X := d) (R := iprop(owns (c : Thread nD τ) a5 fullShare x5 ∗ owns (c : Thread nD τ) a6 fullShare x6
    ∗ owns (c : Thread nD τ) a7 fullShare g7 ∗ owns (c : Thread nD τ) a8 fullShare g8 ∗ owns (c : Thread nD τ) a9 fullShare K))
    (.trans ?_ ((St_intro (φ := Done PK K T N n) (g7 := g7) (g8 := g8) (d := d) hφ).trans (e ▸ h'))))
  · exact pull_next (pull_next (pull_next (pull_next .rfl)))
  · exact push_next (push_next (push_next (push_next .rfl)))

theorem store10 {N : ℕ} (hN : N < 12) {Q : α → sProp 𝕄} {w : S1x8192.Idx → Elt F .f32}
    {hx : (a10.access (normRect N hN)).Stores Finset.univ} {hm : Finset.univ = Finset.univ ∨ ∀ a, (normRect N hN).stride a = 1}
    {k : PUnit → Prog (TpuEff nD τ sig (Elt F) Λ₀ .tc) α}
    (hw : w = k0_pay31 (View.ld K (keyRect N hN)))
    (h : St K c a5 a6 a7 a8 a9 a10 x5 x6 (Done PK K T (N + 1) 0) ⊢ wp (M := 𝕄) frame (wpE (defs₀ (F := F)) Variants.none (c : Thread nD τ) none) Set.univ (k ⟨⟩) Q) : St K c a5 a6 a7 a8 a9 a10 x5 x6 (Done PK K T N 0) ⊢ wp (M := 𝕄) frame (wpE (defs₀ (F := F)) Variants.none (c : Thread nD τ) none) Set.univ (Prog.lift (.store a10 (normRect N hN) w Finset.univ hx hm) >>= k) Q := by
  refine St_elim fun g7 g8 d hφ => ?_
  refine .trans ?_ (store_step c (R := iprop(owns (c : Thread nD τ) a5 fullShare x5 ∗ owns (c : Thread nD τ) a6 fullShare x6
    ∗ owns (c : Thread nD τ) a7 fullShare g7 ∗ owns (c : Thread nD τ) a8 fullShare g8 ∗ owns (c : Thread nD τ) a9 fullShare K)) (X := d)
    (fun X' hin hout => .trans ?_ ((St_intro (φ := Done PK K T (N + 1) 0) (g7 := g7) (g8 := g8) (d := X') ?_).trans h)))
  · exact pull_next (pull_next (pull_next (pull_next .rfl)))
  · exact push_next (push_next (push_next (push_next .rfl)))
  · refine ⟨hφ.1, hφ.2.1, fun h hh hlt x => ?_⟩
    by_cases hn' : h = N
    · subst hn'
      rw [hin, hw]
    · rw [hout _ ?_]
      · exact hφ.2.2 h hh (by omega) x
      · refine Rect.not_mem_set_of_axis _ _ (0 : Fin 2) N 1 rfl rfl rfl (.inl ?_)
        have hx : (x 0).val < 1 := (x 0).isLt
        show h + 1 * (x 0).val < N
        omega

/-- A fact the body assumes, proved. -/
theorem assume_step {P : sProp 𝕄} {Q : α → sProp 𝕄} {C : Prop} {dec : Decidable C} {k : PLift C → Prog (TpuEff nD τ sig (Elt F) Λ₀ .tc) α} (hC : C)
    (h : P ⊢ wp (M := 𝕄) frame (wpE (defs₀ (F := F)) Variants.none (c : Thread nD τ) none) Set.univ (k ⟨hC⟩) Q) : P ⊢ wp (M := 𝕄) frame (wpE (defs₀ (F := F)) Variants.none (c : Thread nD τ) none) Set.univ (Prog.lift (TpuEff.assume C dec) >>= k) Q :=
  h.trans (wp_assume Variants.none (c : Thread nD τ) none Set.univ hC)

/-- A part of the body, then the rest. -/
theorem call_step {P : sProp 𝕄} {Q : α → sProp 𝕄} {p p' : Prog (TpuEff nD τ sig (Elt F) Λ₀ .tc) β} {k : β → Prog (TpuEff nD τ sig (Elt F) Λ₀ .tc) α}
    (hp : p = p') (h : P ⊢ wp (M := 𝕄) frame (wpE (defs₀ (F := F)) Variants.none (c : Thread nD τ) none) Set.univ p' (fun b => wp (M := 𝕄) frame (wpE (defs₀ (F := F)) Variants.none (c : Thread nD τ) none) Set.univ (k b) Q)) : P ⊢ wp (M := 𝕄) frame (wpE (defs₀ (F := F)) Variants.none (c : Thread nD τ) none) Set.univ (p >>= k) Q := by
  subst hp; rw [wp_bind]; exact h

theorem pure_step {P : sProp 𝕄} {Q : α → sProp 𝕄} {a : α} (h : P ⊢ Q a) : P ⊢ wp (M := 𝕄) frame (wpE (defs₀ (F := F)) Variants.none (c : Thread nD τ) none) Set.univ (pure a) Q :=
  h.trans (le_wp_ret _ _ _ a Q)

/-- What a counted loop carries after `n` trips of `G`. -/
def carried {σ : Type} {l : Scf.Loop 32} (G : Fin l.trips → σ → σ) (init : σ) : ℕ → σ
  | 0 => init
  | n + 1 => if h : n < l.trips then G ⟨n, h⟩ (carried G init n) else carried G init n

/-- A counted loop that keeps the state. -/
theorem loop_step {σ : Type} {Q : α → sProp 𝕄} {l : Scf.Loop 32} {hok : l.OK} {init : σ} {body : Fin l.trips → σ → Prog (TpuEff nD τ sig (Elt F) Λ₀ .tc) σ}
    {k : σ → Prog (TpuEff nD τ sig (Elt F) Λ₀ .tc) α} (G : Fin l.trips → σ → σ)
    (hb : ∀ t acc, St K c a5 a6 a7 a8 a9 a10 x5 x6 φ ⊢ wp (M := 𝕄) frame (wpE (defs₀ (F := F)) Variants.none (c : Thread nD τ) none) Set.univ (body t acc) (fun r => iprop(⌜r = G t acc⌝ ∗ St K c a5 a6 a7 a8 a9 a10 x5 x6 φ)))
    (h : St K c a5 a6 a7 a8 a9 a10 x5 x6 φ ⊢ wp (M := 𝕄) frame (wpE (defs₀ (F := F)) Variants.none (c : Thread nD τ) none) Set.univ (k (carried G init l.trips)) Q) : St K c a5 a6 a7 a8 a9 a10 x5 x6 φ ⊢ wp (M := 𝕄) frame (wpE (defs₀ (F := F)) Variants.none (c : Thread nD τ) none) Set.univ (Scf.Loop.for l hok init body >>= k) Q := by
  have e := Scf.wp_for_bind frame (wpE (defs₀ (F := F)) Variants.none (c : Thread nD τ) none) Set.univ l.lb l.ub l.st hok init body
    (fun n acc => iprop(⌜acc = carried G init n⌝ ∗ St K c a5 a6 a7 a8 a9 a10 x5 x6 φ)) (fun t acc => by
      iintro ⟨%ha, H⟩
      subst ha
      have hn : carried G init (t.val + 1) = G t (carried G init t.val) := by
        rw [carried, dif_pos t.isLt]
      rw [hn]
      iapply (hb t _) $$ H) (kk := k) (Q := Q)
  have e' : St K c a5 a6 a7 a8 a9 a10 x5 x6 φ ⊢ iprop(⌜init = carried G init 0⌝ ∗ St K c a5 a6 a7 a8 a9 a10 x5 x6 φ) := by
    iintro H
    isplitr
    · ipureintro; rfl
    · iexact H
  iintro H
  iapply (e'.trans e) $$ H
  iintro %acc ⟨%ha, H⟩
  subst ha
  iapply h $$ H

/-- A counted loop that carries twelve values and keeps the state. -/
theorem means_step {A : Type} {Q : α → sProp 𝕄} {l : Scf.Loop 32} {hok : l.OK} {init : A × A × A × A × A × A × A × A × A × A × A × A}
    {body : Fin l.trips → (A × A × A × A × A × A × A × A × A × A × A × A) → Prog (TpuEff nD τ sig (Elt F) Λ₀ .tc) (A × A × A × A × A × A × A × A × A × A × A × A)}
    {k : (A × A × A × A × A × A × A × A × A × A × A × A) → Prog (TpuEff nD τ sig (Elt F) Λ₀ .tc) α}
    (G : Fin l.trips → (A × A × A × A × A × A × A × A × A × A × A × A) → (A × A × A × A × A × A × A × A × A × A × A × A))
    (hb : ∀ t acc, St K c a5 a6 a7 a8 a9 a10 x5 x6 φ ⊢ wp (M := 𝕄) frame (wpE (defs₀ (F := F)) Variants.none (c : Thread nD τ) none) Set.univ (body t acc) (fun r => iprop(⌜r = G t acc⌝ ∗ St K c a5 a6 a7 a8 a9 a10 x5 x6 φ)))
    (h : St K c a5 a6 a7 a8 a9 a10 x5 x6 φ ⊢ wp (M := 𝕄) frame (wpE (defs₀ (F := F)) Variants.none (c : Thread nD τ) none) Set.univ (k ((carried G init l.trips).1, (carried G init l.trips).2.1, (carried G init l.trips).2.2.1, (carried G init l.trips).2.2.2.1,
      (carried G init l.trips).2.2.2.2.1, (carried G init l.trips).2.2.2.2.2.1, (carried G init l.trips).2.2.2.2.2.2.1,
      (carried G init l.trips).2.2.2.2.2.2.2.1, (carried G init l.trips).2.2.2.2.2.2.2.2.1, (carried G init l.trips).2.2.2.2.2.2.2.2.2.1,
      (carried G init l.trips).2.2.2.2.2.2.2.2.2.2.1, (carried G init l.trips).2.2.2.2.2.2.2.2.2.2.2)) Q) :
    St K c a5 a6 a7 a8 a9 a10 x5 x6 φ ⊢ wp (M := 𝕄) frame (wpE (defs₀ (F := F)) Variants.none (c : Thread nD τ) none) Set.univ (Scf.Loop.for l hok init body >>= k) Q :=
  loop_step G hb h

/-- One trip of the loop that picks row numbers: the largest place left, noted and struck out. -/
def pick (v17 : IVec S8x1024 32) (v18 : IVec S1x32 32) (v19 : IVec S32x1 32) (t : Fin k0_t2_loop.trips)
    (acc : FVec F S8x1024 .f32 × IVec S1x32 32 × IVec S32x1 32) : FVec F S8x1024 .f32 × IVec S1x32 32 × IVec S32x1 32 :=
  (k0_pay73 v17 acc.1, k0_pay71 v17 v18 t acc.1 acc.2.1, k0_pay72 v17 v19 t acc.1 acc.2.2)

/-- Each pick's number, along a row. -/
abbrev slotRow : IVec S1x32 32 := iota .tc S1x32 32 [1] iota_S1x32_d1_w32

/-- Each pick's number, along a column. -/
abbrev slotCol : IVec S32x1 32 := iota .tc S32x1 32 [0] iota_S32x1_d0_w32

/-- What one head picks from `p`: for each pick its row number, along a row and along a column. -/
def picksOf (p : FVec F S8x1024 .f32) : FVec F S8x1024 .f32 × IVec S1x32 32 × IVec S32x1 32 :=
  Scf.fold (pick k0_pay29 slotRow slotCol) (p, k0_pay69, k0_pay70)

/-- One head's places, each with the logarithm of its row's share of the distances to the nearest of the centroids `c`, and the noise `e` on it. -/
def score (valid : IVec S8x8192 1) (c : FVec F S8x64 .f32) (k : Vec F S8192x64 .f32) (n : Vec F S1x8192 .f32) (e : Vec F S1x1x8x1024 .f32) :
    FVec F S8x1024 .f32 :=
  k0_pay68 (k0_pay67 valid c k n) e

/-- What is picked from one head's scores, with noise from `x6`, is as `PK` says. -/
def Picks (PK : IVec S1x32 32 → IVec S32x1 32 → Prop) (x6 : S1x12x8x1024.Idx → Elt F .f32) : Prop :=
  ∀ valid c k n (e : Vec F S1x1x8x1024 .f32), (∀ y, ∃ z, e y = x6 z) → PK (picksOf (score valid c k n e)).2.1 (picksOf (score valid c k n e)).2.2

/-- The loop that picks one head's row numbers. -/
theorem pick_step {P : sProp 𝕄} {Q : α → sProp 𝕄} {v17 : IVec S8x1024 32} {v18 : IVec S1x32 32} {v19 : IVec S32x1 32}
    {hok : k0_t2_loop.OK} {p₀ : FVec F S8x1024 .f32} {r₀ : IVec S1x32 32} {c₀ : IVec S32x1 32}
    {body : Fin k0_t2_loop.trips → FVec F S8x1024 .f32 × IVec S1x32 32 × IVec S32x1 32 → Prog (TpuEff nD τ sig (Elt F) Λ₀ .tc) (FVec F S8x1024 .f32 × IVec S1x32 32 × IVec S32x1 32)}
    {k : FVec F S8x1024 .f32 × IVec S1x32 32 × IVec S32x1 32 → Prog (TpuEff nD τ sig (Elt F) Λ₀ .tc) α}
    (hb : ∀ t acc, body t acc = .ret (pick v17 v18 v19 t acc))
    (hpk : PK (Scf.fold (pick v17 v18 v19) (p₀, r₀, c₀)).2.1 (Scf.fold (pick v17 v18 v19) (p₀, r₀, c₀)).2.2)
    (h : PK (Scf.fold (pick v17 v18 v19) (p₀, r₀, c₀)).2.1 (Scf.fold (pick v17 v18 v19) (p₀, r₀, c₀)).2.2 →
      P ⊢ wp (M := 𝕄) frame (wpE (defs₀ (F := F)) Variants.none (c : Thread nD τ) none) Set.univ (k ((Scf.fold (pick v17 v18 v19) (p₀, r₀, c₀)).1, (Scf.fold (pick v17 v18 v19) (p₀, r₀, c₀)).2.1,
      (Scf.fold (pick v17 v18 v19) (p₀, r₀, c₀)).2.2)) Q) :
    P ⊢ wp (M := 𝕄) frame (wpE (defs₀ (F := F)) Variants.none (c : Thread nD τ) none) Set.univ (Scf.Loop.for k0_t2_loop hok (p₀, r₀, c₀) body >>= k) Q :=
  exec_loopForPure Variants.none (c : Thread nD τ) none Set.univ k0_t2_loop hok _ body _ hb k _ rfl (h hpk)

/-- A word below the number of rows is a row offset. -/
theorem row_inb {v : BitVec 32} (hv : v.toNat < 8192) : ∀ a, (![v.toNat, 0] : Fin 2 → ℕ) a + S1x768.size a ≤ S8192x768.size a := by
  intro a; fin_cases a <;> simp [S1x768, S8192x768] <;> omega

end State

end Cert.SamplingIdeal.Kmix

end
-- ==== Proof.KmixBody.lean ====
/-
  The key-mixing kernel's body at a batch's last step: what it leaves in its two results.
-/
module

public import proofs.«01_k».proof.Proof.KmixSteps

@[expose] public section

set_option maxRecDepth 65536
set_option maxHeartbeats 200000

noncomputable section

namespace Cert.SamplingIdeal.Kmix

open Cert.SamplingIdeal Cert.SamplingIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {PK : IVec S1x32 32 → IVec S32x1 32 → Prop} {K : S8192x768.Idx → Elt F .f32} {c : Dev nD}
  {x5 : S1x12x4.Idx → Elt F .i32} {x6 : S1x12x8x1024.Idx → Elt F .f32}

section Body

variable {i : grid0.Coords}
  {arg2 : Memref sig .tc .vmem S1x512x768 .f32} {harg2 : arg2.IsWhole} {arg3 : Memref sig .tc .vmem S768x768 .f32} {harg3 : arg3.IsWhole}
  {arg4 : Memref sig .tc .vmem S1x768 .f32} {harg4 : arg4.IsWhole} {arg5 : Memref sig .tc .vmem S1x12x4 .i32} {harg5 : arg5.IsWhole}
  {arg6 : Memref sig .tc .vmem S1x12x8x1024 .f32} {harg6 : arg6.IsWhole} {arg7 : Memref sig .tc .vmem S1x12x32 .i32} {harg7 : arg7.IsWhole}
  {arg8 : Memref sig .tc .vmem S1x768x384 .f32} {harg8 : arg8.IsWhole} {arg9 : Memref sig .tc .vmem S8192x768 .f32} {harg9 : arg9.IsWhole}
  {arg10 : Memref sig .tc .vmem S12x8192 .f32} {harg10 : arg10.IsWhole}

/-- One round of the k-means loop only reads, and what it returns is a function of the keys and what it was given. -/
theorem means_round (i : grid0.Coords) (K : S8192x768.Idx → Elt F .f32) (k0_h2 : k0_cond2 i = 1#1) (v10 : IVec S8x8192 32) (v12 : IVec S8x8192 1) (t acc) :
    ∃ r, ∀ {c : Dev nD}
      {arg2 : Memref sig .tc .vmem S1x512x768 .f32} {harg2 : arg2.IsWhole} {arg3 : Memref sig .tc .vmem S768x768 .f32} {harg3 : arg3.IsWhole}
      {arg4 : Memref sig .tc .vmem S1x768 .f32} {harg4 : arg4.IsWhole} {arg5 : Memref sig .tc .vmem S1x12x4 .i32} {harg5 : arg5.IsWhole}
      {arg6 : Memref sig .tc .vmem S1x12x8x1024 .f32} {harg6 : arg6.IsWhole} {arg7 : Memref sig .tc .vmem S1x12x32 .i32} {harg7 : arg7.IsWhole}
      {arg8 : Memref sig .tc .vmem S1x768x384 .f32} {harg8 : arg8.IsWhole} {arg9 : Memref sig .tc .vmem S8192x768 .f32} {harg9 : arg9.IsWhole}
      {arg10 : Memref sig .tc .vmem S12x8192 .f32} {harg10 : arg10.IsWhole}
      {x5 : S1x12x4.Idx → Elt F .i32} {x6 : S1x12x8x1024.Idx → Elt F .f32}
      {PK : IVec S1x32 32 → IVec S32x1 32 → Prop} {T : ℕ → IVec S1x32 32 × IVec S32x1 32} {n : ℕ}
      {v115 v137 v159 v181 v203 v225 v247 v269 v291 v313 v335 : FVec F S8x64 .f32} {v340 : FVec F S1x64 .f32} {v344 : Vec F S1x768 .f32},
      (St K c arg5 arg6 arg7 arg8 arg9 arg10 x5 x6 (Done PK K T 12 n) : sProp 𝕄) ⊢ wp (M := 𝕄) frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10
        k0_h2 v10 v12 v115 v137 v159 v181 v203 v225 v247 v269 v291 v313 v335 v340 v344 t acc) (fun r' => iprop(⌜r' = r⌝ ∗ St K c arg5 arg6 arg7 arg8 arg9 arg10 x5 x6 (Done PK K T 12 n))) := by
  obtain ⟨a0, a1, a2, a3, a4, a5, a6, a7, a8, a9, a10, a11⟩ := acc
  apply Exists.intro
  intros
  unfold k0_t1_body
  dsimp only
  rw [k0_part12_eq_skeleton]
  refine call_step rfl ?_
  unfold k0_part12_skel
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  repeat first
    | with_reducible refine load9 ?_
    | with_reducible refine load10 (by decide) ?_
    | with_reducible refine pure_step ?_
    | with_reducible refine call_step rfl ?_
    | first
      | unfold k0_part1_skel | unfold k0_part2_skel | unfold k0_part3_skel | unfold k0_part4_skel | unfold k0_part5_skel
      | unfold k0_part6_skel | unfold k0_part7_skel | unfold k0_part8_skel | unfold k0_part9_skel | unfold k0_part10_skel
      | unfold k0_part11_skel
    | dsimp only
  iintro H
  isplitr
  · ipureintro
    rfl
  · iexact H

/-- What one round of the k-means loop returns. -/
def roundOf (i : grid0.Coords) (K : S8192x768.Idx → Elt F .f32) (k0_h2 : k0_cond2 i = 1#1) (v10 : IVec S8x8192 32) (v12 : IVec S8x8192 1) (t acc) :=
  (means_round i K k0_h2 v10 v12 t acc).choose

/-- The body's last part, up to the pick of the last head's row numbers: what it picks is a function of what it was given. -/
theorem heads_run (i : grid0.Coords) (K : S8192x768.Idx → Elt F .f32) (k0_h2 : k0_cond2 i = 1#1)
    (x5 : S1x12x4.Idx → Elt F .i32) (x6 : S1x12x8x1024.Idx → Elt F .f32) (hx5 : ∀ x, BitVec.toNat (x5 x) < 8192)
    (PK : IVec S1x32 32 → IVec S32x1 32 → Prop)
    (hpk : Picks PK x6) :
    ∃ (T : ℕ → IVec S1x32 32 × IVec S32x1 32) (row : IVec S1x32 32) (col : IVec S32x1 32), PK row col ∧ ∀ {c : Dev nD}
      {arg2 : Memref sig .tc .vmem S1x512x768 .f32} {harg2 : arg2.IsWhole} {arg3 : Memref sig .tc .vmem S768x768 .f32} {harg3 : arg3.IsWhole}
      {arg4 : Memref sig .tc .vmem S1x768 .f32} {harg4 : arg4.IsWhole} {arg5 : Memref sig .tc .vmem S1x12x4 .i32} {harg5 : arg5.IsWhole}
      {arg6 : Memref sig .tc .vmem S1x12x8x1024 .f32} {harg6 : arg6.IsWhole} {arg7 : Memref sig .tc .vmem S1x12x32 .i32} {harg7 : arg7.IsWhole}
      {arg8 : Memref sig .tc .vmem S1x768x384 .f32} {harg8 : arg8.IsWhole} {arg9 : Memref sig .tc .vmem S8192x768 .f32} {harg9 : arg9.IsWhole}
      {arg10 : Memref sig .tc .vmem S12x8192 .f32} {harg10 : arg10.IsWhole},
      (St K c arg5 arg6 arg7 arg8 arg9 arg10 x5 x6 (fun _ _ _ => True) : sProp 𝕄) ⊢ wp (M := 𝕄) frame (wpE (defs₀ (F := F)) Variants.none (c : Thread nD τ) none) Set.univ
        (k0_part41 (F := F) i arg2 harg2 arg3 harg3 arg4 harg4 arg5 harg5 arg6 harg6 arg7 harg7 arg8 harg8 arg9 harg9 arg10 harg10 k0_h2)
        (fun b => iprop(⌜b.1 = keyNo ∧ b.2.1 = row ∧ b.2.2 = col⌝ ∗ St K c arg5 arg6 arg7 arg8 arg9 arg10 x5 x6 (Done PK K T 12 11))) := by
  apply Exists.intro
  apply Exists.intro
  apply Exists.intro
  apply And.intro
  rotate_left
  intros
  rw [k0_part41_eq_skeleton]
  unfold k0_part41_skel
  simp only [
    k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton, k0_part27_eq_skeleton,
    k0_part28_eq_skeleton, k0_part29_eq_skeleton, k0_part30_eq_skeleton, k0_part31_eq_skeleton, k0_part32_eq_skeleton,
    k0_part33_eq_skeleton, k0_part34_eq_skeleton, k0_part35_eq_skeleton, k0_part36_eq_skeleton, k0_part37_eq_skeleton,
    k0_part38_eq_skeleton, k0_part39_eq_skeleton, k0_part40_eq_skeleton]
  repeat first
    | with_reducible refine load5 ?_
    | with_reducible refine load6 ?_
    | with_reducible refine load7 fun _ => ?_
    | with_reducible refine load8 fun _ => ?_
    | with_reducible refine load9 ?_
    | with_reducible refine load10 (by decide) ?_
    | with_reducible refine load10_any fun _ => ?_
    | (with_reducible refine store10 (by decide) ?_ ?_
       · rfl)
    | (with_reducible refine assume_step ?_ ?_
       · exact fun _ => row_inb (hx5 _))
    | with_reducible refine store7 (by decide) ?_
    | (with_reducible refine store8 (by decide) hrc ?_ ?_ ?_
       · rfl
       · rfl)
    | with_reducible refine store8_zero (PK := PK) (T := fun _ => (k0_pay69, k0_pay70)) ?_
    | (with_reducible refine pick_step (F := F) (PK := PK) (v17 := k0_pay29) (v18 := slotRow) (v19 := slotCol) ?_ ?_ ?_
       · intros; rfl
       · exact hpk _ _ _ _ _ fun _ => ⟨_, rfl⟩
       intro hrc)
    | with_reducible refine means_step (F := F) (roundOf i K k0_h2 _ _) (fun t acc => (means_round i K k0_h2 _ _ t acc).choose_spec) ?_
    | with_reducible refine pure_step ?_
    | (with_reducible refine call_step rfl ?_
       first
         | unfold k0_part13_skel | unfold k0_part14_skel | unfold k0_part15_skel | unfold k0_part16_skel | unfold k0_part17_skel
         | unfold k0_part18_skel | unfold k0_part19_skel | unfold k0_part20_skel | unfold k0_part21_skel | unfold k0_part22_skel
         | unfold k0_part23_skel | unfold k0_part24_skel | unfold k0_part25_skel | unfold k0_part26_skel | unfold k0_part27_skel
         | unfold k0_part28_skel | unfold k0_part29_skel | unfold k0_part30_skel | unfold k0_part31_skel | unfold k0_part32_skel
         | unfold k0_part33_skel | unfold k0_part34_skel | unfold k0_part35_skel | unfold k0_part36_skel | unfold k0_part37_skel
         | unfold k0_part38_skel | unfold k0_part39_skel | unfold k0_part40_skel)
    | dsimp only
  iintro H
  isplitr
  · ipureintro
    exact ⟨rfl, rfl, rfl⟩
  · iexact H
  · exact hpk _ _ _ _ _ fun _ => ⟨_, rfl⟩

variable {x2 : S1x512x768.Idx → Elt F .f32} {x3 : S768x768.Idx → Elt F .f32} {x4 : S1x768.Idx → Elt F .f32}

/-- What a step does to the keys `K`: below the last step it writes its rows' projection; at the last it leaves them. -/
def Chunk (i : grid0.Coords) (x2 : S1x512x768.Idx → Elt F .f32) (x3 : S768x768.Idx → Elt F .f32) (x4 : S1x768.Idx → Elt F .f32)
    (K K' : S8192x768.Idx → Elt F .f32) : Prop :=
  (∀ h : k0_cond1 i = 1#1,
    (∀ x, K' ((Rect.unit (s := S8192x768) (k0_off1 i) S512x768.size (k0_off1_inb i h)).emb x)
      = k0_pay1 (View.ld x2 (Rect.unit (s := S1x512x768) ![0, 0, 0] S1x512x768.size inb_S1x512x768_S1x512x768_0_0_0))
          (View.ld x3 (Rect.unit (s := S768x768) ![0, 0] S768x768.size inb_S768x768_S768x768_0_0))
          (View.ld x4 (Rect.unit (s := S1x768) ![0, 0] S1x768.size inb_S1x768_S1x768_0_0)) x)
    ∧ ∀ y, y ∉ (Rect.unit (s := S8192x768) (k0_off1 i) S512x768.size (k0_off1_inb i h)).set → K' y = K y)
  ∧ (¬ k0_cond1 i = 1#1 → K' = K)

/-- A fact in front of the state, taken out. -/
theorem pure_elim_sep {P : sProp 𝕄} {G : sProp 𝕄} {C : Prop} (h : C → P ⊢ G) : iprop(⌜C⌝ ∗ P) ⊢ G := by
  iintro ⟨%hC, H⟩
  iapply (h hC) $$ H

/-- What a run does not touch is kept. -/
theorem frame_step {α : Type} {R P : sProp 𝕄} {Q Q' : α → sProp 𝕄} {p : Prog (TpuEff nD τ sig (Elt F) Λ₀ .tc) α} (h : P ⊢ wp (M := 𝕄) frame (wpE (defs₀ (F := F)) Variants.none (c : Thread nD τ) none) Set.univ p Q')
    (hQ : ∀ a, iprop(R ∗ Q' a) ⊢ Q a) : iprop(R ∗ P) ⊢ wp (M := 𝕄) frame (wpE (defs₀ (F := F)) Variants.none (c : Thread nD τ) none) Set.univ p Q :=
  (sep_mono_r h).trans ((wp_frame_l _ _ _).trans (wp_mono _ _ _ hQ))

/-- A step either projects rows or is a batch's last. -/
theorem not_both (h1 : k0_cond1 i = 1#1) : ¬ k0_cond2 i = 1#1 := by
  have e : ∀ a : Fin 17, Scalar.cmpi .ne (Scalar.extui (Scalar.cmpi .slt (BitVec.ofNat 32 a.val) 16#32) : BitVec 32) 0#32 = 1#1 →
      ¬ Scalar.cmpi .ne (Scalar.extui (Scalar.cmpi .eq (BitVec.ofNat 32 a.val) 16#32) : BitVec 32) 0#32 = 1#1 := by decide
  exact e (i 1) h1

variable (c arg2 arg3 arg4 arg5 arg6 arg7 arg8 arg9 arg10 x2 x3 x4 x5 x6) in
/-- What the body owns: its five inputs' blocks, its two results' blocks, the keys and the squared norms. -/
abbrev Own (g7 : S1x12x32.Idx → Elt F .i32) (g8 : S1x768x384.Idx → Elt F .f32) (K : S8192x768.Idx → Elt F .f32) (d : S12x8192.Idx → Elt F .f32) :
    sProp 𝕄 :=
  iprop((owns (c : Thread nD τ) arg2 fullShare x2 ∗ owns (c : Thread nD τ) arg3 fullShare x3 ∗ owns (c : Thread nD τ) arg4 fullShare x4)
    ∗ owns (c : Thread nD τ) arg5 fullShare x5 ∗ owns (c : Thread nD τ) arg6 fullShare x6 ∗ owns (c : Thread nD τ) arg7 fullShare g7
    ∗ owns (c : Thread nD τ) arg8 fullShare g8 ∗ owns (c : Thread nD τ) arg9 fullShare K ∗ owns (c : Thread nD τ) arg10 fullShare d)

/-- The row numbers a batch's last step picks, head by head. -/
def picked (i : grid0.Coords) (K : S8192x768.Idx → Elt F .f32) (h2 : k0_cond2 i = 1#1)
    (x5 : S1x12x4.Idx → Elt F .i32) (x6 : S1x12x8x1024.Idx → Elt F .f32) (hx5 : ∀ x, BitVec.toNat (x5 x) < 8192)
    (PK : IVec S1x32 32 → IVec S32x1 32 → Prop)
    (hpk : Picks PK x6) : ℕ → IVec S1x32 32 × IVec S32x1 32 :=
  Function.update (heads_run i K h2 x5 x6 hx5 PK hpk).choose 11
    ((heads_run i K h2 x5 x6 hx5 PK hpk).choose_spec.choose, (heads_run i K h2 x5 x6 hx5 PK hpk).choose_spec.choose_spec.choose)

/-- One step of the kernel. -/
theorem step_run (hx5 : ∀ x, BitVec.toNat (x5 x) < 8192)
    (hpk : Picks PK x6)
    {g7 : S1x12x32.Idx → Elt F .i32} {g8 : S1x768x384.Idx → Elt F .f32} {d : S12x8192.Idx → Elt F .f32} {Q : PUnit → sProp 𝕄}
    (hQ : ∀ K' g7' g8' d', Chunk i x2 x3 x4 K K' → (∀ h2 : k0_cond2 i = 1#1, Done PK K' (picked i K' h2 x5 x6 hx5 PK hpk) 12 12 g7' g8' d') →
      (Own c x5 x6 arg2 arg3 arg4 arg5 arg6 arg7 arg8 arg9 arg10 x2 x3 x4 g7' g8' K' d' : sProp 𝕄) ⊢ Q ⟨⟩) :
    (Own c x5 x6 arg2 arg3 arg4 arg5 arg6 arg7 arg8 arg9 arg10 x2 x3 x4 g7 g8 K d : sProp 𝕄) ⊢ wp (M := 𝕄) frame (wpE (defs₀ (F := F)) Variants.none (c : Thread nD τ) none) Set.univ (cc0__kmix_body (F := F) i arg2 harg2 arg3 harg3 arg4 harg4 arg5 harg5 arg6 harg6 arg7 harg7 arg8 harg8 arg9 harg9 arg10 harg10) Q := by
  rw [cc0__kmix_body_eq_skeleton]
  unfold cc0__kmix_body_skel
  dsimp only
  by_cases h1 : k0_cond1 i = 1#1
  · rw [dif_pos h1, dif_neg (not_both h1)]
    refine pull_here.trans ?_
    refine (pull_next pull_here).trans (load_step c (X := x2) ((push_next pull_here).trans ?_))
    refine (pull_next (pull_next pull_here)).trans (load_step c (X := x3) ((push_next (push_next pull_here)).trans ?_))
    refine (pull_next (pull_next .rfl)).trans (load_step c (X := x4) ((push_next (push_next .rfl)).trans ?_))
    refine pull_here.trans ?_
    refine (pull_next (pull_next (pull_next (pull_next (pull_next pull_here))))).trans (load_step c (X := K) ((push_next (push_next (push_next (push_next (push_next pull_here))))).trans ?_))
    refine (pull_next (pull_next (pull_next (pull_next (pull_next pull_here))))).trans (store_step c (X := K) fun K' hin hout => (push_next (push_next (push_next (push_next (push_next pull_here))))).trans (pure_step ?_))
    exact hQ K' g7 g8 d ⟨fun _ => ⟨hin, hout⟩, fun h => absurd h1 h⟩ (fun h => absurd h (not_both h1))
  · rw [dif_neg h1]
    by_cases h2 : k0_cond2 i = 1#1
    · rw [dif_pos h2]
      refine frame_step (Q' := fun _ => St K c arg5 arg6 arg7 arg8 arg9 arg10 x5 x6 (Done PK K (picked i K h2 x5 x6 hx5 PK hpk) 12 12))
        ((St_intro (φ := fun _ _ _ => True) trivial).trans ?_) fun b => ?_
      · refine call_step rfl (((heads_run i K h2 x5 x6 hx5 PK hpk).choose_spec.choose_spec.choose_spec.2).trans (wp_mono _ _ _ fun b => ?_))
        obtain ⟨b0, row, col⟩ := b
        refine pure_elim_sep fun hb => ?_
        obtain ⟨hb, hrow, hcol⟩ := hb
        dsimp only at hb hrow hcol ⊢
        subst hb hrow hcol
        with_reducible refine load7 fun _ => ?_
        with_reducible refine store7 (by decide) ?_
        with_reducible refine load9 ?_
        with_reducible refine load8 fun _ => ?_
        with_reducible refine store8 (row := (heads_run i K h2 x5 x6 hx5 PK hpk).choose_spec.choose) (col := (heads_run i K h2 x5 x6 hx5 PK hpk).choose_spec.choose_spec.choose) (by decide) ?_ ?_ ?_ ?_
        · exact (heads_run i K h2 x5 x6 hx5 PK hpk).choose_spec.choose_spec.choose_spec.1
        · rfl
        · rfl
        exact pure_step .rfl
      · unfold St
        iintro ⟨H, %g7', %g8', %d', %hg, H'⟩
        iapply (hQ K g7' g8' d' ⟨fun h => absurd h h1, fun _ => rfl⟩ fun _ => hg)
        isplitl [H]
        · iexact H
        · iexact H'
    · rw [dif_neg h2]
      exact pure_step (hQ K g7 g8 d ⟨fun h => absurd h h1, fun _ => rfl⟩ fun h => absurd h h2)

end Body

end Cert.SamplingIdeal.Kmix
-- ==== Proof.KmixRun.lean ====
/-
  The key-mixing kernel's run: every step's triple from the body's (KmixBody.lean), the projected keys tracked from step to step of a
  batch, and the two results held to what each batch's last step leaves.
-/
module

public import proofs.«01_k».proof.Proof.KmixBody
public import proofs.«01_k».proof.Proof.Gen.SamplingIdeal.Launch
public import proofs.«01_k».proof.Proof.Gen.SamplingIdeal.Points
public import Idealize.ShloMosaic.Lib.Pipeline.FrameBody
public import Idealize.ShloMosaic.Lib.Pipeline.DatRel
public import Idealize.ShloMosaic.Lib.Pipeline.ArrRel
public import Idealize.ShloMosaic.Lib.Pipeline.Frame

@[expose] public section

set_option maxRecDepth 16384

noncomputable section

namespace Cert.SamplingIdeal.Kmix

open Cert.SamplingIdeal Cert.SamplingIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)

variable {F : FTy → Type} [FloatOps F]

local notation "𝕄" => MT nD τ sig Unit (Elt F) ℕ (UR sig nD τ) ℕ

/-! ## The grid: two batches of seventeen steps -/

theorem cond1_iff : ∀ t : Fin cfg0.N, k0_cond1 (grid0.coords t) = 1#1 ↔ t.val % 17 < 16 := by
  show ∀ t : Fin 34, _
  decide

theorem cond2_iff : ∀ t : Fin cfg0.N, k0_cond2 (grid0.coords t) = 1#1 ↔ t.val % 17 = 16 := by
  show ∀ t : Fin 34, _
  decide

theorem off1_eq : ∀ t : Fin cfg0.N, k0_off1 (grid0.coords t) = ![512 * (t.val % 17), 0] := by
  show ∀ t : Fin 34, _
  decide

-- the buffers' contents where the region is entered
variable (V : (c : Dev nD) → (b : Ref sig .tc) → Buf (Elt F) ((c : Thread nD τ).loc b))

/-- Window `w`'s block at step `t`. -/
def blkOf (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows that step `t` projects. -/
def rowsAt (c : Dev nD) (t : Fin cfg0.N) : S512x768.Idx → Elt F .f32 :=
  k0_pay1 (View.ld (blkOf V c 0 t : S1x512x768.Idx → Elt F .f32) (Rect.unit (s := S1x512x768) ![0, 0, 0] S1x512x768.size inb_S1x512x768_S1x512x768_0_0_0))
    (View.ld (blkOf V c 1 t : S768x768.Idx → Elt F .f32) (Rect.unit (s := S768x768) ![0, 0] S768x768.size inb_S768x768_S768x768_0_0))
    (View.ld (blkOf V c 2 t : S1x768.Idx → Elt F .f32) (Rect.unit (s := S1x768) ![0, 0] S1x768.size inb_S1x768_S1x768_0_0))

/-- The step of batch `b` that projects row `r`. -/
def stepOf (b : ℕ) (r : ℕ) : Fin cfg0.N := Fin.ofNat 34 (17 * b + r / 512)

/-- Row `r` among the rows its step projects. -/
def rowIn (y : S8192x768.Idx) : S512x768.Idx := Fin.cons ⟨(y 0).val % 512, Nat.mod_lt _ (by decide)⟩ (Fin.cons (y 1) fun a => a.elim0)

/-- Batch `b`'s keys. -/
def keysOf (c : Dev nD) (b : ℕ) (y : S8192x768.Idx) : Elt F .f32 := rowsAt V c (stepOf b (y 0).val) (rowIn y)

/-- Before step `n` the rows projected so far are the batch's keys. -/
def Good (c : Dev nD) (n : ℕ) (K : S8192x768.Idx → Elt F .f32) : Prop :=
  ∀ y : S8192x768.Idx, (y 0).val < 512 * (n % 17) → K y = keysOf V c (n / 17) y

theorem Good.all {V} {c : Dev nD} {n : ℕ} {K : S8192x768.Idx → Elt F .f32} (h : Good V c n K) (hn : n % 17 = 16) : K = keysOf V c (n / 17) := by
  funext y
  refine h y ?_
  have hy : (y 0).val < 8192 := (y 0).isLt
  rw [hn]
  exact hy

/-- A step keeps what is known of the keys. -/
theorem Good.step {V} {c : Dev nD} {t : Fin cfg0.N} {K K' : S8192x768.Idx → Elt F .f32} (h : Good V c t.val K)
    (hc : Chunk (grid0.coords t) (blkOf V c 0 t) (blkOf V c 1 t) (blkOf V c 2 t) K K') : Good V c (t.val + 1) K' := by
  intro y hy
  by_cases ht : t.val % 17 < 16
  · have h1 : k0_cond1 (grid0.coords t) = 1#1 := (cond1_iff t).2 ht
    obtain ⟨hin, hout⟩ := hc.1 h1
    have e1 : (t.val + 1) % 17 = t.val % 17 + 1 := by omega
    have e2 : (t.val + 1) / 17 = t.val / 17 := by omega
    rw [e1] at hy
    rw [e2]
    by_cases hlt : (y 0).val < 512 * (t.val % 17)
    · rw [hout y ?_]
      · exact h y hlt
      · refine Rect.not_mem_set_of_axis _ _ (0 : Fin 2) (512 * (t.val % 17)) 512 ?_ rfl rfl (.inl hlt)
        exact congrFun (off1_eq t) 0
    · have hy1 : (y 1).val < 768 := (y 1).isLt
      have ht34 : t.val < 34 := t.isLt
      have es : stepOf (t.val / 17) (y 0).val = t := by
        refine Fin.ext ?_
        show (17 * (t.val / 17) + (y 0).val / 512) % 34 = t.val
        omega
      have ey : (Rect.unit (s := S8192x768) (k0_off1 (grid0.coords t)) S512x768.size (k0_off1_inb (grid0.coords t) h1)).emb (rowIn y) = y := by
        funext a
        refine Fin.ext ?_
        show k0_off1 (grid0.coords t) a + 1 * (rowIn y a).val = (y a).val
        rw [off1_eq]
        fin_cases a
        · show 512 * (t.val % 17) + 1 * ((y 0).val % 512) = (y 0).val
          omega
        · show 0 + 1 * (y 1).val = (y 1).val
          omega
      rw [← ey, hin (rowIn y), ey]
      unfold keysOf
      rw [es]
      rfl
  · have e1 : (t.val + 1) % 17 = 0 := by omega
    rw [e1] at hy
    omega

/-! ## The proof data -/

variable (PK : IVec S1x32 32 → IVec S32x1 32 → Prop)
  (hpk : ∀ (c : Dev nD) (t : Fin cfg0.N), Picks PK (blkOf V c 4 t))
  (hst : ∀ (c : Dev nD) (t : Fin cfg0.N) (x : S1x12x4.Idx), BitVec.toNat ((blkOf V c 3 t : S1x12x4.Idx → Elt F .i32) x) < 8192)

/-- The row numbers step `t` picks, if it is a batch's last. -/
def pickedAt (c : Dev nD) (t : Fin cfg0.N) (h2 : k0_cond2 (grid0.coords t) = 1#1) : ℕ → IVec S1x32 32 × IVec S32x1 32 :=
  picked (grid0.coords t) (keysOf V c (t.val / 17)) h2 (blkOf V c 3 t) (blkOf V c 4 t) (hst c t) PK (hpk c t)

/-- What a batch's last step leaves in the two results' blocks. -/
def Left (c : Dev nD) (t : Fin cfg0.N) (g7 : S1x12x32.Idx → Elt F .i32) (g8 : S1x768x384.Idx → Elt F .f32) (d : S12x8192.Idx → Elt F .f32) :
    Prop :=
  ∀ h2 : k0_cond2 (grid0.coords t) = 1#1, Done PK (keysOf V c (t.val / 17)) (pickedAt V PK hpk hst c t h2) 12 12 g7 g8 d

/-- What is known of a window's block after step `t`. -/
def Rl (c : Dev nD) (w : Fin cfg0.W) (t : Fin cfg0.N) : ((cfg0.win w).block.Idx → Elt F (cfg0.win w).elt) → Prop :=
  match w with
  | ⟨0, _⟩ | ⟨1, _⟩ | ⟨2, _⟩ | ⟨3, _⟩ | ⟨4, _⟩ => fun _ => True
  | ⟨5, _⟩ => fun X => ∃ g8 d, Left V PK hpk hst c t X g8 d
  | ⟨6, _⟩ => fun X => ∃ g7 d, Left V PK hpk hst c t g7 X d

/-- The two results' windows. -/
def isRes (w : Fin cfg0.W) : Bool :=
  match w with
  | ⟨0, _⟩ | ⟨1, _⟩ | ⟨2, _⟩ | ⟨3, _⟩ | ⟨4, _⟩ => false
  | ⟨5, _⟩ | ⟨6, _⟩ => true

/-- Between steps: the keys projected so far, the squared norms' buffer at some contents, and the random generator's state. -/
def Inv (c : Dev nD) (n : ℕ) : sProp 𝕄 :=
  iprop((∃ K d, ⌜Good V c n K⌝ ∗ owns (c : Thread nD τ) (Memref.whole cc0_scratch0) fullShare K
    ∗ owns (c : Thread nD τ) (Memref.whole cc0_scratch1) fullShare d) ∗ ∃ r, prngReg c r)

/-- The inputs' blocks stay; the results are held to `Rl`. -/
def dat (c : Dev nD) : Dat τ (Elt F) Unit ℕ (UR sig nD τ) ℕ cfg0 c where
  A w := V c (Pipeline.arrRef spec0 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blkOf V c 6 t
  Φ n := Inv V c n.val
  q _ := fullShare
  owed _ := 0

theorem dat_A (c : Dev nD) (w : Fin cfg0.W) : (dat V c).A w = V c (Pipeline.arrRef spec0 w) := by
  dsimp only [dat]

theorem before_0 (c : Dev nD) (t : Fin cfg0.N) (d) : (dat V c).before 0 t d = blkOf V c 0 t :=
  ((dat V c).before_in_eq_fetched 0 rfl (fun _ => rfl) (fun _ _ _ => rfl) (fun _ => rfl) t d).trans rfl
theorem before_1 (c : Dev nD) (t : Fin cfg0.N) (d) : (dat V c).before 1 t d = blkOf V c 1 t :=
  ((dat V c).before_in_eq_fetched 1 rfl (fun _ => rfl) (fun _ _ _ => rfl) (fun _ => rfl) t d).trans rfl
theorem before_2 (c : Dev nD) (t : Fin cfg0.N) (d) : (dat V c).before 2 t d = blkOf V c 2 t :=
  ((dat V c).before_in_eq_fetched 2 rfl (fun _ => rfl) (fun _ _ _ => rfl) (fun _ => rfl) t d).trans rfl
theorem before_3 (c : Dev nD) (t : Fin cfg0.N) (d) : (dat V c).before 3 t d = blkOf V c 3 t :=
  ((dat V c).before_in_eq_fetched 3 rfl (fun _ => rfl) (fun _ _ _ => rfl) (fun _ => rfl) t d).trans rfl
theorem before_4 (c : Dev nD) (t : Fin cfg0.N) (d) : (dat V c).before 4 t d = blkOf V c 4 t :=
  ((dat V c).before_in_eq_fetched 4 rfl (fun _ => rfl) (fun _ _ _ => rfl) (fun _ => rfl) t d).trans rfl

/-! ## The body obligation -/

/-- What the body is called with at step `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ Y, ⌜((dat V c).toRRel isRes (Rl V PK hpk hst c)).Finds 5 t Y⌝ ∗ owns (c : Thread nD τ) (st0_5 t) fullShare Y)
    ∗ (∃ Y, ⌜((dat V c).toRRel isRes (Rl V PK hpk hst c)).Finds 6 t Y⌝ ∗ owns (c : Thread nD τ) (st0_6 t) fullShare Y))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ (∃ X, ⌜Rl V PK hpk hst c 5 t X⌝ ∗ owns (c : Thread nD τ) (st0_5 t) fullShare X)
    ∗ (∃ X, ⌜Rl V PK hpk hst c 6 t X⌝ ∗ owns (c : Thread nD τ) (st0_6 t) fullShare X))

/-- The body at any step. -/
theorem sound_body (c : Dev nD) (t : Fin cfg0.N) :
    bodyPre V PK hpk hst c t ⊢ wp (M := 𝕄) frame (wpE (defs₀ (F := F)) Variants.none c none) Set.univ (bodyAt0 t) (fun _ => bodyPost V PK hpk hst c t) := by
  unfold bodyPre bodyAt0
  simp only [before_0, before_1, before_2, before_3, before_4]
  rw [show (dat V c).Φ t.castSucc = Inv V c t.val from rfl]
  unfold Inv
  iintro ⟨⟨⟨%K, %dn, %hK, HK, Hd⟩, Hr⟩, Ho, ⟨%d0, H0⟩, ⟨%d1, H1⟩, ⟨%d2, H2⟩, ⟨%d3, H3⟩, ⟨%d4, H4⟩, ⟨%Y5, %h5, H5⟩, ⟨%Y6, %h6, H6⟩⟩
  iapply (frame_step (R := iprop((∃ r, prngReg c r) ∗ (dat V c).owesAt () t.castSucc)) (Q := fun _ => bodyPost V PK hpk hst c t)
    (step_run (c := c) (i := grid0.coords t) (K := K) (x2 := blkOf V c 0 t) (x3 := blkOf V c 1 t) (x4 := blkOf V c 2 t) (x5 := blkOf V c 3 t)
      (x6 := blkOf V c 4 t) (g7 := Y5) (g8 := Y6) (d := dn) (hst c t) (hpk c t)
      (Q := fun _ => iprop(∃ K' g7' g8' d', ⌜Good V c (t.val + 1) K' ∧ Left V PK hpk hst c t g7' g8' d'⌝
        ∗ Own c (blkOf V c 3 t) (blkOf V c 4 t) (st0_0 t) (st0_1 t) (st0_2 t) (st0_3 t) (st0_4 t) (st0_5 t) (st0_6 t) (Memref.whole cc0_scratch0)
          (Memref.whole cc0_scratch1) (blkOf V c 0 t) (blkOf V c 1 t) (blkOf V c 2 t) g7' g8' K' d'))
      fun K' g7' g8' d' hc hd => ?_) fun _ => ?_)
  · iintro H
    iexists K'; iexists g7'; iexists g8'; iexists d'
    isplitr
    · ipureintro
      refine ⟨hK.step hc, fun h2 => ?_⟩
      have e : K' = keysOf V c (t.val / 17) := (hc.2 fun h1 => not_both h1 h2).trans (hK.all ((cond2_iff t).1 h2))
      subst e
      exact hd h2
    · iexact H
  · unfold bodyPost
    rw [show (dat V c).Φ t.succ = Inv V c (t.val + 1) from rfl]
    unfold Inv
    iintro ⟨⟨Hr, Ho⟩, %K', %g7', %g8', %d', %hl, ⟨H0, H1, H2⟩, H3, H4, H5, H6, HK, Hd⟩
    isplitl [Hr HK Hd]
    · isplitl [HK Hd]
      · iexists K'; iexists d'
        isplitr
        · ipureintro; exact hl.1
        isplitl [HK]
        · iexact HK
        · iexact Hd
      · iexact Hr
    isplitl [Ho]; · iexact Ho
    isplitl [H0]; · iexact H0
    isplitl [H1]; · iexact H1
    isplitl [H2]; · iexact H2
    isplitl [H3]; · iexact H3
    isplitl [H4]; · iexact H4
    isplitl [H5]
    · iexists g7'
      isplitr
      · ipureintro; exact ⟨g8', d', hl.2⟩
      · iexact H5
    · iexists g8'
      isplitr
      · ipureintro; exact ⟨g7', d', hl.2⟩
      · iexact H6
  · isplitl [Hr Ho]
    · isplitl [Hr]; · iexact Hr
      iexact Ho
    isplitl [H0 H1 H2]
    · isplitl [H0]; · iexact H0
      isplitl [H1]; · iexact H1
      iexact H2
    isplitl [H3]; · iexact H3
    isplitl [H4]; · iexact H4
    isplitl [H5]; · iexact H5
    isplitl [H6]; · iexact H6
    isplitl [HK]; · iexact HK
    iexact Hd

/-- The body table's row at step `t`'s slots is the body. -/
theorem body_row (t : Fin cfg0.N) : defs₀ (F := F) .tc cfg0.body (cfg0.bodyArgs t (cfg0.slots t)) = bodyAt0 t := by
  unfold defs₀; rw [Defs.onTc_tc]

/-- The run's data: the results' windows held to `Rl`. -/
abbrev rdat (c : Dev nD) := (dat V c).toRRel isRes (Rl V PK hpk hst c)

theorem body_obligation (c : Dev nD) :
    BodyObligationRel (dat (F := F) V c) (defs₀ (F := F)) Variants.none () Set.univ isRes (Rl V PK hpk hst c) := fun t => by
  rw [bigSep_W0, bigSep_W0, body_row]
  exact triple_restated (sound_body V PK hpk hst c t) rfl .rfl fun _ => .rfl

/-! ## The launch -/

theorem inv_in (c : Dev nD) : (Pipeline.ΦA spec0 c : sProp 𝕄) ⊢ Inv V c 0 := by
  unfold Pipeline.ΦA Inv
  rw [scopedRest0_eq c]
  iintro ⟨⟨⟨%f, Hf⟩, ⟨%f', Hf'⟩⟩, Hr⟩
  isplitl [Hf Hf']
  · iexists f; iexists f'
    rw [owns_whole (c : Thread nD τ) cc0_scratch0 fullShare f, owns_whole (c : Thread nD τ) cc0_scratch1 fullShare f']
    isplitr
    · ipureintro; exact fun y hy => absurd hy (Nat.not_lt_zero _)
    isplitl [Hf]
    · iexact Hf
    · iexact Hf'
  · iexact Hr

theorem inv_out (c : Dev nD) (n : ℕ) : Inv V c n ⊢ (Pipeline.ΦA spec0 c : sProp 𝕄) := by
  have h : ∀ (K : S8192x768.Idx → Elt F .f32) (d : S12x8192.Idx → Elt F .f32),
      (iprop(owns (c : Thread nD τ) (Memref.whole cc0_scratch0) fullShare K ∗ owns (c : Thread nD τ) (Memref.whole cc0_scratch1) fullShare d) : sProp 𝕄)
        ⊢ Pipeline.scopedRest spec0 c := fun K d => by
    rw [scopedRest0_eq c, owns_whole (c : Thread nD τ) cc0_scratch0 fullShare K, owns_whole (c : Thread nD τ) cc0_scratch1 fullShare d]
    iintro ⟨Hf, Hf'⟩
    isplitl [Hf]
    · iexists K; iexact Hf
    · iexists d; iexact Hf'
  unfold Pipeline.ΦA Inv
  iintro ⟨⟨%K, %d, %hK, Hf, Hf'⟩, Hr⟩
  isplitl [Hf Hf']
  · iapply (h K d)
    isplitl [Hf]
    · iexact Hf
    · iexact Hf'
  · iexact Hr

/-- The buffers' contents where the region is entered: what @main's first operations leave. -/
def entry (m : (ℓ : Loc nD τ sig) → Buf (Elt F) ℓ) (c : Dev nD) (b : Ref sig .tc) : Buf (Elt F) ((c : Thread nD τ).loc b) :=
  StableHlo.after hostOps0 (fun b => m (c, b)) b

/-- The run: the inputs' arrays as they were, and each result's array made of what its batches' last steps leave. -/
theorem run (m : (ℓ : Loc nD τ sig) → Buf (Elt F) ℓ) (g : Dev nD → PrngReg)
    (hpk : ∀ (c : Dev nD) (t : Fin cfg0.N), Picks PK (blkOf (entry m) c 4 t))
    (hst : ∀ (c : Dev nD) (t : Fin cfg0.N) (x : S1x12x4.Idx), BitVec.toNat ((blkOf (entry m) c 3 t : S1x12x4.Idx → Elt F .i32) x) < 8192) :
    θ_run defs (onTc (main (F := F))) ⟨m, fun _ => 0, g⟩
      (fun r => Pipeline.RDat.FramePost cfg0 (rdat (entry m) PK hpk hst) (entry m) r ∧ r.2.sem = fun _ => 0) :=
  Pipeline.RDat.θ_run_frame_track cfgs 0 launch0 defs₀ Variants.none (rdat (entry m) PK hpk hst) m g main
    (fun c => (body_obligation (entry m) PK hpk hst c).toRRel) (fun _ _ => ite_self _) (fun _ _ => rfl) (entry m)
    (Pipeline.hmain_prefix cfgs 0 defs₀ Variants.none m main hostOps0 hostOps0_sub ⟨rfl, rfl, rfl, rfl⟩ main_chain)
    (fun _ _ => rfl) (fun c => inv_in (entry m) c) (fun c => inv_out (entry m) c cfg0.N) _ (fun _ h => h)

theorem entry_arg0 (m : (ℓ : Loc nD τ sig) → Buf (Elt F) ℓ) (c : Dev nD) : entry m c main_arg0 = m (c.tc.loc main_arg0) := rfl
theorem entry_arg1 (m : (ℓ : Loc nD τ sig) → Buf (Elt F) ℓ) (c : Dev nD) : entry m c main_arg1 = m (c.tc.loc main_arg1) := rfl
theorem entry_arg2 (m : (ℓ : Loc nD τ sig) → Buf (Elt F) ℓ) (c : Dev nD) : entry m c main_arg2 = m (c.tc.loc main_arg2) := rfl
theorem entry_arg3 (m : (ℓ : Loc nD τ sig) → Buf (Elt F) ℓ) (c : Dev nD) : entry m c main_arg3 = m (c.tc.loc main_arg3) := rfl
theorem entry_arg4 (m : (ℓ : Loc nD τ sig) → Buf (Elt F) ℓ) (c : Dev nD) : entry m c main_arg4 = m (c.tc.loc main_arg4) := rfl

/-- The arguments are as they were. -/
theorem args_kept (m : (ℓ : Loc nD τ sig) → Buf (Elt F) ℓ)
    (hpk : ∀ (c : Dev nD) (t : Fin cfg0.N), Picks PK (blkOf (entry m) c 4 t))
    (hst : ∀ (c : Dev nD) (t : Fin cfg0.N) (x : S1x12x4.Idx), BitVec.toNat ((blkOf (entry m) c 3 t : S1x12x4.Idx → Elt F .i32) x) < 8192)
    {r : PUnit × MemSt nD τ sig (Elt F)} (h : Pipeline.RDat.FramePost cfg0 (rdat (entry m) PK hpk hst) (entry m) r) (c : Dev nD) :
    r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) :=
  ⟨(h.arr_in c 0 rfl).trans (entry_arg0 m c), ((h c).2 main_arg1 (by decide)).trans (entry_arg1 m c), ((h c).2 main_arg2 (by decide)).trans (entry_arg2 m c),
    (h.arr_in c 3 rfl).trans (entry_arg3 m c), (h.arr_in c 4 rfl).trans (entry_arg4 m c)⟩

end Cert.SamplingIdeal.Kmix

end
-- ==== Proof.KmixFrame.lean ====
/- The frames of the key-mixing kernel: the starting rows are rows by the precondition, so every step's body runs. -/
module

public import proofs.«01_k».proof.Defs
public import proofs.«01_k».proof.Proof.KmixRun
public import proofs.«01_k».proof.Proof.Gen.Sampling
public import proofs.«01_k».proof.Proof.Gen.Pre_starts
public import proofs.«01_k».proof.Proof.Gen.Pre_noise_above
public import Idealize.ShloMosaic.Lib.Pointwise
public import Idealize.ShloMosaic.Lib.WordCmp

@[expose] public section

set_option maxRecDepth 16384

noncomputable section

namespace Cert.Starts

open Idealize.ShloMosaic Idealize.ShloMosaic.TcCoe Idealize.SL.Sem Cert.SamplingIdeal.Kmix

variable {F : FTy → Type} [FloatOps F]

theorem and_one : ∀ p q : BitVec 1, IntOp.andi p q = 1#1 → p = 1#1 ∧ q = 1#1 := by decide

theorem ofBool_one (p : Bool) (h : BitVec.ofBool p = 1#1) : p = true := by
  cases p
  · exact absurd h (by decide)
  · rfl

/-- A word between 0 and 8192 is below 8192 as a number. -/
theorem below (a : BitVec 32) (h : IntOp.andi (IntOp.cmpi .sge a 0#32) (IntOp.cmpi .slt a 8192#32) = 1#1) : a.toNat < 8192 := by
  obtain ⟨h0, h1⟩ := and_one _ _ h
  have g0 := ofBool_one _ h0
  have g1 := ofBool_one _ h1
  simp only [BitVec.sle_eq_decide, BitVec.slt_eq_decide, decide_eq_true_eq] at g0 g1
  have e0 : (0#32 : BitVec 32).toInt = 0 := by decide
  have e1 : (8192#32 : BitVec 32).toInt = 8192 := by decide
  rw [e0] at g0
  rw [e1] at g1
  rw [BitVec.toInt_eq_toNat_cond] at g0 g1
  have hlt := a.isLt
  split at g0 <;> omega

/-- The starting rows are rows. -/
theorem rows [Pre_starts.Facts] (x : FVec F Pre_starts.S2x8192x768 .f32) (w : FVec F Pre_starts.S2304x768 .f32) (b : FVec F Pre_starts.S2304 .f32)
    (s : IVec Pre_starts.S2x12x4 32) (g : FVec F Pre_starts.S2x12x8x1024 .f32) (h : Pre_starts.fn (F := F) x w b s g = fun _ => 1#1)
    (y : Pre_starts.S2x12x4.Idx) : (s y).toNat < 8192 :=
  below _ (congrFun h y)

/-- Every row number is allowed. -/
abbrev anyPick (_ : IVec SamplingIdeal.S1x32 32) (_ : IVec SamplingIdeal.S32x1 32) : Prop := True

/-- The run, from starting rows that are rows. -/
theorem frame (m : (ℓ : Loc SamplingIdeal.nD SamplingIdeal.τ SamplingIdeal.sig) → Buf (Elt F) ℓ) (g : Dev SamplingIdeal.nD → PrngReg)
    (h : ∀ (c : Dev SamplingIdeal.nD) (y : SamplingIdeal.S2x12x4.Idx), BitVec.toNat ((m (c.tc.loc SamplingIdeal.main_arg3) : SamplingIdeal.S2x12x4.Idx → BitVec 32) y) < 8192) :
    θ_run SamplingIdeal.defs (onTc (SamplingIdeal.main (F := F))) ⟨m, fun _ => 0, g⟩
      (fun r => (∀ c : Dev SamplingIdeal.nD, r.2.mem (c.tc.loc SamplingIdeal.main_arg0) = m (c.tc.loc SamplingIdeal.main_arg0)
        ∧ r.2.mem (c.tc.loc SamplingIdeal.main_arg1) = m (c.tc.loc SamplingIdeal.main_arg1)
        ∧ r.2.mem (c.tc.loc SamplingIdeal.main_arg2) = m (c.tc.loc SamplingIdeal.main_arg2)
        ∧ r.2.mem (c.tc.loc SamplingIdeal.main_arg3) = m (c.tc.loc SamplingIdeal.main_arg3)
        ∧ r.2.mem (c.tc.loc SamplingIdeal.main_arg4) = m (c.tc.loc SamplingIdeal.main_arg4)) ∧ r.2.sem = fun _ => 0) :=
  (θ_run _ _ _).mono (fun r hr => ⟨fun c => args_kept anyPick m (fun _ _ _ _ _ _ _ _ => trivial) (fun c t x => h c _) hr.1 c, hr.2⟩)
    (run anyPick m g (fun _ _ _ _ _ _ _ _ => trivial) (fun c t x => h c _))

theorem ideal : quiescent_SamplingIdeal (hSamplingIdeal := SamplingIdeal.Gen.facts) (hPre_starts := Pre_starts.Gen.facts) := fun m g hp =>
  frame m g fun c y => rows _ _ _ _ _ (hp c) y

/-- The starting rows are rows, where the noise is bounded too. -/
theorem rows_above [Pre_noise_above.Facts] (x : FVec F Pre_noise_above.S2x8192x768 .f32) (w : FVec F Pre_noise_above.S2304x768 .f32)
    (b : FVec F Pre_noise_above.S2304 .f32) (s : IVec Pre_noise_above.S2x12x4 32) (g : FVec F Pre_noise_above.S2x12x8x1024 .f32)
    (h : (Pre_noise_above.fn (F := F) x w b s g).1 = fun _ => 1#1) (y : Pre_noise_above.S2x12x4.Idx) : (s y).toNat < 8192 :=
  below _ (congrFun h y)

theorem above : quiescent_SamplingIdeal_pre_noise_above (hSamplingIdeal := SamplingIdeal.Gen.facts) (hPre_noise_above := Pre_noise_above.Gen.facts) :=
  fun m g hp => frame m g fun c y => rows_above _ _ _ _ _ (hp c).1 y

/-- The program as printed and its ideal print have the same run. -/
theorem same_run (m : (ℓ : Loc SamplingIdeal.nD SamplingIdeal.τ SamplingIdeal.sig) → Buf (Elt F) ℓ) (g : Dev SamplingIdeal.nD → PrngReg)
    (Q : PUnit × MemSt SamplingIdeal.nD SamplingIdeal.τ SamplingIdeal.sig (Elt F) → Prop) :
    θ_run (Sampling.defs (F := F)) (onTc (τ := Sampling.τ) (Sampling.main (F := F))) ⟨m, fun _ => 0, g⟩ Q
      = θ_run SamplingIdeal.defs (onTc (SamplingIdeal.main (F := F))) ⟨m, fun _ => 0, g⟩ Q := by chain_rfl

theorem bits : quiescent_Sampling (hSampling := Sampling.Gen.facts) (hPre_starts := Pre_starts.Gen.facts) := fun m g hp =>
  (same_run m g _).mpr (frame (F := Bits) m g fun c y => rows _ _ _ _ _ (hp c) y)

end Cert.Starts

end
-- ==== Proof.KmixPick.lean ====
/- The row numbers that one head picks are rows, and the row and the column that hold them agree. -/
module

public import proofs.«01_k».proof.Proof.KmixSteps
public import Idealize.ShloMosaic.PureOps.Ideal
public import Idealize.ShloMosaic.PureOps.Ideal.Laws
public import Idealize.ShloMosaic.PureOps.Reduce
public import Idealize.ShloMosaic.Lib.Pointwise
public import Idealize.ShloMosaic.Lib.WordCmp
public import Idealize.ShloMosaic.Lib.Exec.Context

@[expose] public section

set_option maxRecDepth 16384

noncomputable section

namespace Cert.SamplingIdeal.Kmix

open Cert.SamplingIdeal Cert.SamplingIdeal.Gen
open Idealize.ShloMosaic

/-! ## The largest of finitely many values, and the least of finitely many words -/

/-- The maximum from the least value, over a set that is not empty, is attained. -/
theorem max_attained {ι : Type} [DecidableEq ι] (s : Finset ι) (f : ι → EReal) (hs : s.Nonempty) : ∃ i ∈ s, f i = s.fold max ⊥ f := by
  obtain ⟨i, hi, h⟩ := Finset.exists_mem_eq_sup s hs f
  exact ⟨i, hi, h.symm⟩

/-- The least word, over words that are nonnegative, is below any bound above one of them. -/
theorem min_below {ι : Type} [DecidableEq ι] (s : Finset ι) (f : ι → BitVec 32) (b : BitVec 32) (hb : b.toNat < 2147483648)
    (hf : ∀ i ∈ s, (f i).toNat < 2147483648) :
    (s.fold IntOp.minsi b f).toNat < 2147483648 ∧ ∀ i ∈ s, (s.fold IntOp.minsi b f).toNat ≤ (f i).toNat := by
  have step : ∀ x y : BitVec 32, x.toNat < 2147483648 → y.toNat < 2147483648 → (IntOp.minsi x y).toNat = min x.toNat y.toNat := by
    intro x y hx hy
    have ex : x.toInt = (x.toNat : ℤ) := by rw [BitVec.toInt_eq_toNat_cond, if_pos (by omega)]
    have ey : y.toInt = (y.toNat : ℤ) := by rw [BitVec.toInt_eq_toNat_cond, if_pos (by omega)]
    unfold IntOp.minsi
    rw [BitVec.slt_eq_decide, ex, ey]
    by_cases h : x.toNat < y.toNat
    · rw [if_pos (by simpa using h)]; omega
    · rw [if_neg (by simpa using h)]; omega
  induction s using Finset.induction_on with
  | empty => exact ⟨hb, fun i hi => absurd hi (Finset.notMem_empty i)⟩
  | insert a s has ih =>
    obtain ⟨h1, h2⟩ := ih fun i hi => hf i (Finset.mem_insert_of_mem hi)
    have ha := hf a (Finset.mem_insert_self a s)
    rw [Finset.fold_insert has, step _ _ ha h1]
    refine ⟨by omega, fun i hi => ?_⟩
    rcases Finset.mem_insert.mp hi with rfl | hi
    · omega
    · have := h2 i hi; omega

/-! ## One trip -/

/-- The largest place left. -/
def top (p : FVec Ideal S8x1024 .f32) : EReal :=
  extractAt ![0, 0, 0] (shapeCast S1x1x1 (multiReduction .maximumf [1, 2] S1 (shapeCast S1x8x1024 p shapeCasts_S8x1024_S1x8x1024) 0xFF800000#32 reduces_S1x8x1024_S1 (.inl rfl) rfl) shapeCasts_S1_S1x1x1) inpos_S1x1x1_p0_0_0

/-- The places that are largest, by their row numbers. -/
def cand (p : FVec Ideal S8x1024 .f32) : IVec S8x1024 32 :=
  select (cmpf .oeq p (broadcast S8x1024 (top p))) (k0_pay29 : IVec S8x1024 32) (broadcast S8x1024 8192#32)

/-- The first of them. -/
def first (p : FVec Ideal S8x1024 .f32) : BitVec 32 :=
  extractAt ![0, 0, 0] (shapeCast S1x1x1 (multiReductionI .minsi [1, 2] S1 (shapeCast S1x8x1024 (cand p) shapeCasts_S8x1024_S1x8x1024) 2147483647#32 reduces_S1x8x1024_S1 rfl) shapeCasts_S1_S1x1x1) inpos_S1x1x1_p0_0_0

theorem row_eq (r : IVec S1x32 32) (t : Fin k0_t2_loop.trips) (p : FVec Ideal S8x1024 .f32) (row : IVec S1x32 32) :
    k0_pay71 k0_pay29 r t p row = select (cmpi .eq r (broadcast S1x32 (Scf.iv 0#32 1#32 t))) (broadcast S1x32 (first p)) row := rfl

theorem col_eq (r : IVec S32x1 32) (t : Fin k0_t2_loop.trips) (p : FVec Ideal S8x1024 .f32) (col : IVec S32x1 32) :
    k0_pay72 k0_pay29 r t p col = select (cmpi .eq r (broadcast S32x1 (Scf.iv 0#32 1#32 t))) (broadcast S32x1 (first p)) col := rfl

/-- A place's row number is below the number of rows. -/
theorem place_below (y : S8x1024.Idx) : BitVec.toNat ((k0_pay29 : IVec S8x1024 32) y) < 8192 := by
  have h0 : (y 0).val < 8 := (y 0).isLt
  have h1 : (y 1).val < 1024 := (y 1).isLt
  have e : (k0_pay29 : IVec S8x1024 32) y = BitVec.ofNat 32 (y 0).val * 1024#32 + BitVec.ofNat 32 (y 1).val := by
    obtain ⟨a, b, rfl⟩ : ∃ (a : Fin 8) (b : Fin 1024), y = ix2 a b := ⟨y 0, y 1, (ix2_eta y).symm⟩
    pointwise [k0_pay29]
    rfl
  rw [e, BitVec.toNat_add, BitVec.toNat_mul, BitVec.toNat_ofNat, BitVec.toNat_ofNat, BitVec.toNat_ofNat]
  omega

theorem largest_at (p : FVec Ideal S8x1024 .f32) (v : IVec S8x1024 32) (m : Ideal .f32) (a : Fin 8) (b : Fin 1024) :
    select (cmpf .oeq p (broadcast S8x1024 m)) v (broadcast S8x1024 8192#32) (ix2 a b) = if p (ix2 a b) = m then v (ix2 a b) else 8192#32 := by
  pointwise

theorem cand_at (p : FVec Ideal S8x1024 .f32) (y : S8x1024.Idx) :
    cand p y = if p y = top p then (k0_pay29 : IVec S8x1024 32) y else 8192#32 := by
  obtain ⟨a, b, rfl⟩ : ∃ (a : Fin 8) (b : Fin 1024), y = ix2 a b := ⟨y 0, y 1, (ix2_eta y).symm⟩
  exact largest_at p k0_pay29 (top p) a b

theorem one_idx (j : S1.Idx) : j = ix1 0 := by
  funext a
  exact Fin.ext (by have := (j a).isLt; fin_cases a; exact Nat.lt_one_iff.1 this)

/-- A vector of one element, taken out. -/
theorem only {α : Type} (g : S1.Idx → α) : extractAt ![0, 0, 0] (shapeCast S1x1x1 g shapeCasts_S1_S1x1x1) inpos_S1x1x1_p0_0_0 = g (ix1 0) :=
  congrArg g (one_idx _)

theorem every (i : S1x8x1024.Idx) : i ∈ (Finset.univ : Finset S1x8x1024.Idx).filter fun i => (reduces_S1x8x1024_S1).drop i = ix1 0 :=
  Finset.mem_filter.2 ⟨Finset.mem_univ _, one_idx _⟩

theorem cast_at {α : Type} (p : S8x1024.Idx → α) (i : S1x8x1024.Idx) : ∃ y, shapeCast S1x8x1024 p shapeCasts_S8x1024_S1x8x1024 i = p y := ⟨_, rfl⟩

theorem at_cast {α : Type} (p : S8x1024.Idx → α) (y : S8x1024.Idx) : ∃ i, shapeCast S1x8x1024 p shapeCasts_S8x1024_S1x8x1024 i = p y := by
  obtain ⟨a, b, rfl⟩ : ∃ (a : Fin 8) (b : Fin 1024), y = ix2 a b := ⟨y 0, y 1, (ix2_eta y).symm⟩
  refine ⟨ix3 0 a b, ?_⟩
  pointwise

theorem top_attained (p : FVec Ideal S8x1024 .f32) : ∃ y, p y = top p := by
  have hb : (FloatOps.ofBits .f32 0xFF800000#32 : Ideal .f32) = (⊥ : EReal) := by
    show Ideal.ofBits .f32 0xFF800000#32 = ⊥
    simp [Ideal.ofBits, Ideal.ieee]
  have ht : top p = Finset.fold max ⊥ (shapeCast S1x8x1024 p shapeCasts_S8x1024_S1x8x1024)
      ((Finset.univ : Finset S1x8x1024.Idx).filter fun i => (reduces_S1x8x1024_S1).drop i = ix1 0) := by
    rw [← hb]
    exact (only _).trans (multiReduction_maximumf_eq_fold (F := Ideal) _ _ _ _ _ _)
  rw [ht]
  obtain ⟨i, -, hi⟩ := max_attained _ (shapeCast S1x8x1024 p shapeCasts_S8x1024_S1x8x1024) ⟨_, every (ix3 0 0 0)⟩
  obtain ⟨y, hy⟩ := cast_at p i
  exact ⟨y, hy.symm.trans hi⟩

theorem first_below (p : FVec Ideal S8x1024 .f32) : (first p).toNat < 8192 := by
  obtain ⟨y, hy⟩ := top_attained p
  have hc : ∀ y, (cand p y).toNat < 2147483648 := fun y => by
    rw [cand_at]
    have := place_below y
    split
    · omega
    · decide
  have hf : first p = Finset.fold IntOp.minsi 2147483647#32 (shapeCast S1x8x1024 (cand p) shapeCasts_S8x1024_S1x8x1024)
      ((Finset.univ : Finset S1x8x1024.Idx).filter fun i => (reduces_S1x8x1024_S1).drop i = ix1 0) :=
    (only _).trans (multiReductionI_eq_fold .minsi _ _ _ _ _)
  rw [hf]
  obtain ⟨i, hi⟩ := at_cast (cand p) y
  have hm := (min_below _ (shapeCast S1x8x1024 (cand p) shapeCasts_S8x1024_S1x8x1024) 2147483647#32 (by decide) fun i _ => by
    obtain ⟨z, hz⟩ := cast_at (cand p) i
    rw [hz]; exact hc z).2 i (every i)
  refine lt_of_le_of_lt hm ?_
  rw [hi, cand_at, if_pos hy]
  exact place_below y

/-! ## The loop -/

/-- The row and the column agree, on rows. -/
def Rows (row : IVec S1x32 32) (col : IVec S32x1 32) : Prop :=
  ∀ s : Fin 32, row (ix2 0 s) = col (ix2 s 0) ∧ BitVec.toNat (row (ix2 0 s)) < 8192

theorem Rows.step {row : IVec S1x32 32} {col : IVec S32x1 32} (h : Rows row col) (t : Fin k0_t2_loop.trips) (p : FVec Ideal S8x1024 .f32) :
    Rows (k0_pay71 k0_pay29 (iota .tc S1x32 32 [1] iota_S1x32_d1_w32) t p row) (k0_pay72 k0_pay29 (iota .tc S32x1 32 [0] iota_S32x1_d0_w32) t p col) := by
  intro s
  obtain ⟨h1, h2⟩ := h s
  rw [row_eq, col_eq]
  have e : ∀ (w v a b : BitVec 32), (w.toNat < 8192 ∧ a = b ∧ a.toNat < 8192) →
      (if IntOp.cmpi .eq (BitVec.ofNat 32 s.val) v = 1#1 then w else a) = (if IntOp.cmpi .eq (BitVec.ofNat 32 s.val) v = 1#1 then w else b)
        ∧ (if IntOp.cmpi .eq (BitVec.ofNat 32 s.val) v = 1#1 then w else a).toNat < 8192 := by
    rintro w v a b ⟨hw, rfl, ha⟩
    refine ⟨rfl, ?_⟩
    split
    · exact hw
    · exact ha
  have hr := e (first p) (Scf.iv 0#32 1#32 t) _ _ ⟨first_below p, h1, h2⟩
  constructor
  · pointwise
    exact hr.1
  · pointwise
    exact hr.2

/-- A fact that every trip keeps holds after the loop. -/
theorem foldl_keep {σ ι : Type} {P : σ → Prop} {g : ι → σ → σ} (h : ∀ i s, P s → P (g i s)) : ∀ (l : List ι) (s : σ), P s → P (l.foldl (fun a k => g k a) s)
  | [], _, hs => hs
  | i :: l, s, hs => foldl_keep h l (g i s) (h i s hs)

theorem fold_keep {σ : Type} {n : ℕ} (P : σ → Prop) (g : Fin n → σ → σ) (s : σ) (h : ∀ i s, P s → P (g i s)) (hs : P s) : P (Scf.fold g s) := by
  rw [Scf.fold_eq]
  exact foldl_keep h _ s hs

theorem rows_pick (t : Fin k0_t2_loop.trips) (a : FVec Ideal S8x1024 .f32 × IVec S1x32 32 × IVec S32x1 32) (h : Rows a.2.1 a.2.2) :
    Rows (pick k0_pay29 (iota .tc S1x32 32 [1] iota_S1x32_d1_w32) (iota .tc S32x1 32 [0] iota_S32x1_d0_w32) t a).2.1
      (pick k0_pay29 (iota .tc S1x32 32 [1] iota_S1x32_d1_w32) (iota .tc S32x1 32 [0] iota_S32x1_d0_w32) t a).2.2 := by
  unfold pick
  exact h.step t a.1

/-- After the loop the row and the column agree, on rows. -/
theorem rows_picked (p : FVec Ideal S8x1024 .f32) :
    Rows (Scf.fold (pick k0_pay29 (iota .tc S1x32 32 [1] iota_S1x32_d1_w32) (iota .tc S32x1 32 [0] iota_S32x1_d0_w32)) (p, k0_pay69, k0_pay70)).2.1
      (Scf.fold (pick k0_pay29 (iota .tc S1x32 32 [1] iota_S1x32_d1_w32) (iota .tc S32x1 32 [0] iota_S32x1_d0_w32)) (p, k0_pay69, k0_pay70)).2.2 :=
  fold_keep (fun a : FVec Ideal S8x1024 .f32 × IVec S1x32 32 × IVec S32x1 32 => Rows a.2.1 a.2.2) _ _ rows_pick
    fun s => ⟨rfl, by show (0#32 : BitVec 32).toNat < 8192; decide⟩

end Cert.SamplingIdeal.Kmix

end
-- ==== Proof.KmixDistinct.lean ====
/- One head picks no row twice, where every place's score is above the value that marks a row as taken. -/
module

public import proofs.«01_k».proof.Proof.KmixPick

@[expose] public section

set_option maxRecDepth 16384

noncomputable section

namespace Cert.SamplingIdeal.Kmix

open Cert.SamplingIdeal Cert.SamplingIdeal.Gen
open Idealize.ShloMosaic

/-! ## The literals -/

/-- The value that marks a row as taken. -/
def mark : EReal := Ideal.ofBits .f32 0xF149F2CA#32

theorem mark_eq : mark = ((-1000000015047466219876688855040 : ℝ) : EReal) := by
  simp [mark, Ideal.ofBits, Ideal.ieee]
  rw [← EReal.coe_pow, ← EReal.coe_mul]
  norm_num

theorem noise_eq : Ideal.ofBits .f32 0xEFA18F08#32 = ((-(10587912 * 2 ^ 73) : ℝ) : EReal) := by
  simp [Ideal.ofBits, Ideal.ieee]

theorem tiny_eq : Ideal.ofBits .f32 0x1E3CE508#32 = ((12379400 * (2 ^ 90)⁻¹ : ℝ) : EReal) := by
  simp [Ideal.ofBits, Ideal.ieee]

theorem small_pos : 0 < Ideal.ofBits .f32 0x358637BD#32 := by
  simp [Ideal.ofBits, Ideal.ieee]
  rw [← EReal.coe_mul]
  exact_mod_cast (by positivity : (0 : ℝ) < 8796093 * (2 ^ 43)⁻¹)

theorem least_nonneg : 0 ≤ Ideal.ofBits .f32 0x2B8CBCCC#32 := by
  simp [Ideal.ofBits, Ideal.ieee]
  rw [← EReal.coe_mul]
  exact_mod_cast (by positivity : (0 : ℝ) ≤ 9223372 * (2 ^ 63)⁻¹)

theorem pad_nonneg : 0 ≤ Ideal.ofBits .f32 0x7149F2CA#32 := by
  simp [Ideal.ofBits, Ideal.ieee]
  rw [← EReal.coe_pow, ← EReal.coe_mul]
  exact_mod_cast (by positivity : (0 : ℝ) ≤ 13234890 * 2 ^ 76)

/-! ## A head's scores -/

theorem sqrt_nonneg {x : EReal} (h : 0 ≤ x) : 0 ≤ Ideal.sqrt x := by
  induction x with
  | bot => exact absurd h (by simp)
  | top => exact le_top
  | coe r =>
    have hr : 0 ≤ r := by exact_mod_cast h
    show 0 ≤ (if r < 0 then (⊥ : EReal) else ((Real.sqrt r : ℝ) : EReal))
    rw [if_neg (not_lt.2 hr)]
    exact_mod_cast Real.sqrt_nonneg r

theorem div_nonneg {x y : EReal} (hx : 0 ≤ x) (hy : 0 < y) : 0 ≤ Ideal.div x y := by
  unfold Ideal.div
  rw [if_neg hy.ne']
  exact mul_nonneg hx (EReal.inv_nonneg_of_nonneg hy.le)

/-- The logarithm of a value of at least 1e-20 is above minus 1e27. -/
theorem log_above {x : EReal} (h : Ideal.ofBits .f32 0x1E3CE508#32 ≤ x) : ((-1000000000000000000000000000 : ℝ) : EReal) ≤ Ideal.log x := by
  rw [tiny_eq] at h
  induction x with
  | bot => exact absurd (le_bot_iff.1 h) (EReal.coe_ne_bot _)
  | top => exact le_top
  | coe r =>
    have hr : (12379400 * (2 ^ 90)⁻¹ : ℝ) ≤ r := by exact_mod_cast h
    have h0 : 0 < r := lt_of_lt_of_le (by norm_num) hr
    show _ ≤ (if r ≤ 0 then (⊥ : EReal) else ((Real.log r : ℝ) : EReal))
    rw [if_neg (not_le.2 h0)]
    have h1 := Real.one_sub_inv_le_log_of_pos h0
    have h2 : r⁻¹ ≤ 1000000000000000000000000000 := by
      rw [inv_le_comm₀ h0 (by norm_num)]
      exact le_trans (by norm_num) hr
    exact_mod_cast (by linarith : (-1000000000000000000000000000 : ℝ) ≤ Real.log r)

theorem fold_min_nonneg {ι : Type} [DecidableEq ι] (s : Finset ι) (f : ι → EReal) (b : EReal) (hb : 0 ≤ b) (hf : ∀ i, 0 ≤ f i) :
    0 ≤ s.fold min b f := by
  rw [Finset.le_fold_min]
  exact ⟨hb, fun i _ => hf i⟩

/-- The squared distances to the nearest centroid are not negative. -/
theorem nearest_nonneg (valid : IVec S8x8192 1) (c : FVec Ideal S8x64 .f32) (k : Vec Ideal S8192x64 .f32) (n : Vec Ideal S1x8192 .f32) (y : S1x8192.Idx) :
    0 ≤ k0_pay67 valid c k n y := by
  have hmin : ∀ (X : FVec Ideal S8x8192 .f32), (∀ i, 0 ≤ X i) → ∀ j,
      0 ≤ multiReduction (F := Ideal) .minimumf [0] S8192 X 0x7F800000#32 reduces_S8x8192_S8192 (.inl rfl) rfl j := fun X hX j => by
    refine le_of_le_of_eq ?_ (multiReduction_minimumf_eq_fold (F := Ideal) _ _ _ _ _ _).symm
    refine fold_min_nonneg _ _ _ ?_ hX
    show 0 ≤ Ideal.ofBits .f32 0x7F800000#32
    simp [Ideal.ofBits, Ideal.ieee]
  have hX : ∃ X : FVec Ideal S8x8192 .f32, (∀ i, 0 ≤ X i) ∧ ∃ j, k0_pay67 valid c k n y
      = multiReduction (F := Ideal) .minimumf [0] S8192 X 0x7F800000#32 reduces_S8x8192_S8192 (.inl rfl) rfl j + Ideal.ofBits .f32 0x2B8CBCCC#32 := by
    refine ⟨_, ?_, _, rfl⟩
    intro i
    show 0 ≤ Scalar.select (valid i) (max (Ideal.ofBits .f32 0x00000000#32) _) (Ideal.ofBits .f32 0x7149F2CA#32)
    unfold Scalar.select
    split
    · rw [Ideal.ofBits_zero_f32]
      exact le_max_left _ _
    · exact pad_nonneg
  obtain ⟨X, hX, j, e⟩ := hX
  rw [e]
  exact add_nonneg (hmin X hX j) least_nonneg

/-- A place's score is at least its noise less 1e27. -/
theorem score_above (valid : IVec S8x8192 1) (c : FVec Ideal S8x64 .f32) (k : Vec Ideal S8192x64 .f32) (n : Vec Ideal S1x8192 .f32)
    (e : Vec Ideal S1x1x8x1024 .f32) (y : S8x1024.Idx) : ∃ z, ((-1000000000000000000000000000 : ℝ) : EReal) + e z ≤ score valid c k n e y := by
  have hs : ∀ (X : FVec Ideal S1x1x8192 .f32), (∀ i, 0 ≤ X i) → ∀ j,
      0 ≤ multiReduction (F := Ideal) .add [1, 2] S1 X 0x00000000#32 reduces_S1x1x8192_S1 (.inl rfl) rfl j := fun X hX j => by
    show 0 ≤ Ideal.reduceAdd reduces_S1x1x8192_S1 X j
    exact Finset.sum_nonneg fun i _ => hX i
  have h : ∀ d : FVec Ideal S1x8192 .f32, (∀ j, 0 ≤ d j) → ∃ z, ((-1000000000000000000000000000 : ℝ) : EReal) + e z ≤ k0_pay68 d e y := fun d hd => by
    have hx : ∃ t : EReal, 0 ≤ t ∧ ∃ j z, k0_pay68 d e y
        = Ideal.log (Ideal.div (Ideal.sqrt (d j)) (t + Ideal.ofBits .f32 0x358637BD#32) + Ideal.ofBits .f32 0x1E3CE508#32) + e z := by
      refine ⟨_, ?_, _, _, rfl⟩
      exact hs _ (fun i => sqrt_nonneg (hd _)) _
    obtain ⟨t, ht, j, z, ex⟩ := hx
    refine ⟨z, ?_⟩
    rw [ex]
    refine add_le_add (log_above ?_) le_rfl
    have h0 := div_nonneg (sqrt_nonneg (hd j)) (lt_of_lt_of_le small_pos (le_add_of_nonneg_left ht))
    exact le_add_of_nonneg_left h0
  exact h _ (nearest_nonneg valid c k n)

/-! ## One trip -/

/-- A place's row number. -/
@[irreducible] def place (y : S8x1024.Idx) : BitVec 32 := (k0_pay29 : IVec S8x1024 32) y

theorem place_eq (y : S8x1024.Idx) : (k0_pay29 : IVec S8x1024 32) y = place y := by
  unfold place
  rfl

theorem place_at (a : Fin 8) (b : Fin 1024) : (place (ix2 a b)).toNat = a.val * 1024 + b.val := by
  have e : (k0_pay29 : IVec S8x1024 32) (ix2 a b) = BitVec.ofNat 32 a.val * 1024#32 + BitVec.ofNat 32 b.val := by
    pointwise [k0_pay29]
    rfl
  rw [← place_eq, e, BitVec.toNat_add, BitVec.toNat_mul, BitVec.toNat_ofNat, BitVec.toNat_ofNat, BitVec.toNat_ofNat]
  omega

theorem select_eq (v : IVec S8x1024 32) (w : BitVec 32) (x : Ideal .f32) (p : FVec Ideal S8x1024 .f32) (y : S8x1024.Idx) :
    select (cmpi .eq v (broadcast S8x1024 w)) (broadcast S8x1024 x) p y = if v y = w then x else p y := by
  show (if IntOp.cmpi .eq (v y) w = 1#1 then x else p y) = _
  by_cases h : v y = w
  · rw [if_pos h, if_pos (by simp [IntOp.cmpi, h])]
  · have e0 : IntOp.cmpi .eq (v y) w = 0#1 := by
      word_cmp
      exact fun e => h (BitVec.eq_of_toNat_eq e)
    rw [if_neg h, e0, if_neg (by decide)]

/-- What a trip leaves at a place. -/
theorem struck_at (p : FVec Ideal S8x1024 .f32) (y : S8x1024.Idx) : k0_pay73 k0_pay29 p y = if place y = first p then mark else p y := by
  have e : k0_pay73 k0_pay29 p = select (cmpi .eq k0_pay29 (broadcast S8x1024 (first p))) (broadcast S8x1024 (mark : Ideal .f32)) p := rfl
  rw [e]
  refine (select_eq k0_pay29 (first p) mark p y).trans ?_
  rw [place_eq]

theorem le_top (p : FVec Ideal S8x1024 .f32) (y : S8x1024.Idx) : p y ≤ top p := by
  have ht : top p = Finset.fold max (FloatOps.ofBits .f32 0xFF800000#32 : Ideal .f32) (shapeCast S1x8x1024 p shapeCasts_S8x1024_S1x8x1024)
      ((Finset.univ : Finset S1x8x1024.Idx).filter fun i => (reduces_S1x8x1024_S1).drop i = ix1 0) :=
    (only _).trans (multiReduction_maximumf_eq_fold (F := Ideal) _ _ _ _ _ _)
  obtain ⟨i, hi⟩ := at_cast p y
  rw [ht, Finset.le_fold_max]
  exact .inr ⟨i, every i, hi.ge⟩

/-- The least word of a set is the bound or one of the words. -/
theorem min_attained {ι : Type} [DecidableEq ι] (s : Finset ι) (f : ι → BitVec 32) (b : BitVec 32) :
    s.fold IntOp.minsi b f = b ∨ ∃ i ∈ s, s.fold IntOp.minsi b f = f i := by
  induction s using Finset.induction_on with
  | empty => exact .inl rfl
  | insert a s has ih =>
    rw [Finset.fold_insert has]
    unfold IntOp.minsi
    split
    · exact .inr ⟨a, Finset.mem_insert_self a s, rfl⟩
    · rcases ih with h | ⟨i, hi, h⟩
      · exact .inl h
      · exact .inr ⟨i, Finset.mem_insert_of_mem hi, h⟩

/-- The first of the largest places is one of them. -/
theorem first_is (p : FVec Ideal S8x1024 .f32) : ∃ y, p y = top p ∧ first p = place y := by
  have hb := first_below p
  have hf : first p = Finset.fold IntOp.minsi 2147483647#32 (shapeCast S1x8x1024 (cand p) shapeCasts_S8x1024_S1x8x1024)
      ((Finset.univ : Finset S1x8x1024.Idx).filter fun i => (reduces_S1x8x1024_S1).drop i = ix1 0) :=
    (only _).trans (multiReductionI_eq_fold .minsi _ _ _ _ _)
  rcases min_attained _ (shapeCast S1x8x1024 (cand p) shapeCasts_S8x1024_S1x8x1024) 2147483647#32 with h | ⟨i, -, h⟩
  · rw [← hf] at h
    rw [h] at hb
    exact absurd hb (by decide)
  · obtain ⟨y, hy⟩ := cast_at (cand p) i
    rw [← hf, hy, cand_at] at h
    by_cases e : p y = top p
    · rw [if_pos e, place_eq] at h
      exact ⟨y, e, h⟩
    · rw [if_neg e] at h
      rw [h] at hb
      exact absurd hb (by decide)

/-! ## The loop -/

/-- A fact about how many trips have run, kept by every trip. -/
theorem foldl_count {σ : Type} {n : ℕ} (P : ℕ → σ → Prop) (g : Fin n → σ → σ) (h : ∀ (i : Fin n) s, P i.val s → P (i.val + 1) (g i s)) :
    ∀ (l : List (Fin n)) (k : ℕ) (s : σ), (∀ j (hj : j < l.length), (l[j]).val = k + j) → P k s → P (k + l.length) (l.foldl (fun a i => g i a) s)
  | [], _, _, _, hs => hs
  | i :: l, k, s, hl, hs => by
    have h0 : i.val = k := hl 0 (Nat.zero_lt_succ _)
    have := foldl_count P g h l (k + 1) (g i s) (fun j hj => by
      have := hl (j + 1) (Nat.succ_lt_succ hj)
      rw [List.getElem_cons_succ] at this
      omega) (by rw [← h0] at hs ⊢; exact h i s hs)
    rw [List.length_cons, List.foldl_cons, show k + (l.length + 1) = k + 1 + l.length by omega]
    exact this

theorem fold_count {σ : Type} {n : ℕ} (P : ℕ → σ → Prop) (g : Fin n → σ → σ) (s : σ) (h : ∀ (i : Fin n) s, P i.val s → P (i.val + 1) (g i s))
    (hs : P 0 s) : P n (Scf.fold g s) := by
  rw [Scf.fold_eq]
  have := foldl_count P g h (List.finRange n) 0 s (fun j hj => by simp) hs
  rwa [List.length_finRange, Nat.zero_add] at this

/-- After `t` trips: the places of the first `t` picks are marked, the others as at the start, and the picks differ. -/
def Taken (p₀ : FVec Ideal S8x1024 .f32) (t : ℕ) (a : FVec Ideal S8x1024 .f32 × IVec S1x32 32 × IVec S32x1 32) : Prop :=
  (∀ y, a.1 y = if ∃ s : Fin 32, s.val < t ∧ place y = a.2.1 (ix2 0 s) then mark else p₀ y)
    ∧ ∀ s s' : Fin 32, s.val < t → s'.val < t → a.2.1 (ix2 0 s) = a.2.1 (ix2 0 s') → s = s'

/-- Thirty-two rows are not all of them. -/
theorem some_left (row : IVec S1x32 32) : ∃ y, ∀ s : Fin 32, place y ≠ row (ix2 0 s) := by
  by_contra hc
  have hc' : ∀ j : Fin 33, ∃ s : Fin 32, place (ix2 0 ⟨j.val, by omega⟩) = row (ix2 0 s) := fun j => by
    by_contra h
    exact hc ⟨ix2 0 ⟨j.val, by omega⟩, fun s e => h ⟨s, e⟩⟩
  choose f hf using hc'
  have hinj : Function.Injective f := fun i j h => by
    have e := (hf i).trans ((congrArg (fun s => row (ix2 0 s)) h).trans (hf j).symm)
    have e' := congrArg BitVec.toNat e
    rw [place_at, place_at] at e'
    exact Fin.ext (by simpa using e')
  have := Fintype.card_le_of_injective f hinj
  simp at this

/-- A trip's row: the pick at its number, the others as they were. -/
theorem row_at (t : Fin k0_t2_loop.trips) (p : FVec Ideal S8x1024 .f32) (row : IVec S1x32 32) (s : Fin 32) :
    k0_pay71 k0_pay29 slotRow t p row (ix2 0 s) = if s.val = t.val then first p else row (ix2 0 s) := by
  have ht : t.val < 32 := t.isLt
  have hs := s.isLt
  have e : k0_pay71 k0_pay29 slotRow t p row (ix2 0 s)
      = if IntOp.cmpi .eq (BitVec.ofNat 32 s.val) (Scf.iv 0#32 1#32 t) = 1#1 then first p else row (ix2 0 s) := by
    rw [row_eq]
    pointwise
    rfl
  have ei : Scf.iv 0#32 1#32 t.val = BitVec.ofNat 32 t.val := by
    unfold Scf.iv
    simp
  rw [e, ei]
  by_cases h : s.val = t.val
  · rw [if_pos h, if_pos (by simp [IntOp.cmpi, h])]
  · have e0 : IntOp.cmpi .eq (BitVec.ofNat 32 s.val) (BitVec.ofNat 32 t.val) = 0#1 := by word_cmp
    rw [if_neg h, e0, if_neg (by decide)]

theorem pick_fst (v17 : IVec S8x1024 32) (v18 : IVec S1x32 32) (v19 : IVec S32x1 32) (t : Fin k0_t2_loop.trips)
    (a : FVec Ideal S8x1024 .f32 × IVec S1x32 32 × IVec S32x1 32) : (pick v17 v18 v19 t a).1 = k0_pay73 v17 a.1 := by
  unfold pick
  with_reducible rfl

theorem pick_snd (v17 : IVec S8x1024 32) (v18 : IVec S1x32 32) (v19 : IVec S32x1 32) (t : Fin k0_t2_loop.trips)
    (a : FVec Ideal S8x1024 .f32 × IVec S1x32 32 × IVec S32x1 32) : (pick v17 v18 v19 t a).2.1 = k0_pay71 v17 v18 t a.1 a.2.1 := by
  unfold pick
  with_reducible rfl

theorem pick_place (t : Fin k0_t2_loop.trips) (a : FVec Ideal S8x1024 .f32 × IVec S1x32 32 × IVec S32x1 32) (z : S8x1024.Idx) :
    (pick k0_pay29 slotRow slotCol t a).1 z = if place z = first a.1 then mark else a.1 z := by
  rw [pick_fst]
  exact struck_at a.1 z

theorem pick_row (t : Fin k0_t2_loop.trips) (a : FVec Ideal S8x1024 .f32 × IVec S1x32 32 × IVec S32x1 32) (s : Fin 32) :
    (pick k0_pay29 slotRow slotCol t a).2.1 (ix2 0 s) = if s.val = t.val then first a.1 else a.2.1 (ix2 0 s) := by
  rw [pick_snd]
  exact row_at t a.1 a.2.1 s

theorem Taken.step {p₀ : FVec Ideal S8x1024 .f32} (h₀ : ∀ y, mark < p₀ y) (t : Fin k0_t2_loop.trips)
    (a : FVec Ideal S8x1024 .f32 × IVec S1x32 32 × IVec S32x1 32) (h : Taken p₀ t.val a) : Taken p₀ (t.val + 1) (pick k0_pay29 slotRow slotCol t a) := by
  obtain ⟨hp, hd⟩ := h
  have ht : t.val < 32 := t.isLt
  obtain ⟨y, hy, hf⟩ := first_is a.1
  have hnew : ∀ s : Fin 32, s.val < t.val → place y ≠ a.2.1 (ix2 0 s) := by
    obtain ⟨z, hz⟩ := some_left a.2.1
    have e1 : a.1 z = p₀ z := by rw [hp, if_neg]; rintro ⟨s, -, e⟩; exact hz s e
    have e2 : mark < a.1 y := by rw [hy]; exact lt_of_lt_of_le (by rw [e1]; exact h₀ z) (le_top a.1 z)
    intro s hs e
    rw [hp y, if_pos ⟨s, hs, e⟩] at e2
    exact lt_irrefl _ e2
  have hrow : ∀ s : Fin 32, (pick k0_pay29 slotRow slotCol t a).2.1 (ix2 0 s) = if s.val = t.val then place y else a.2.1 (ix2 0 s) := fun s => by
    rw [pick_row, hf]
  have hat : ∀ z, (pick k0_pay29 slotRow slotCol t a).1 z = if place z = place y then mark else a.1 z := fun z => by
    rw [pick_place, hf]
  generalize pick k0_pay29 slotRow slotCol t a = a' at hrow hat ⊢
  refine ⟨fun z => ?_, fun s s' hs hs' e => ?_⟩
  · rw [hat, hp]
    by_cases h1 : place z = place y
    · rw [if_pos h1, if_pos ⟨⟨t.val, ht⟩, Nat.lt_succ_self _, by rw [hrow, if_pos rfl]; exact h1⟩]
    · rw [if_neg h1]
      refine if_congr ⟨?_, ?_⟩ rfl rfl
      · rintro ⟨s, hs, e⟩
        exact ⟨s, by omega, by rw [hrow, if_neg (by omega)]; exact e⟩
      · rintro ⟨s, hs, e⟩
        rw [hrow] at e
        by_cases hst : s.val = t.val
        · rw [if_pos hst] at e; exact absurd e h1
        · rw [if_neg hst] at e; exact ⟨s, by omega, e⟩
  · rw [hrow, hrow] at e
    by_cases h1 : s.val = t.val <;> by_cases h2 : s'.val = t.val
    · exact Fin.ext (h1.trans h2.symm)
    · rw [if_pos h1, if_neg h2] at e; exact absurd e (hnew s' (by omega))
    · rw [if_neg h1, if_pos h2] at e; exact absurd e.symm (hnew s (by omega))
    · rw [if_neg h1, if_neg h2] at e; exact hd s s' (by omega) (by omega) e

/-- Where every place is above the mark, the picks differ. -/
theorem picks_taken (p : FVec Ideal S8x1024 .f32) (h : ∀ y, mark < p y) : Taken p 32 (picksOf p) :=
  fold_count (Taken p) (pick k0_pay29 slotRow slotCol) (p, k0_pay69, k0_pay70) (fun t a ha => ha.step h t a)
    ⟨fun y => (if_neg (by rintro ⟨s, hs, -⟩; exact absurd hs (Nat.not_lt_zero _))).symm, fun s _ hs => absurd hs (Nat.not_lt_zero _)⟩

/-- The row and the column agree, on rows; and, where `C` holds, the rows differ. -/
def Picked (C : Prop) (row : IVec S1x32 32) (col : IVec S32x1 32) : Prop :=
  Rows row col ∧ (C → ∀ s s' : Fin 32, row (ix2 0 s) = row (ix2 0 s') → s = s')

/-- What a head picks, where `C` bounds the noise. -/
theorem picked_all (C : Prop) (x6 : S1x12x8x1024.Idx → Elt Ideal .f32) (hC : C → ∀ z, Ideal.ofBits .f32 0xEFA18F08#32 ≤ x6 z) : Picks (Picked C) x6 := by
  intro valid c k n e he
  refine ⟨rows_picked _, fun hc s s' => (picks_taken _ fun y => ?_).2 s s' s.isLt s'.isLt⟩
  obtain ⟨z, hz⟩ := score_above valid c k n e y
  obtain ⟨w, hw⟩ := he z
  refine lt_of_lt_of_le ?_ hz
  have hn := hC hc w
  rw [hw]
  refine lt_of_lt_of_le ?_ (add_le_add le_rfl hn)
  rw [mark_eq, noise_eq, ← EReal.coe_add, EReal.coe_lt_coe_iff]
  norm_num

end Cert.SamplingIdeal.Kmix

end
-- ==== Proof.KmixPost.lean ====
/- What the postcondition asks at an index: every row number is a row, and the key matrix holds the sampled keys in its heads' blocks. -/
module

public import proofs.«01_k».proof.Proof.RefStages
public import proofs.«01_k».proof.Post_keys_sampled
public import proofs.«01_k».proof.Proof.Gen.Post_keys_sampled
public import Idealize.ShloMosaic.Lib.Pointwise
public import Idealize.ShloMosaic.Lib.WordCmp

@[expose] public section

set_option maxRecDepth 16384

noncomputable section

namespace Cert.KeysSampled

open Cert.Post_keys_sampled Cert.Post_keys_sampled.Facts Idealize.ShloMosaic

attribute [local instance] Post_keys_sampled.Gen.facts

/-- Channel `j` of the key of row `n`. -/
def keyAt (x : FVec Ideal S2x8192x768 .f32) (w : FVec Ideal S2304x768 .f32) (b : FVec Ideal S2304 .f32) (i : Fin 2) (n : Fin 8192) (j : Fin 768) : Ideal .f32 :=
  (∑ c : Fin 768, x (ix3 i n c) * w (ix2 ⟨768 + j.val, by omega⟩ c)) + b (ix1 ⟨768 + j.val, by omega⟩)

/-- The keys, head by head. -/
def keys (x : FVec Ideal S2x8192x768 .f32) (w : FVec Ideal S2304x768 .f32) (b : FVec Ideal S2304 .f32) : FVec Ideal S2x12x8192x64 .f32 :=
  transpose S2x12x8192x64 [0, 2, 1, 3] (shapeCast S2x8192x12x64
    (addf (Host.dotGeneral dot_S2x8192x768_S768x768_S2x8192x768_2_0_01_1_n_n none x
        (transpose S768x768 [1, 0] (extractStridedSlice S768x768 ![768, 0] w slices_S2304x768_S768x768_768_0) transposes_S768x768_S768x768_1_0))
      (broadcastInDim S2x8192x768 ![0, 1, 2] bcast_S1x1x768_S2x8192x768_0_1_2
        (broadcastInDim S1x1x768 ![2] bcast_S768_S1x1x768_2 (extractStridedSlice S768 ![768] b slices_S2304_S768_768))))
    shapeCasts_S2x8192x768_S2x8192x12x64) transposes_S2x8192x12x64_S2x12x8192x64_0_2_1_3

theorem keys_at (x : FVec Ideal S2x8192x768 .f32) (w : FVec Ideal S2304x768 .f32) (b : FVec Ideal S2304 .f32) (i : Fin 2) (h : Fin 12) (n : Fin 8192) (d : Fin 64) :
    keys x w b (ix4 i h n d) = keyAt x w b i n ⟨h.val * 64 + d.val, by omega⟩ := by
  pointwise [keys]
  unfold keyAt
  rfl

/-- The row numbers, one per channel. -/
def each (s : IVec S2x12x32 32) : IVec S2x12x32x64 32 :=
  broadcastInDim S2x12x32x64 ![0, 1, 2, 3] bcast_S2x12x32x1_S2x12x32x64_0_1_2_3 (broadcastInDim S2x12x32x1 ![0, 1, 2] bcast_S2x12x32_S2x12x32x1_0_1_2 s)

theorem taken_at (v : FVec Ideal S2x12x8192x64 .f32) (s : IVec S2x12x32 32) (i : Fin 2) (h : Fin 12) (r : Fin 32) (d : Fin 64) (n : Fin 8192)
    (hn : s (ix3 i h r) = BitVec.ofNat 32 n.val) : fn_take_along_axis v (each s) (ix4 i h r d) = v (ix4 i h n d) :=
  ReferenceIdeal.Stages.taken_at v s i h r d n hn

/-- The postcondition, from the sampled keys. -/
def bits (s : IVec S2x12x32 32) (kb : FVec Ideal S2x768x384 .f32) (k : FVec Ideal S2x12x32x64 .f32) : IVec S2x12x64x12x32 1 :=
  fn_part1 kb (fn_where (cmpi .eq (iotaInDim S2x12x64x12x32 32 1) (iotaInDim S2x12x64x12x32 32 3))
      (broadcastInDim S2x12x64x1x32 ![0, 1, 2, 4] bcast_S2x12x64x32_S2x12x64x1x32_0_1_2_4
        (transpose S2x12x64x32 [0, 1, 3, 2] k transposes_S2x12x32x64_S2x12x64x32_0_1_3_2)) (constant S_ .f32 0x00000000#32))
    (broadcastInDim S2x12x64x12x32 ![0, 1, 2, 3, 4] bcast_S2x12x1x1x32_S2x12x64x12x32_0_1_2_3_4
      (broadcastInDim S2x12x1x1x32 ![0, 1, 4] bcast_S2x12x32_S2x12x1x1x32_0_1_4 s))
    (cmpi .sge (broadcastInDim S2x12x64x12x32 ![0, 1, 2, 3, 4] bcast_S2x12x1x1x32_S2x12x64x12x32_0_1_2_3_4
      (broadcastInDim S2x12x1x1x32 ![0, 1, 4] bcast_S2x12x32_S2x12x1x1x32_0_1_4 s))
      (broadcastInDim S2x12x64x12x32 ![] bcast_S_S2x12x64x12x32 (constantI S_ 32 0#32)))

theorem fn_eq (x : FVec Ideal S2x8192x768 .f32) (w : FVec Ideal S2304x768 .f32) (b : FVec Ideal S2304 .f32) (st : IVec S2x12x4 32)
    (gm : FVec Ideal S2x12x8x1024 .f32) (s : IVec S2x12x32 32) (kb : FVec Ideal S2x768x384 .f32) :
    fn (F := Ideal) x w b st gm s kb = bits s kb (fn_take_along_axis (keys x w b) (each s)) := rfl

theorem bits_at (s : IVec S2x12x32 32) (kb : FVec Ideal S2x768x384 .f32) (k : FVec Ideal S2x12x32x64 .f32)
    (i : Fin 2) (g : Fin 12) (d : Fin 64) (h : Fin 12) (r : Fin 32) :
    bits s kb k (ix5 i g d h r)
      = IntOp.andi (IntOp.andi (IntOp.cmpi .sge (s (ix3 i g r)) 0#32) (IntOp.cmpi .slt (s (ix3 i g r)) 8192#32))
          (BitVec.ofBool (decide (kb (ix3 i ⟨g.val * 64 + d.val, by omega⟩ ⟨h.val * 32 + r.val, by omega⟩)
            = Scalar.select (IntOp.cmpi .eq (BitVec.ofNat 32 g.val) (BitVec.ofNat 32 h.val)) (k (ix4 i g r d)) 0))) := by
  pointwise [bits, fn_part1, fn_where, id]

/-- The postcondition holds of rows and of a key matrix that holds the keys of those rows in its heads' blocks. -/
theorem holds (x : FVec Ideal S2x8192x768 .f32) (w : FVec Ideal S2304x768 .f32) (b : FVec Ideal S2304 .f32) (st : IVec S2x12x4 32)
    (gm : FVec Ideal S2x12x8x1024 .f32) (s : IVec S2x12x32 32) (kb : FVec Ideal S2x768x384 .f32)
    (n : Fin 2 → Fin 12 → Fin 32 → Fin 8192) (hn : ∀ i g r, s (ix3 i g r) = BitVec.ofNat 32 (n i g r).val)
    (hk : ∀ i g r (d : Fin 64), kb (ix3 i ⟨g.val * 64 + d.val, by omega⟩ ⟨g.val * 32 + r.val, by omega⟩)
      = keyAt x w b i (n i g r) ⟨g.val * 64 + d.val, by omega⟩)
    (h0 : ∀ i (g h : Fin 12) (r : Fin 32) (d : Fin 64), g ≠ h → kb (ix3 i ⟨g.val * 64 + d.val, by omega⟩ ⟨h.val * 32 + r.val, by omega⟩) = 0) :
    fn (F := Ideal) x w b st gm s kb = fun _ => 1#1 := by
  rw [fn_eq]
  funext y
  obtain ⟨i, g, d, h, r, rfl⟩ : ∃ i g d h r, y = ix5 (n0 := 2) (n1 := 12) (n2 := 64) (n3 := 12) (n4 := 32) i g d h r := ⟨y 0, y 1, y 2, y 3, y 4, (ix5_eta y).symm⟩
  refine (bits_at s kb _ i g d h r).trans ?_
  rw [hn]
  have ek := taken_at (keys x w b) s i g r d (n i g r) (hn i g r)
  rw [ek, keys_at]
  have hd : kb (ix3 i ⟨g.val * 64 + d.val, by omega⟩ ⟨h.val * 32 + r.val, by omega⟩)
      = Scalar.select (IntOp.cmpi .eq (BitVec.ofNat 32 g.val) (BitVec.ofNat 32 h.val)) (keyAt x w b i (n i g r) ⟨g.val * 64 + d.val, by omega⟩) 0 := by
    by_cases e : g = h
    · subst e
      have e3 : IntOp.cmpi .eq (BitVec.ofNat 32 g.val) (BitVec.ofNat 32 g.val) = 1#1 := by simp [IntOp.cmpi]
      rw [e3, hk]
      rfl
    · have e3 : IntOp.cmpi .eq (BitVec.ofNat 32 g.val) (BitVec.ofNat 32 h.val) = 0#1 := by
        have hv : g.val ≠ h.val := fun q => e (Fin.ext q)
        word_cmp
      rw [e3, h0 i g h r d e]
      rfl
  rw [decide_eq_true hd]
  generalize n i g r = q
  have e1 : IntOp.cmpi CmpIPredicate.sge (BitVec.ofNat 32 q.val) 0#32 = 1#1 := by word_cmp
  have e2 : IntOp.cmpi CmpIPredicate.slt (BitVec.ofNat 32 q.val) 8192#32 = 1#1 := by word_cmp
  rw [e1, e2]
  decide

end Cert.KeysSampled
-- ==== Proof.KmixValue.lean ====
/- What the key-mixing kernel leaves in its two results: rows, and the keys of those rows in their heads' blocks; and that no
   head picks a row twice, where the noise is bounded below. -/
module

public import proofs.«01_k».proof.Proof.KmixFrame
public import proofs.«01_k».proof.Proof.KmixPick
public import proofs.«01_k».proof.Proof.KmixDistinct
public import proofs.«01_k».proof.Proof.KmixPost
public import proofs.«01_k».proof.Proof.Gen.Post_rows_differ
public import Idealize.ShloMosaic.Lib.Pipeline.ValueKit
public import Idealize.ShloMosaic.Lib.StableHlo.Run
public import Idealize.ShloMosaic.Lib.Tactic
public import Idealize.ShloMosaic.Lib.Pointwise

@[expose] public section

set_option maxRecDepth 16384

noncomputable section

namespace Cert.SamplingIdeal.Kmix

open Cert.SamplingIdeal Cert.SamplingIdeal.Gen Idealize.ShloMosaic Idealize.ShloMosaic.TcCoe Idealize.SL.Sem
open Idealize.ShloMosaic.Pipeline (Dat)

/-! ## One batch's keys -/

/-- The block of each window at each step. -/
theorem index_of : ∀ t : Fin cfg0.N, win0_0.index t = ![t.val / 17, min (t.val % 17) 15, 0] ∧ win0_1.index t = ![0, 0] ∧ win0_2.index t = ![0, 0]
    ∧ win0_5.index t = ![t.val / 17, 0, 0] ∧ win0_6.index t = ![t.val / 17, 0, 0] :=
  (by decide +kernel : ∀ t : Fin grid0.N, _)

/-- The rows that a step projects, at an index. -/
theorem project_at (x : FVec Ideal S1x512x768 .f32) (w : FVec Ideal S768x768 .f32) (b : FVec Ideal S1x768 .f32) (r : Fin 512) (j : Fin 768) :
    k0_pay1 x w b (ix2 r j) = (∑ k : Fin 768, x (ix3 0 r k) * w (ix2 k j)) + b (ix2 0 j) := by
  pointwise [k0_pay1]

/-- Reading the whole of an array reads it. -/
theorem read_whole {s : Shape} {α : Type} (X : s.Idx → α) (off : Fin s.rank → ℕ) (h : ∀ a, off a = 0) (inb) (y : s.Idx) :
    X ((Rect.unit (s := s) off s.size inb).idx y) = X y :=
  congrArg X (funext fun a => Fin.ext (by show off a + 1 * (y a).val = (y a).val; rw [h]; omega))

/-- Channel `j` of row `n` of batch `b`, projected. -/
def rowKey (x : FVec Ideal S2x8192x768 .f32) (w : FVec Ideal S768x768 .f32) (b : FVec Ideal S1x768 .f32) (i : Fin 2) (n : Fin 8192) (j : Fin 768) : Ideal .f32 :=
  (∑ k : Fin 768, x (ix3 i n k) * w (ix2 k j)) + b (ix2 0 j)

variable (V : (c : Dev nD) → (b : Ref sig .tc) → Buf (Elt Ideal) ((c : Thread nD τ).loc b))

set_option maxHeartbeats 1600000 in
/-- The rows that step `t` projects are rows `512 (t mod 17) …` of batch `t / 17`, projected. -/
theorem rows_at (c : Dev nD) (t : Fin cfg0.N) (ht : t.val % 17 < 16) (r : Fin 512) (j : Fin 768) :
    rowsAt V c t (ix2 r j) = rowKey (V c main_arg0) (V c main_v1) (V c main_v3) ⟨t.val / 17, by have h : t.val < 34 := t.isLt; omega⟩
      ⟨512 * (t.val % 17) + r.val, by omega⟩ j := by
  have hmin : min (t.val % 17) 15 = t.val % 17 := by omega
  unfold rowsAt
  refine (project_at _ _ _ r j).trans ?_
  have h0 : ∀ k : Fin 768, (View.ld (blkOf V c 0 t : S1x512x768.Idx → Elt Ideal .f32) (Rect.unit (s := S1x512x768) ![0, 0, 0] S1x512x768.size inb_S1x512x768_S1x512x768_0_0_0)) (ix3 0 r k)
      = V c main_arg0 (ix3 ⟨t.val / 17, by have h : t.val < 34 := t.isLt; omega⟩ ⟨512 * (t.val % 17) + r.val, by omega⟩ k) := by
    intro k
    refine (read_whole (s := S1x512x768) (blkOf V c 0 t) _ (by decide) _ _).trans ?_
    blk_ext [blkOf, index_of t, hmin]
  have h1 : ∀ k : Fin 768, (View.ld (blkOf V c 1 t : S768x768.Idx → Elt Ideal .f32) (Rect.unit (s := S768x768) ![0, 0] S768x768.size inb_S768x768_S768x768_0_0)) (ix2 k j) = V c main_v1 (ix2 k j) := by
    intro k
    refine (read_whole (s := S768x768) (blkOf V c 1 t) _ (by decide) _ _).trans ?_
    blk_ext [blkOf, index_of t]
  have h2 : (View.ld (blkOf V c 2 t : S1x768.Idx → Elt Ideal .f32) (Rect.unit (s := S1x768) ![0, 0] S1x768.size inb_S1x768_S1x768_0_0)) (ix2 0 j) = V c main_v3 (ix2 0 j) := by
    refine (read_whole (s := S1x768) (blkOf V c 2 t) _ (by decide) _ _).trans ?_
    blk_ext [blkOf, index_of t]
  unfold rowKey
  rw [h2]
  exact congrArg (· + _) (Finset.sum_congr rfl fun k _ => by rw [h0, h1])

/-- A batch's keys are its rows, projected. -/
theorem keys_at (c : Dev nD) (b : Fin 2) (n : Fin 8192) (j : Fin 768) :
    keysOf V c b.val (ix2 n j) = rowKey (V c main_arg0) (V c main_v1) (V c main_v3) b n j := by
  have hb := b.isLt
  have hn := n.isLt
  have hs : (stepOf b.val n.val).val = 17 * b.val + n.val / 512 := by
    show (17 * b.val + n.val / 512) % 34 = _
    omega
  have e : keysOf V c b.val (ix2 n j) = rowsAt V c (stepOf b.val n.val) (ix2 ⟨n.val % 512, Nat.mod_lt _ (by decide)⟩ j) := by
    unfold keysOf
    refine congrArg (rowsAt V c (stepOf b.val n.val)) (funext fun a => ?_)
    match a with
    | ⟨0, _⟩ => rfl
    | ⟨1, _⟩ => rfl
  rw [e, rows_at V c _ (by rw [hs]; omega)]
  have e0 : ∀ (h : (stepOf b.val n.val).val / 17 < 2), (⟨(stepOf b.val n.val).val / 17, h⟩ : Fin 2) = b := fun h => Fin.ext (by show (stepOf b.val n.val).val / 17 = b.val; rw [hs]; omega)
  have e1 : ∀ h, (⟨512 * ((stepOf b.val n.val).val % 17) + n.val % 512, h⟩ : Fin 8192) = n := fun h => Fin.ext (by show 512 * ((stepOf b.val n.val).val % 17) + n.val % 512 = n.val; rw [hs]; omega)
  simp only [e0, e1]

/-! ## The arrays that the call reads -/

/-- The weights that the call reads: the key rows of the joint weights, transposed. -/
theorem entry_weights (m : (ℓ : Loc nD τ sig) → Buf (Elt Ideal) ℓ) (c : Dev nD) (k j : Fin 768) :
    entry m c main_v1 (ix2 k j) = (m (c.tc.loc main_arg1) : FVec Ideal S2304x768 .f32) (ix2 ⟨768 + j.val, by omega⟩ k) := by
  have e : entry m c main_v1 = transpose S768x768 [1, 0] (extractStridedSlice S768x768 ![768, 0] (m (c.tc.loc main_arg1) : FVec Ideal S2304x768 .f32)
      slices_S2304x768_S768x768_768_0) transposes_S768x768_S768x768_1_0 := rfl
  rw [e]
  pointwise

/-- The bias that the call reads: the key part of the joint bias. -/
theorem entry_bias (m : (ℓ : Loc nD τ sig) → Buf (Elt Ideal) ℓ) (c : Dev nD) (j : Fin 768) :
    entry m c main_v3 (ix2 0 j) = (m (c.tc.loc main_arg2) : FVec Ideal S2304 .f32) (ix1 ⟨768 + j.val, by omega⟩) := by
  have e : entry m c main_v3 = shapeCast S1x768 (extractStridedSlice S768 ![768] (m (c.tc.loc main_arg2) : FVec Ideal S2304 .f32)
      slices_S2304_S768_768) shapeCasts_S768_S1x768 := rfl
  rw [e]
  pointwise

/-- A batch's keys are the key projection of its rows. -/
theorem keys_are (m : (ℓ : Loc nD τ sig) → Buf (Elt Ideal) ℓ) (c : Dev nD) (b : Fin 2) (n : Fin 8192) (j : Fin 768) :
    keysOf (entry m) c b.val (ix2 n j)
      = KeysSampled.keyAt (m (c.tc.loc main_arg0)) (m (c.tc.loc main_arg1)) (m (c.tc.loc main_arg2)) b n j := by
  rw [keys_at]
  unfold KeysSampled.keyAt rowKey
  rw [entry_bias]
  exact congrArg (· + _) (Finset.sum_congr rfl fun k _ => by rw [entry_weights]; rfl)

/-! ## The one-hot product -/

/-- The one-hot product picks the key of the slot's row. -/
theorem onehot_at (col : IVec S32x1 32) (K : FVec Ideal S8192x64 .f32) (d : Fin 64) (s : Fin 32) (n : Fin 8192)
    (hn : col (ix2 s 0) = BitVec.ofNat 32 n.val) : k0_pay75 keyNo col K (ix3 0 d s) = K (ix2 n d) := by
  pointwise [k0_pay75, hn]
  have one : ∀ x : Fin 8192, FloatOps.sitofp (F := Ideal) FTy.f32 (BitVec.setWidth 32 (IntOp.cmpi CmpIPredicate.eq (BitVec.ofNat 32 x.val) (BitVec.ofNat 32 n.val)))
      = if x = n then 1 else 0 := by
    intro x
    by_cases h : x = n
    · have e : IntOp.cmpi CmpIPredicate.eq (BitVec.ofNat 32 x.val) (BitVec.ofNat 32 n.val) = 1#1 := by
        rw [h]; simp [IntOp.cmpi]
      rw [e, if_pos h]
      show (((BitVec.setWidth 32 1#1).toInt : ℝ) : EReal) = 1
      rw [show (BitVec.setWidth 32 1#1).toInt = 1 by decide]
      simp
    · have e : IntOp.cmpi CmpIPredicate.eq (BitVec.ofNat 32 x.val) (BitVec.ofNat 32 n.val) = 0#1 := by
        have hv : x.val ≠ n.val := fun q => h (Fin.ext q)
        word_cmp
      rw [e, if_neg h]
      show (((BitVec.setWidth 32 0#1).toInt : ℝ) : EReal) = 0
      rw [show (BitVec.setWidth 32 0#1).toInt = 0 by decide]
      simp
  refine (Finset.sum_eq_single n (fun x _ hx => ?_) fun h => absurd (Finset.mem_univ n) h).trans ?_
  · rw [one, if_neg hx, zero_mul]
  · rw [one, if_pos rfl, one_mul]

theorem slots_at (row : IVec S1x32 32) (s : Fin 32) : k0_pay74 row (ix3 0 0 s) = row (ix2 0 s) := by
  pointwise [k0_pay74]

theorem zero_at (d : Fin 768) (s : Fin 384) : k0_pay27 (F := Ideal) (ix3 0 d s) = 0 := by
  pointwise [k0_pay27]

/-! ## What a batch's last step leaves -/

theorem rowRect_at (h : Fin 12) (s : Fin 32) : (rowRect h.val h.isLt).emb (ix3 0 0 s) = ix3 0 h s := by
  funext a
  refine Fin.ext ?_
  match a with
  | ⟨0, _⟩ => rfl
  | ⟨1, _⟩ => exact (show h.val + 1 * 0 = h.val by omega)
  | ⟨2, _⟩ => exact (show 0 + 1 * s.val = s.val by omega)

theorem blkRect_at (h : Fin 12) (d : Fin 64) (s : Fin 32) :
    (blkRect h.val h.isLt).emb (ix3 0 d s) = ix3 0 ⟨h.val * 64 + d.val, by omega⟩ ⟨h.val * 32 + s.val, by omega⟩ := by
  funext a
  refine Fin.ext ?_
  match a with
  | ⟨0, _⟩ => rfl
  | ⟨1, _⟩ => exact (show 64 * h.val + 1 * d.val = h.val * 64 + d.val by omega)
  | ⟨2, _⟩ => exact (show 32 * h.val + 1 * s.val = h.val * 32 + s.val by omega)

theorem keyRect_at (K : S8192x768.Idx → Elt Ideal .f32) (h : Fin 12) (n : Fin 8192) (d : Fin 64) :
    View.ld K (keyRect h.val h.isLt) (ix2 n d) = K (ix2 n ⟨h.val * 64 + d.val, by omega⟩) := by
  refine congrArg K (funext fun a => Fin.ext ?_)
  match a with
  | ⟨0, _⟩ => exact (show 0 + 1 * n.val = n.val by omega)
  | ⟨1, _⟩ => exact (show 64 * h.val + 1 * d.val = h.val * 64 + d.val by omega)

/-- The block of head `g`'s channels and head `h`'s slots is outside every head's block. -/
theorem off_blocks (g h : Fin 12) (hg : g ≠ h) (d : Fin 64) (s : Fin 32) (k : ℕ) (hk : k < 12) :
    ix3 0 ⟨g.val * 64 + d.val, by omega⟩ ⟨h.val * 32 + s.val, by omega⟩ ∉ (blkRect k hk).set := by
  have hv : g.val ≠ h.val := fun q => hg (Fin.ext q)
  have hd := d.isLt
  have hs := s.isLt
  by_cases e : k = g.val
  · refine Rect.not_mem_set_of_axis _ _ (2 : Fin 3) (32 * k) 32 rfl rfl rfl ?_
    show h.val * 32 + s.val < 32 * k ∨ 32 * k + 32 ≤ h.val * 32 + s.val
    omega
  · refine Rect.not_mem_set_of_axis _ _ (1 : Fin 3) (64 * k) 64 rfl rfl rfl ?_
    show g.val * 64 + d.val < 64 * k ∨ 64 * k + 64 ≤ g.val * 64 + d.val
    omega

section Last

variable {C : Prop} {K : S8192x768.Idx → Elt Ideal .f32} {T : ℕ → IVec S1x32 32 × IVec S32x1 32} {g7 : S1x12x32.Idx → Elt Ideal .i32}
  {g8 : S1x768x384.Idx → Elt Ideal .f32} {d7 : S12x8192.Idx → Elt Ideal .f32}

/-- The row that head `h` picks for slot `s`. -/
def rowNo (T : ℕ → IVec S1x32 32 × IVec S32x1 32) (h : Fin 12) (s : Fin 32) : Fin 8192 :=
  ⟨BitVec.toNat ((T h.val).1 (ix2 0 s)) % 8192, Nat.mod_lt _ (by decide)⟩

theorem Done.row (hD : Done (Picked C) K T 12 12 g7 g8 d7) (h : Fin 12) (s : Fin 32) : (T h.val).1 (ix2 0 s) = BitVec.ofNat 32 (rowNo T h s).val := by
  have hlt := ((hD.1 h.val h.isLt h.isLt).1.1 s).2
  refine BitVec.eq_of_toNat_eq ?_
  rw [BitVec.toNat_ofNat]
  show _ = BitVec.toNat ((T h.val).1 (ix2 0 s)) % 8192 % 2 ^ 32
  omega

/-- The first result's block holds the rows picked. -/
theorem Done.rows_at (hD : Done (Picked C) K T 12 12 g7 g8 d7) (h : Fin 12) (s : Fin 32) : g7 (ix3 0 h s) = BitVec.ofNat 32 (rowNo T h s).val := by
  have e := (hD.1 h.val h.isLt h.isLt).2.1 (ix3 0 0 s)
  rw [rowRect_at] at e
  exact e.trans ((slots_at _ s).trans (hD.row h s))

/-- A head's block of the second result holds the keys of its rows. -/
theorem Done.keys_at (hD : Done (Picked C) K T 12 12 g7 g8 d7) (h : Fin 12) (d : Fin 64) (s : Fin 32) :
    g8 (ix3 0 ⟨h.val * 64 + d.val, by omega⟩ ⟨h.val * 32 + s.val, by omega⟩) = K (ix2 (rowNo T h s) ⟨h.val * 64 + d.val, by omega⟩) := by
  have e := (hD.1 h.val h.isLt h.isLt).2.2 (ix3 0 d s)
  rw [blkRect_at] at e
  refine e.trans ((onehot_at _ _ d s (rowNo T h s) ?_).trans (keyRect_at K h _ d))
  exact ((hD.1 h.val h.isLt h.isLt).1.1 s).1.symm.trans (hD.row h s)

/-- The second result is zero between different heads. -/
theorem Done.zero_off (hD : Done (Picked C) K T 12 12 g7 g8 d7) (g h : Fin 12) (hg : g ≠ h) (d : Fin 64) (s : Fin 32) :
    g8 (ix3 0 ⟨g.val * 64 + d.val, by omega⟩ ⟨h.val * 32 + s.val, by omega⟩) = 0 :=
  (hD.2.1 _ fun k hk => off_blocks g h hg d s k hk).trans (zero_at _ _)

end Last

/-! ## The results' arrays -/

section Results

variable (m : (ℓ : Loc nD τ sig) → Buf (Elt Ideal) ℓ) {C : Prop} (hpk : ∀ (c : Dev nD) (t : Fin cfg0.N), Picks (Picked C) (blkOf (entry m) c 4 t))
  (hst : ∀ (c : Dev nD) (t : Fin cfg0.N) (x : S1x12x4.Idx), BitVec.toNat ((blkOf (entry m) c 3 t : S1x12x4.Idx → Elt Ideal .i32) x) < 8192)

/-- Batch `b`'s last step. -/
def lastOf (b : Fin 2) : Fin cfg0.N := ⟨17 * b.val + 16, by show _ < 34; omega⟩

theorem last_cond (b : Fin 2) : k0_cond2 (grid0.coords (lastOf b)) = 1#1 :=
  (cond2_iff (lastOf b)).2 (by show (17 * b.val + 16) % 17 = 16; omega)

/-- The row numbers that batch `b`'s heads pick. -/
def picks (c : Dev nD) (b : Fin 2) : ℕ → IVec S1x32 32 × IVec S32x1 32 :=
  pickedAt (entry m) (Picked C) hpk hst c (lastOf b) (last_cond b)

theorem last_of (t : Fin cfg0.N) (ht : t.val % 17 = 16) : t = lastOf ⟨t.val / 17, by have h : t.val < 34 := t.isLt; omega⟩ :=
  Fin.ext (show t.val = 17 * (t.val / 17) + 16 by omega)

/-- What is left at the last step of a batch, of the batch's picks and keys. -/
theorem left_done {c : Dev nD} {b : Fin 2} {g7 : S1x12x32.Idx → Elt Ideal .i32} {g8 : S1x768x384.Idx → Elt Ideal .f32} {d : S12x8192.Idx → Elt Ideal .f32}
    (h : Left (entry m) (Picked C) hpk hst c (lastOf b) g7 g8 d) : Done (Picked C) (keysOf (entry m) c b.val) (picks m hpk hst c b) 12 12 g7 g8 d := by
  have e : (lastOf b).val / 17 = b.val := by show (17 * b.val + 16) / 17 = b.val; omega
  have hD := h (last_cond b)
  rw [e] at hD
  exact hD

/-- The rows that each batch's heads pick. -/
def rowsOf (c : Dev nD) : IVec S2x12x32 32 := fun i => BitVec.ofNat 32 (rowNo (picks m hpk hst c (i 0)) (i 1) (i 2)).val

/-- The keys of those rows, each head's in its block. -/
def blocksOf (c : Dev nD) : FVec Ideal S2x768x384 .f32 := fun i =>
  if (i 1).val / 64 = (i 2).val / 32 then
    keysOf (entry m) c (i 0).val (ix2 (rowNo (picks m hpk hst c (i 0)) ⟨(i 1).val / 64, by have h : (i 1).val < 768 := (i 1).isLt; omega⟩
      ⟨(i 2).val % 32, Nat.mod_lt _ (by decide)⟩) (i 1))
  else 0

/-- Where `C` holds, the picks of one head differ. -/
theorem Done.differ {K : S8192x768.Idx → Elt Ideal .f32} {T : ℕ → IVec S1x32 32 × IVec S32x1 32} {g7 : S1x12x32.Idx → Elt Ideal .i32}
    {g8 : S1x768x384.Idx → Elt Ideal .f32} {d7 : S12x8192.Idx → Elt Ideal .f32} (hD : Done (Picked C) K T 12 12 g7 g8 d7) (hC : C) (h : Fin 12)
    (s s' : Fin 32) (e : BitVec.ofNat 32 (rowNo T h s).val = BitVec.ofNat 32 (rowNo T h s').val) : s = s' :=
  (hD.1 h.val h.isLt h.isLt).1.2 hC s s' ((hD.row h s).trans (e.trans (hD.row h s').symm))

/-- The second result's block, at any index. -/
theorem Done.block_at {K : S8192x768.Idx → Elt Ideal .f32} {T : ℕ → IVec S1x32 32 × IVec S32x1 32} {g7 : S1x12x32.Idx → Elt Ideal .i32}
    {g8 : S1x768x384.Idx → Elt Ideal .f32} {d7 : S12x8192.Idx → Elt Ideal .f32} (hD : Done (Picked C) K T 12 12 g7 g8 d7) (j : Fin 768) (q : Fin 384) :
    g8 (ix3 0 j q) = if j.val / 64 = q.val / 32 then K (ix2 (rowNo T ⟨j.val / 64, by omega⟩ ⟨q.val % 32, by omega⟩) j) else 0 := by
  have ej : (⟨(⟨j.val / 64, by omega⟩ : Fin 12).val * 64 + (⟨j.val % 64, by omega⟩ : Fin 64).val, by show j.val / 64 * 64 + j.val % 64 < 768; omega⟩ : Fin 768) = j :=
    Fin.ext (show j.val / 64 * 64 + j.val % 64 = j.val by omega)
  have eq : ∀ h : Fin 12, h.val = q.val / 32 → ∀ p : h.val * 32 + q.val % 32 < 384, (⟨h.val * 32 + q.val % 32, p⟩ : Fin 384) = q := fun h e _ =>
    Fin.ext (show h.val * 32 + q.val % 32 = q.val by omega)
  split
  · next e =>
    have k := hD.keys_at ⟨j.val / 64, by omega⟩ ⟨j.val % 64, by omega⟩ ⟨q.val % 32, by omega⟩
    rw [ej, eq _ e] at k
    exact k
  · next e =>
    have k := hD.zero_off ⟨j.val / 64, by omega⟩ ⟨q.val / 32, by omega⟩ (fun h => e (congrArg Fin.val h)) ⟨j.val % 64, by omega⟩ ⟨q.val % 32, by omega⟩
    rw [ej, eq _ rfl] at k
    exact k

variable {r : PUnit × MemSt nD τ sig (Elt Ideal)} (hr : Pipeline.RDat.FramePost cfg0 (rdat (entry m) (Picked C) hpk hst) (entry m) r)
include hr

/-- The first result: the rows picked. -/
theorem result_rows (c : Dev nD) : r.2.mem (c.tc.loc main_v4_0) = rowsOf m hpk hst c := by
  obtain ⟨after, hL, hA⟩ := hr.exists_exact c
  refine (hA 5).trans (((rdat (entry m) (Picked C) hpk hst c).withAfter after).arrAt_eq_of_covers (5 : Fin cfg0.W) (rowsOf m hpk hst c) (by decide +kernel) fun t hf y => ?_)
  obtain ⟨g8, d, hleft⟩ := (dat (entry m) c).toRRel_leaves (w := (5 : Fin cfg0.W)) rfl (hL 5 t hf)
  obtain ⟨b, rfl⟩ : ∃ b, t = lastOf b := ⟨_, last_of t ((flush0_5 t).1 hf)⟩
  have hD := left_done m hpk hst hleft
  blk_simp
  idx_vars y
  obtain rfl : y0 = 0 := Subsingleton.elim _ _
  have hl : (lastOf b).val / 17 = b.val := by show (17 * b.val + 16) / 17 = b.val; omega
  refine (hD.rows_at y1 y2).trans ?_
  have he : rowsOf m hpk hst c (((View.whole main_v4_0).slice (win0_5.rect (lastOf b))).emb (ix3 0 y1 y2)) = rowsOf m hpk hst c (ix3 b y1 y2) := by
    blk_ext [index_of (lastOf b), hl]
  exact he.symm

/-- The second result: the keys of those rows. -/
theorem result_keys (c : Dev nD) : r.2.mem (c.tc.loc main_v4_1) = blocksOf m hpk hst c := by
  obtain ⟨after, hL, hA⟩ := hr.exists_exact c
  refine (hA 6).trans (((rdat (entry m) (Picked C) hpk hst c).withAfter after).arrAt_eq_of_covers (6 : Fin cfg0.W) (blocksOf m hpk hst c) (by decide +kernel) fun t hf y => ?_)
  obtain ⟨g7, d, hleft⟩ := (dat (entry m) c).toRRel_leaves (w := (6 : Fin cfg0.W)) rfl (hL 6 t hf)
  obtain ⟨b, rfl⟩ : ∃ b, t = lastOf b := ⟨_, last_of t ((flush0_6 t).1 hf)⟩
  have hD := left_done m hpk hst hleft
  blk_simp
  idx_vars y
  obtain rfl : y0 = 0 := Subsingleton.elim _ _
  have hl : (lastOf b).val / 17 = b.val := by show (17 * b.val + 16) / 17 = b.val; omega
  refine (hD.block_at y1 y2).trans ?_
  have he : blocksOf m hpk hst c (((View.whole main_v4_1).slice (win0_6.rect (lastOf b))).emb (ix3 0 y1 y2)) = blocksOf m hpk hst c (ix3 b y1 y2) := by
    blk_ext [index_of (lastOf b), hl]
  exact he.symm

/-- The results are the rows picked and their keys, so the postcondition holds of them. -/
theorem result_holds (c : Dev nD) :
    Post_keys_sampled.fn (F := Ideal) (m (c.tc.loc main_arg0)) (m (c.tc.loc main_arg1)) (m (c.tc.loc main_arg2)) (m (c.tc.loc main_arg3)) (m (c.tc.loc main_arg4))
      (r.2.mem (c.tc.loc main_v4_0)) (r.2.mem (c.tc.loc main_v4_1)) = fun _ => 1#1 := by
  rw [result_rows m hpk hst hr c, result_keys m hpk hst hr c]
  refine KeysSampled.holds _ _ _ _ _ _ _ (fun b h s => rowNo (picks m hpk hst c b) h s) (fun _ _ _ => rfl) (fun b h s d => ?_) fun b g h s d hg => ?_
  · unfold blocksOf
    have e1 : (h.val * 64 + d.val) / 64 = h.val := by omega
    have e2 : (h.val * 32 + s.val) / 32 = h.val := by omega
    have e3 : (h.val * 32 + s.val) % 32 = s.val := by omega
    refine (if_pos (e1.trans e2.symm)).trans ?_
    refine Eq.trans (congrArg₂ (fun (h' : Fin 12) (s' : Fin 32) => keysOf (entry m) c b.val (ix2 (rowNo (picks m hpk hst c b) h' s') ⟨h.val * 64 + d.val, by omega⟩))
      (Fin.ext e1) (Fin.ext e3)) ?_
    exact keys_are m c b _ _
  · unfold blocksOf
    refine if_neg fun e => hg (Fin.ext ?_)
    have e' : (g.val * 64 + d.val) / 64 = (h.val * 32 + s.val) / 32 := e
    omega

/-- Where `C` holds, no head's rows repeat in the first result. -/
theorem result_differ (hC : C) (c : Dev nD) (b : Fin 2) (h : Fin 12) (s s' : Fin 32)
    (e : rowsOf m hpk hst c (ix3 b h s) = rowsOf m hpk hst c (ix3 b h s')) : s = s' := by
  obtain ⟨after, hL, hA⟩ := hr.exists_exact c
  obtain ⟨g8, d, hleft⟩ := (dat (entry m) c).toRRel_leaves (w := (5 : Fin cfg0.W)) rfl
    (hL 5 (lastOf b) ((flush0_5 _).2 (show (17 * b.val + 16) % 17 = 16 by omega)))
  exact (left_done m hpk hst hleft).differ hC h s s' e

end Results

end Cert.SamplingIdeal.Kmix

namespace Cert.Starts

open Idealize.ShloMosaic Idealize.ShloMosaic.TcCoe Idealize.SL.Sem Cert.SamplingIdeal.Kmix

/-- The claim about the ideal program's results. -/
theorem sampled : holds_SamplingIdeal_keys_sampled (hSamplingIdeal := SamplingIdeal.Gen.facts) (hPre_starts := Pre_starts.Gen.facts)
    (hPost_keys_sampled := Post_keys_sampled.Gen.facts) := fun m g hp =>
  (θ_run _ _ _).mono (fun r hr c =>
      have hpk := fun (c : Dev SamplingIdeal.nD) t => picked_all False _ False.elim
      have hst := fun (c : Dev SamplingIdeal.nD) t x => rows _ _ _ _ _ (hp c) _
      let ⟨k0, k1, k2, k3, k4⟩ := args_kept (Picked False) m hpk hst hr.1 c
      ⟨k0, k1, k2, k3, k4, result_holds m hpk hst hr.1 c⟩)
    (run (Picked False) m g (fun c t => picked_all False _ False.elim) fun c t x => rows _ _ _ _ _ (hp c) _)

/-- The noise is nowhere below the bound. -/
theorem noise_least [Pre_noise_above.Facts] (x : FVec Ideal Pre_noise_above.S2x8192x768 .f32) (w : FVec Ideal Pre_noise_above.S2304x768 .f32)
    (b : FVec Ideal Pre_noise_above.S2304 .f32) (s : IVec Pre_noise_above.S2x12x4 32) (g : FVec Ideal Pre_noise_above.S2x12x8x1024 .f32)
    (h : (Pre_noise_above.fn (F := Ideal) x w b s g).2 = fun _ => 1#1) (y : Pre_noise_above.S2x12x8x1024.Idx) : Ideal.ofBits .f32 0xEFA18F08#32 ≤ g y :=
  of_decide_eq_true (ofBool_one _ (congrFun h y))

/-- The postcondition at an index. -/
theorem differ_at [Post_rows_differ.Facts] (x : FVec Ideal Post_rows_differ.S2x8192x768 .f32) (w : FVec Ideal Post_rows_differ.S2304x768 .f32)
    (b : FVec Ideal Post_rows_differ.S2304 .f32) (st : IVec Post_rows_differ.S2x12x4 32) (g : FVec Ideal Post_rows_differ.S2x12x8x1024 .f32)
    (s : IVec Post_rows_differ.S2x12x32 32) (kb : FVec Ideal Post_rows_differ.S2x768x384 .f32) (i : Fin 2) (h : Fin 12) (p q : Fin 32) :
    Post_rows_differ.fn (F := Ideal) x w b st g s kb (ix4 i h p q)
      = IntOp.ori (IntOp.cmpi .eq (BitVec.ofNat 32 p.val) (BitVec.ofNat 32 q.val)) (IntOp.cmpi .ne (s (ix3 i h p)) (s (ix3 i h q))) := by
  pointwise [Post_rows_differ.fn]

/-- The postcondition holds of rows of which no head's repeat. -/
theorem differ_holds [Post_rows_differ.Facts] (x : FVec Ideal Post_rows_differ.S2x8192x768 .f32) (w : FVec Ideal Post_rows_differ.S2304x768 .f32)
    (b : FVec Ideal Post_rows_differ.S2304 .f32) (st : IVec Post_rows_differ.S2x12x4 32) (g : FVec Ideal Post_rows_differ.S2x12x8x1024 .f32)
    (s : IVec Post_rows_differ.S2x12x32 32) (kb : FVec Ideal Post_rows_differ.S2x768x384 .f32)
    (hs : ∀ (i : Fin 2) (h : Fin 12) (p q : Fin 32), s (ix3 i h p) = s (ix3 i h q) → p = q) :
    Post_rows_differ.fn (F := Ideal) x w b st g s kb = fun _ => 1#1 := by
  funext y
  obtain ⟨i, h, p, q, rfl⟩ : ∃ i h p q, y = ix4 (n0 := 2) (n1 := 12) (n2 := 32) (n3 := 32) i h p q := ⟨y 0, y 1, y 2, y 3, (ix4_eta y).symm⟩
  refine (differ_at x w b st g s kb i h p q).trans ?_
  have hl : ∀ z : BitVec 1, IntOp.ori 1#1 z = 1#1 := by decide
  have hr : ∀ z : BitVec 1, IntOp.ori z 1#1 = 1#1 := by decide
  by_cases e : s (ix3 i h p) = s (ix3 i h q)
  · obtain rfl := hs i h p q e
    have e1 : IntOp.cmpi .eq (BitVec.ofNat 32 p.val) (BitVec.ofNat 32 p.val) = 1#1 := by simp [IntOp.cmpi]
    rw [e1, hl]
  · have e1 : IntOp.cmpi .ne (s (ix3 i h p)) (s (ix3 i h q)) = 1#1 := by
      word_cmp
      exact fun k => e (BitVec.eq_of_toNat_eq k)
    rw [e1, hr]

/-- The claim that no head picks a row twice, where the noise is bounded below. -/
theorem differ : holds_SamplingIdeal_rows_differ_pre_noise_above (hSamplingIdeal := SamplingIdeal.Gen.facts) (hPre_noise_above := Pre_noise_above.Gen.facts)
    (hPost_rows_differ := Post_rows_differ.Gen.facts) := fun m g hp =>
  (θ_run _ _ _).mono (fun r hr c =>
      have hpk := fun (c : Dev SamplingIdeal.nD) t => picked_all True _ fun _ z => noise_least _ _ _ _ _ (hp c).2 _
      have hst := fun (c : Dev SamplingIdeal.nD) t x => rows_above _ _ _ _ _ (hp c).1 _
      let ⟨k0, k1, k2, k3, k4⟩ := args_kept (Picked True) m hpk hst hr.1 c
      ⟨k0, k1, k2, k3, k4, differ_holds _ _ _ _ _ _ _ fun i h p q e => result_differ m hpk hst hr.1 trivial c i h p q (by
        rw [result_rows m hpk hst hr.1 c] at e
        exact e)⟩)
    (run (Picked True) m g (fun c t => picked_all True _ fun _ z => noise_least _ _ _ _ _ (hp c).2 _) fun c t x => rows_above _ _ _ _ _ (hp c).1 _)

end Cert.Starts

end
-- ==== Proof.lean ====
/- The claims: the kernel's frames, at the machine's floats and at the exact ones, the reference's frame, and that for
   sampled row numbers in range and a block matrix of sampled keys the two programs end with the same array; the frames of
   the program that samples the keys, that its two results are row numbers in range and the block matrix of those rows' keys, and
   that no head samples a row twice, where the noise is bounded below. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_sampled
public import proofs.«01_k».proof.Proof.Gen.Sampling
public import proofs.«01_k».proof.Proof.Gen.Sampling.Skeleton
public import proofs.«01_k».proof.Proof.Gen.Sampling.Launch
public import proofs.«01_k».proof.Proof.Gen.Sampling.Points
public import proofs.«01_k».proof.Proof.Gen.SamplingIdeal
public import proofs.«01_k».proof.Proof.Gen.SamplingIdeal.Skeleton
public import proofs.«01_k».proof.Proof.Gen.SamplingIdeal.Launch
public import proofs.«01_k».proof.Proof.Gen.SamplingIdeal.Points
public import proofs.«01_k».proof.Proof.Gen.Pre_starts
public import proofs.«01_k».proof.Proof.Gen.Pre_noise_above
public import proofs.«01_k».proof.Proof.Gen.Post_keys_sampled
public import proofs.«01_k».proof.Proof.Gen.Post_rows_differ
public import proofs.«01_k».proof.Proof.Gen.ReferenceIdeal.Run
public import proofs.«01_k».proof.Proof.Assembly
public import proofs.«01_k».proof.Proof.Sampled
public import proofs.«01_k».proof.Proof.KmixFrame
public import proofs.«01_k».proof.Proof.KmixValue
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's result, under the precondition, is the reference's. -/
theorem value (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (c : Dev KernelIdeal.nD)
    (hp : Pre_KernelIdeal_sampled (hPre_sampled := Pre_sampled.Gen.facts) m)
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (h3 : m' (c.tc.loc ReferenceIdeal.main_arg3) = m (c.tc.loc KernelIdeal.main_arg3))
    (h4 : m' (c.tc.loc ReferenceIdeal.main_arg4) = m (c.tc.loc KernelIdeal.main_arg4))
    (h5 : m' (c.tc.loc ReferenceIdeal.main_arg5) = m (c.tc.loc KernelIdeal.main_arg5))
    (h6 : m' (c.tc.loc ReferenceIdeal.main_arg6) = m (c.tc.loc KernelIdeal.main_arg6)) :
    ReferenceIdeal.Value.res_main_v46 m' c = KernelIdeal.Gen.W7 m ρ c (Proc.devRef .tc KernelIdeal.main_v83) := by
  refine Eq.trans ?_ (KernelIdeal.Value.result m ρ c).symm
  refine Eq.trans ?_ (Assembly.same _ _ _ _ _ _ _ (Sampled.rows _ _ _ _ _ _ _ (hp c)) (Sampled.keys _ _ _ _ _ _ _ (hp c))).symm
  rw [← h0, ← h1, ← h2, ← h3, ← h4, ← h5, ← h6]
  exact ReferenceIdeal.Stages.res_eq m' c

/-- The reference runs, its arguments unchanged; it declares no semaphore. -/
theorem reference_frame : quiescent_ReferenceIdeal := fun m ρ _ =>
  (θ_run ReferenceIdeal.defs _ _).mono (fun r h => ⟨fun c => (h c).2, sem_eq_zero_of_no_sems (by decide) r.2⟩) (ReferenceIdeal.Value.run (F := Ideal) m ρ)

theorem claim : Cert.Claim := ⟨Cert.Kernel.Gen.facts, Cert.KernelIdeal.Gen.facts, Cert.ReferenceIdeal.Gen.facts,
  Cert.Sampling.Gen.facts, Cert.SamplingIdeal.Gen.facts, Cert.Pre_sampled.Gen.facts, Cert.Pre_starts.Gen.facts,
  Cert.Pre_noise_above.Gen.facts, Cert.Post_keys_sampled.Gen.facts, Cert.Post_rows_differ.Gen.facts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial,
  Starts.bits, Starts.ideal, Starts.above, trivial,
  fun m ρ m' ρ' hp ha => ⟨fun c => KernelIdeal.Gen.W7 m ρ c (Proc.devRef .tc KernelIdeal.main_v83), KernelIdeal.Value.run m ρ,
    (θ_run _ _ _).mono (fun _ h c => ⟨(h c).1.trans (value m ρ m' c hp (ha c).1 (ha c).2.1 (ha c).2.2.1 (ha c).2.2.2.1 (ha c).2.2.2.2.1 (ha c).2.2.2.2.2.1 (ha c).2.2.2.2.2.2), (h c).2⟩)
      (ReferenceIdeal.Value.run m' ρ')⟩,
  trivial, Starts.sampled, Starts.differ⟩

end Cert.Proof

end
